-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_scored [hPre_scored : Cert.Pre_scored.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_scored.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_scored.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_scored.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_scored [hPre_scored : Cert.Pre_scored.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_scored.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_scored.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_scored.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_scored [hKernel5Ideal : Cert.Kernel5Ideal.Facts] [hPre_scored : Cert.Pre_scored.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_scored m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_scored [hReference5Ideal : Cert.Reference5Ideal.Facts] [hPre_scored : Cert.Pre_scored.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_scored m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v14_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_scored [hKernel5Ideal : Cert.Kernel5Ideal.Facts] [hReference5Ideal : Cert.Reference5Ideal.Facts] [hPre_scored : Cert.Pre_scored.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_scored m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v62) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_scored : Cert.Pre_scored.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_scored (hKernel5Ideal := hKernel5Ideal) (hPre_scored := hPre_scored)
    ∧ quiescent_Reference5Ideal (hReference5Ideal := hReference5Ideal)
    ∧ quiescent_Reference5Ideal_pre_scored (hReference5Ideal := hReference5Ideal) (hPre_scored := hPre_scored)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_scored (hKernel5Ideal := hKernel5Ideal) (hReference5Ideal := hReference5Ideal) (hPre_scored := hPre_scored)
    ∧ preserves_Kernel6_Kernel6Ideal
    ∧ algebraic_Kernel6Ideal_Reference6Ideal (hKernel6Ideal := hKernel6Ideal) (hReference6Ideal := hReference6Ideal)
-- ==== Pre_finite.lean ====
abbrev S16384x2048 : Shape := ⟨2, ![16384, 2048]⟩
abbrev S1024x16384 : Shape := ⟨2, ![1024, 16384]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  bcast_S_S1024x16384 : S_.BroadcastsInDim S1024x16384 (![] : Fin 0 → Fin S1024x16384.rank)
  bcast_S_S64 : S_.BroadcastsInDim S64 (![] : Fin 0 → Fin S64.rank)

variable [Facts]

def fn_part1 {F : FTy → Type} [FloatOps F] (main_v3 : IVec S16384x2048 1) (main_v7 : IVec S1024x16384 1) (main_v10 : IVec S64 1) (main_v13 : IVec S64 1) (main_v16 : IVec S64 1) (main_v17 : FVec F S64 .f32) (main_cst_4 : FVec F S_ .f32) : IVec S16384x2048 1 × IVec S1024x16384 1 × IVec S64 1 × IVec S64 1 × IVec S64 1 × IVec S64 1 :=
  let main_v18 : FVec F S64 .f32 := broadcastInDim S64 ![] bcast_S_S64 main_cst_4
  let main_v19 : IVec S64 1 := cmpf .olt main_v17 main_v18
  (main_v3, main_v7, main_v10, main_v13, main_v16, main_v19)

def fn {F : FTy → Type} [FloatOps F] (main_arg0 : FVec F S16384x2048 .bf16) (main_arg1 : FVec F S1024x16384 .bf16) (main_arg2 : FVec F S64 .f32) (main_arg3 : FVec F S64 .f32) (main_arg4 : FVec F S64 .f32) (main_arg5 : FVec F S64 .f32) (main_arg6 : FVec F S128 .f32) : IVec S16384x2048 1 × IVec S1024x16384 1 × IVec S64 1 × IVec S64 1 × IVec S64 1 × IVec S64 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S1024x16384 .f32 := (extf .f32 · bitsLt_bf16_f32) main_arg1
  let main_v5 : FVec F S1024x16384 .f32 := Host.absf main_v4
  let main_cst_0 : FVec F S_ .f32 := constant S_ .f32 0x7F800000#32
  let main_v6 : FVec F S1024x16384 .f32 := broadcastInDim S1024x16384 ![] bcast_S_S1024x16384 main_cst_0
  let main_v7 : IVec S1024x16384 1 := cmpf .olt main_v5 main_v6
  let main_v8 : FVec F S64 .f32 := Host.absf main_arg2
  let main_cst_1 : FVec F S_ .f32 := constant S_ .f32 0x7F800000#32
  let main_v9 : FVec F S64 .f32 := broadcastInDim S64 ![] bcast_S_S64 main_cst_1
  let main_v10 : IVec S64 1 := cmpf .olt main_v8 main_v9
  let main_v11 : FVec F S64 .f32 := Host.absf main_arg3
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_v14 : FVec F S64 .f32 := Host.absf main_arg4
  let main_cst_3 : FVec F S_ .f32 := constant S_ .f32 0x7F800000#32
  let main_v15 : FVec F S64 .f32 := broadcastInDim S64 ![] bcast_S_S64 main_cst_3
  let main_v16 : IVec S64 1 := cmpf .olt main_v14 main_v15
  let main_v17 : FVec F S64 .f32 := Host.absf main_arg5
  let main_cst_4 : FVec F S_ .f32 := constant S_ .f32 0x7F800000#32
  fn_part1 (F := F) main_v3 main_v7 main_v10 main_v13 main_v16 main_v17 main_cst_4
-- ==== Pre_scored.lean ====
abbrev S16384x2048 : Shape := ⟨2, ![16384, 2048]⟩
abbrev S4x2048x2048 : Shape := ⟨3, ![4, 2048, 2048]⟩
abbrev S1024x4096 : Shape := ⟨2, ![1024, 4096]⟩
abbrev S4x2048 : Shape := ⟨2, ![4, 2048]⟩
abbrev S_ : Shape := ⟨0, ![]⟩
abbrev S1x2048x2048 : Shape := ⟨3, ![1, 2048, 2048]⟩
abbrev S2048x2048 : Shape := ⟨2, ![2048, 2048]⟩
abbrev S1024x2048 : Shape := ⟨2, ![1024, 2048]⟩

class Facts : Prop where
  bitsLt_bf16_f32 : FTy.bits .bf16 < FTy.bits .f32
  bcast_S_S16384x2048 : S_.BroadcastsInDim S16384x2048 (![] : Fin 0 → Fin S16384x2048.rank)
  slices_S4x2048x2048_S1x2048x2048_0_0_0 : S4x2048x2048.Slices ![0, 0, 0] S1x2048x2048
  shapeCasts_S1x2048x2048_S2048x2048 : S1x2048x2048.ShapeCasts S2048x2048
  bcast_S_S2048x2048 : S_.BroadcastsInDim S2048x2048 (![] : Fin 0 → Fin S2048x2048.rank)
  slices_S1024x4096_S1024x2048_0_0 : S1024x4096.Slices ![0, 0] S1024x2048
  bcast_S_S1024x2048 : S_.BroadcastsInDim S1024x2048 (![] : Fin 0 → Fin S1024x2048.rank)

variable [Facts]

def fn {F : FTy → Type} [FloatOps F] (main_arg0 : FVec F S16384x2048 .bf16) (main_arg1 : FVec F S4x2048x2048 .f32) (main_arg2 : FVec F S1024x4096 .bf16) (main_arg3 : FVec F S4x2048x2048 .f32) (main_arg4 : FVec F S16384x2048 .f32) (main_arg5 : FVec F S4x2048 .f32) (main_arg6 : FVec F S4x2048 .f32) : IVec S16384x2048 1 × IVec S2048x2048 1 × IVec S1024x2048 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S1x2048x2048 .f32 := (extractStridedSlice S1x2048x2048 ![0, 0, 0] · slices_S4x2048x2048_S1x2048x2048_0_0_0) main_arg1
  let main_v5 : FVec F S2048x2048 .f32 := shapeCast S2048x2048 main_v4 shapeCasts_S1x2048x2048_S2048x2048
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_v9 : FVec F S1024x2048 .bf16 := (extractStridedSlice S1024x2048 ![0, 0] · slices_S1024x4096_S1024x2048_0_0) main_arg2
  let main_v10 : FVec F S1024x2048 .f32 := (extf .f32 · bitsLt_bf16_f32) main_v9
  let main_v11 : FVec F S1024x2048 .f32 := Host.absf main_v10
  let main_cst_1 : FVec F S_ .f32 := constant S_ .f32 0x7F800000#32
  let main_v12 : FVec F S1024x2048 .f32 := broadcastInDim S1024x2048 ![] bcast_S_S1024x2048 main_cst_1
  let main_v13 : IVec S1024x2048 1 := cmpf .olt main_v11 main_v12
  (main_v3, main_v8, main_v13)
-- ==== Kernel.lean ====
abbrev S16384x2048 : Shape := ⟨2, ![16384, 2048]⟩
abbrev S1024x16384 : Shape := ⟨2, ![1024, 16384]⟩
abbrev S64 : Shape := ⟨1, ![64]⟩
abbrev S128 : Shape := ⟨1, ![128]⟩
abbrev S1x64 : Shape := ⟨2, ![1, 64]⟩
abbrev S4x64 : Shape := ⟨2, ![4, 64]⟩
abbrev S128x1 : Shape := ⟨2, ![128, 1]⟩
abbrev S16384x1024 : Shape := ⟨2, ![16384, 1024]⟩
abbrev S512x256 : Shape := ⟨2, ![512, 256]⟩
abbrev S4096x256 : Shape := ⟨2, ![4096, 256]⟩
abbrev S256x4096 : Shape := ⟨2, ![256, 4096]⟩
abbrev S1 : Shape := ⟨1, ![1]⟩
abbrev S1x1 : Shape := ⟨2, ![1, 1]⟩
abbrev S512x128 : Shape := ⟨2, ![512, 128]⟩
abbrev S512x512 : Shape := ⟨2, ![512, 512]⟩
abbrev S1x512 : Shape := ⟨2, ![1, 512]⟩
abbrev S128x512 : Shape := ⟨2, ![128, 512]⟩
abbrev S512 : Shape := ⟨1, ![512]⟩

abbrev nBuf : Space → Nat
  | .hbm => 14
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S1024x16384, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S4x64, .f32⟩
  | .hbm, ⟨12, _⟩ => ⟨S128x1, .f32⟩
  | .hbm, ⟨13, _⟩ => ⟨S16384x1024, .bf16⟩
  | .local _ .vmem, ⟨0, _⟩ => ⟨S4x64, .f32⟩
  | .local _ .vmem, ⟨1, _⟩ => ⟨S512x256, .bf16⟩
  | .local _ .vmem, ⟨2, _⟩ => ⟨S512x256, .bf16⟩
  | .local _ .vmem, ⟨3, _⟩ => ⟨S4096x256, .bf16⟩
  | .local _ .vmem, ⟨4, _⟩ => ⟨S4096x256, .bf16⟩
  | .local _ .vmem, ⟨5, _⟩ => ⟨S256x4096, .bf16⟩
  | .local _ .vmem, ⟨6, _⟩ => ⟨S256x4096, .bf16⟩
  | .local _ .vmem, ⟨7, _⟩ => ⟨S128x1, .f32⟩
  | .local _ .vmem, ⟨8, _⟩ => ⟨S512x256, .bf16⟩
  | .local _ .vmem, ⟨9, _⟩ => ⟨S512x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_36 : BitVec 32 := 1#32
  ⟨c0_i32_34, v110, c1_i32_36⟩
def k0_mult1 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let c0_i32_72 : BitVec 32 := 0#32
  let v199 : BitVec 32 := Scalar.addi v198 c0_i32_72
  let c512_i32 : BitVec 32 := 512#32
  let v202 : BitVec 32 := Scalar.muli v199 c512_i32
  v202
def k0_off1 (i : grid0.Coords) (k0_t1 : Fin (k0_t1_loop i).trips) (c0_i32_72 : BitVec 32) : Fin 2 → Nat :=
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let v199 : BitVec 32 := Scalar.addi v198 c0_i32_72
  let c512_i32 : BitVec 32 := 512#32
  let v202 : BitVec 32 := Scalar.muli v199 c512_i32
  let v203 : BitVec 32 := v202
  let v204 : Index := Scalar.indexCast v203
  let c0_75 : Index := 0#32
  ![v204.toNat, 0]
def k0_mult2 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let c0_i32_72 : BitVec 32 := 0#32
  let v199 : BitVec 32 := Scalar.addi v198 c0_i32_72
  let c512_i32_77 : BitVec 32 := 512#32
  let v207 : BitVec 32 := Scalar.muli v199 c512_i32_77
  v207
def k0_mult3 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let c0_i32_72 : BitVec 32 := 0#32
  let v199 : BitVec 32 := Scalar.addi v198 c0_i32_72
  let c512_i32_80 : BitVec 32 := 512#32
  let v212 : BitVec 32 := Scalar.muli v199 c512_i32_80
  v212
def k0_off2 (i : grid0.Coords) (k0_t1 : Fin (k0_t1_loop i).trips) (c0_i32_72 : BitVec 32) : Fin 2 → Nat :=
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let v199 : BitVec 32 := Scalar.addi v198 c0_i32_72
  let c512_i32_80 : BitVec 32 := 512#32
  let v212 : BitVec 32 := Scalar.muli v199 c512_i32_80
  let v213 : BitVec 32 := v212
  let v214 : Index := Scalar.indexCast v213
  let c128_81 : Index := 128#32
  ![v214.toNat, 128]
def k0_mult4 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let c0_i32_72 : BitVec 32 := 0#32
  let v199 : BitVec 32 := Scalar.addi v198 c0_i32_72
  let c512_i32_83 : BitVec 32 := 512#32
  let v217 : BitVec 32 := Scalar.muli v199 c512_i32_83
  v217
def k0_mult5 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_73 : BitVec 32 := 2#32
  let v200 : BitVec 32 := Scalar.muli arg9 c2_i32_73
  let c1_i32_74 : BitVec 32 := 1#32
  let v201 : BitVec 32 := Scalar.addi v200 c1_i32_74
  let c512_i32_86 : BitVec 32 := 512#32
  let v222 : BitVec 32 := Scalar.muli v201 c512_i32_86
  v222
def k0_mult6 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_73 : BitVec 32 := 2#32
  let v200 : BitVec 32 := Scalar.muli arg9 c2_i32_73
  let c1_i32_74 : BitVec 32 := 1#32
  let v201 : BitVec 32 := Scalar.addi v200 c1_i32_74
  let c512_i32_89 : BitVec 32 := 512#32
  let v227 : BitVec 32 := Scalar.muli v201 c512_i32_89
  v227
def k0_mult7 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_73 : BitVec 32 := 2#32
  let v200 : BitVec 32 := Scalar.muli arg9 c2_i32_73
  let c1_i32_74 : BitVec 32 := 1#32
  let v201 : BitVec 32 := Scalar.addi v200 c1_i32_74
  let c512_i32_92 : BitVec 32 := 512#32
  let v232 : BitVec 32 := Scalar.muli v201 c512_i32_92
  v232
def k0_mult8 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_73 : BitVec 32 := 2#32
  let v200 : BitVec 32 := Scalar.muli arg9 c2_i32_73
  let c1_i32_74 : BitVec 32 := 1#32
  let v201 : BitVec 32 := Scalar.addi v200 c1_i32_74
  let c512_i32_95 : BitVec 32 := 512#32
  let v237 : BitVec 32 := Scalar.muli v201 c512_i32_95
  v237
def k0_mult9 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let c0_i32_72 : BitVec 32 := 0#32
  let v199 : BitVec 32 := Scalar.addi v198 c0_i32_72
  let c512_i32_100 : BitVec 32 := 512#32
  let v256 : BitVec 32 := Scalar.muli v199 c512_i32_100
  v256
def k0_off3 (i : grid0.Coords) (k0_t1 : Fin (k0_t1_loop i).trips) (c0_i32_72 : BitVec 32) : Fin 2 → Nat :=
  let c0_101 : Index := 0#32
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let v199 : BitVec 32 := Scalar.addi v198 c0_i32_72
  let c512_i32_100 : BitVec 32 := 512#32
  let v256 : BitVec 32 := Scalar.muli v199 c512_i32_100
  let v257 : BitVec 32 := v256
  let v258 : Index := Scalar.indexCast v257
  ![0, v258.toNat]
def k0_mult10 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let c0_i32_72 : BitVec 32 := 0#32
  let v199 : BitVec 32 := Scalar.addi v198 c0_i32_72
  let c512_i32_105 : BitVec 32 := 512#32
  let v277 : BitVec 32 := Scalar.muli v199 c512_i32_105
  v277
def k0_mult11 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let c0_i32_72 : BitVec 32 := 0#32
  let v199 : BitVec 32 := Scalar.addi v198 c0_i32_72
  let c512_i32_110 : BitVec 32 := 512#32
  let v298 : BitVec 32 := Scalar.muli v199 c512_i32_110
  v298
def k0_off4 (i : grid0.Coords) (k0_t1 : Fin (k0_t1_loop i).trips) (c0_i32_72 : BitVec 32) : Fin 2 → Nat :=
  let c128_111 : Index := 128#32
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let v199 : BitVec 32 := Scalar.addi v198 c0_i32_72
  let c512_i32_110 : BitVec 32 := 512#32
  let v298 : BitVec 32 := Scalar.muli v199 c512_i32_110
  let v299 : BitVec 32 := v298
  let v300 : Index := Scalar.indexCast v299
  ![128, v300.toNat]
def k0_mult12 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_71 : BitVec 32 := 2#32
  let v198 : BitVec 32 := Scalar.muli arg9 c2_i32_71
  let c0_i32_72 : BitVec 32 := 0#32
  let v199 : BitVec 32 := Scalar.addi v198 c0_i32_72
  let c512_i32_115 : BitVec 32 := 512#32
  let v319 : BitVec 32 := Scalar.muli v199 c512_i32_115
  v319
def k0_mult13 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_73 : BitVec 32 := 2#32
  let v200 : BitVec 32 := Scalar.muli arg9 c2_i32_73
  let c1_i32_74 : BitVec 32 := 1#32
  let v201 : BitVec 32 := Scalar.addi v200 c1_i32_74
  let c512_i32_120 : BitVec 32 := 512#32
  let v340 : BitVec 32 := Scalar.muli v201 c512_i32_120
  v340
def k0_mult14 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_73 : BitVec 32 := 2#32
  let v200 : BitVec 32 := Scalar.muli arg9 c2_i32_73
  let c1_i32_74 : BitVec 32 := 1#32
  let v201 : BitVec 32 := Scalar.addi v200 c1_i32_74
  let c512_i32_125 : BitVec 32 := 512#32
  let v361 : BitVec 32 := Scalar.muli v201 c512_i32_125
  v361
def k0_mult15 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_73 : BitVec 32 := 2#32
  let v200 : BitVec 32 := Scalar.muli arg9 c2_i32_73
  let c1_i32_74 : BitVec 32 := 1#32
  let v201 : BitVec 32 := Scalar.addi v200 c1_i32_74
  let c512_i32_130 : BitVec 32 := 512#32
  let v382 : BitVec 32 := Scalar.muli v201 c512_i32_130
  v382
def k0_mult16 (i : grid0.Coords) (k0_t1 : Fin (k0_t1_loop i).trips) : BitVec 32 :=
  let c0_i32_34 : BitVec 32 := 0#32
  let c1_i32_36 : BitVec 32 := 1#32
  let arg9 : BitVec 32 := Scf.iv c0_i32_34 c1_i32_36 k0_t1
  let c2_i32_73 : BitVec 32 := 2#32
  let v200 : BitVec 32 := Scalar.muli arg9 c2_i32_73
  let c1_i32_74 : BitVec 32 := 1#32
  let v201 : BitVec 32 := Scalar.addi v200 c1_i32_74
  let c512_i32_135 : BitVec 32 := 512#32
  let v403 : BitVec 32 := Scalar.muli v201 c512_i32_135
  v403
@[reducible] def k0_t2_loop (i : grid0.Coords) : Scf.Loop 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let v107 : BitVec 32 := Scalar.addi c0_i32_34 v106
  let c1_i32_37 : BitVec 32 := 1#32
  ⟨v110, v107, c1_i32_37⟩
def k0_mult17 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let c0_i32_72 : BitVec 32 := 0#32
  let v199 : BitVec 32 := Scalar.addi v198 c0_i32_72
  let c512_i32 : BitVec 32 := 512#32
  let v202 : BitVec 32 := Scalar.muli v199 c512_i32
  v202
def k0_off5 (i : grid0.Coords) (k0_t2 : Fin (k0_t2_loop i).trips) (c0_i32_72 : BitVec 32) : Fin 2 → Nat :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let v199 : BitVec 32 := Scalar.addi v198 c0_i32_72
  let c512_i32 : BitVec 32 := 512#32
  let v202 : BitVec 32 := Scalar.muli v199 c512_i32
  let v203 : BitVec 32 := v202
  let v204 : Index := Scalar.indexCast v203
  let c0_75 : Index := 0#32
  ![v204.toNat, 0]
def k0_mult18 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let c0_i32_72 : BitVec 32 := 0#32
  let v199 : BitVec 32 := Scalar.addi v198 c0_i32_72
  let c512_i32_77 : BitVec 32 := 512#32
  let v207 : BitVec 32 := Scalar.muli v199 c512_i32_77
  v207
def k0_mult19 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let c0_i32_72 : BitVec 32 := 0#32
  let v199 : BitVec 32 := Scalar.addi v198 c0_i32_72
  let c512_i32_80 : BitVec 32 := 512#32
  let v212 : BitVec 32 := Scalar.muli v199 c512_i32_80
  v212
def k0_off6 (i : grid0.Coords) (k0_t2 : Fin (k0_t2_loop i).trips) (c0_i32_72 : BitVec 32) : Fin 2 → Nat :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let v199 : BitVec 32 := Scalar.addi v198 c0_i32_72
  let c512_i32_80 : BitVec 32 := 512#32
  let v212 : BitVec 32 := Scalar.muli v199 c512_i32_80
  let v213 : BitVec 32 := v212
  let v214 : Index := Scalar.indexCast v213
  let c128_81 : Index := 128#32
  ![v214.toNat, 128]
def k0_mult20 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let c0_i32_72 : BitVec 32 := 0#32
  let v199 : BitVec 32 := Scalar.addi v198 c0_i32_72
  let c512_i32_83 : BitVec 32 := 512#32
  let v217 : BitVec 32 := Scalar.muli v199 c512_i32_83
  v217
def k0_mult21 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_73 : BitVec 32 := 2#32
  let v200 : BitVec 32 := Scalar.muli arg9 c2_i32_73
  let c1_i32_74 : BitVec 32 := 1#32
  let v201 : BitVec 32 := Scalar.addi v200 c1_i32_74
  let c512_i32_86 : BitVec 32 := 512#32
  let v222 : BitVec 32 := Scalar.muli v201 c512_i32_86
  v222
def k0_mult22 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_73 : BitVec 32 := 2#32
  let v200 : BitVec 32 := Scalar.muli arg9 c2_i32_73
  let c1_i32_74 : BitVec 32 := 1#32
  let v201 : BitVec 32 := Scalar.addi v200 c1_i32_74
  let c512_i32_89 : BitVec 32 := 512#32
  let v227 : BitVec 32 := Scalar.muli v201 c512_i32_89
  v227
def k0_mult23 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_73 : BitVec 32 := 2#32
  let v200 : BitVec 32 := Scalar.muli arg9 c2_i32_73
  let c1_i32_74 : BitVec 32 := 1#32
  let v201 : BitVec 32 := Scalar.addi v200 c1_i32_74
  let c512_i32_92 : BitVec 32 := 512#32
  let v232 : BitVec 32 := Scalar.muli v201 c512_i32_92
  v232
def k0_mult24 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_73 : BitVec 32 := 2#32
  let v200 : BitVec 32 := Scalar.muli arg9 c2_i32_73
  let c1_i32_74 : BitVec 32 := 1#32
  let v201 : BitVec 32 := Scalar.addi v200 c1_i32_74
  let c512_i32_95 : BitVec 32 := 512#32
  let v237 : BitVec 32 := Scalar.muli v201 c512_i32_95
  v237
def k0_mult25 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let c0_i32_72 : BitVec 32 := 0#32
  let v199 : BitVec 32 := Scalar.addi v198 c0_i32_72
  let c512_i32_100 : BitVec 32 := 512#32
  let v256 : BitVec 32 := Scalar.muli v199 c512_i32_100
  v256
def k0_off7 (i : grid0.Coords) (k0_t2 : Fin (k0_t2_loop i).trips) (c0_i32_72 : BitVec 32) : Fin 2 → Nat :=
  let c0_101 : Index := 0#32
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let v199 : BitVec 32 := Scalar.addi v198 c0_i32_72
  let c512_i32_100 : BitVec 32 := 512#32
  let v256 : BitVec 32 := Scalar.muli v199 c512_i32_100
  let v257 : BitVec 32 := v256
  let v258 : Index := Scalar.indexCast v257
  ![0, v258.toNat]
def k0_mult26 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let c0_i32_72 : BitVec 32 := 0#32
  let v199 : BitVec 32 := Scalar.addi v198 c0_i32_72
  let c512_i32_105 : BitVec 32 := 512#32
  let v277 : BitVec 32 := Scalar.muli v199 c512_i32_105
  v277
def k0_mult27 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let c0_i32_72 : BitVec 32 := 0#32
  let v199 : BitVec 32 := Scalar.addi v198 c0_i32_72
  let c512_i32_110 : BitVec 32 := 512#32
  let v298 : BitVec 32 := Scalar.muli v199 c512_i32_110
  v298
def k0_off8 (i : grid0.Coords) (k0_t2 : Fin (k0_t2_loop i).trips) (c0_i32_72 : BitVec 32) : Fin 2 → Nat :=
  let c128_111 : Index := 128#32
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let v199 : BitVec 32 := Scalar.addi v198 c0_i32_72
  let c512_i32_110 : BitVec 32 := 512#32
  let v298 : BitVec 32 := Scalar.muli v199 c512_i32_110
  let v299 : BitVec 32 := v298
  let v300 : Index := Scalar.indexCast v299
  ![128, v300.toNat]
def k0_mult28 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_71 : BitVec 32 := 2#32
  let v198 : BitVec 32 := Scalar.muli arg9 c2_i32_71
  let c0_i32_72 : BitVec 32 := 0#32
  let v199 : BitVec 32 := Scalar.addi v198 c0_i32_72
  let c512_i32_115 : BitVec 32 := 512#32
  let v319 : BitVec 32 := Scalar.muli v199 c512_i32_115
  v319
def k0_mult29 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_73 : BitVec 32 := 2#32
  let v200 : BitVec 32 := Scalar.muli arg9 c2_i32_73
  let c1_i32_74 : BitVec 32 := 1#32
  let v201 : BitVec 32 := Scalar.addi v200 c1_i32_74
  let c512_i32_120 : BitVec 32 := 512#32
  let v340 : BitVec 32 := Scalar.muli v201 c512_i32_120
  v340
def k0_mult30 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_73 : BitVec 32 := 2#32
  let v200 : BitVec 32 := Scalar.muli arg9 c2_i32_73
  let c1_i32_74 : BitVec 32 := 1#32
  let v201 : BitVec 32 := Scalar.addi v200 c1_i32_74
  let c512_i32_125 : BitVec 32 := 512#32
  let v361 : BitVec 32 := Scalar.muli v201 c512_i32_125
  v361
def k0_mult31 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_73 : BitVec 32 := 2#32
  let v200 : BitVec 32 := Scalar.muli arg9 c2_i32_73
  let c1_i32_74 : BitVec 32 := 1#32
  let v201 : BitVec 32 := Scalar.addi v200 c1_i32_74
  let c512_i32_130 : BitVec 32 := 512#32
  let v382 : BitVec 32 := Scalar.muli v201 c512_i32_130
  v382
def k0_mult32 (i : grid0.Coords) (k0_t2 : Fin (k0_t2_loop i).trips) : BitVec 32 :=
  let c0_i32_34 : BitVec 32 := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_33 : BitVec 32 := 1#32
  let v105 : BitVec 32 := Scalar.subi v104 c1_i32_33
  let v106 : BitVec 32 := Scalar.subi v105 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg9 : BitVec 32 := Scf.iv v110 c1_i32_37 k0_t2
  let c2_i32_73 : BitVec 32 := 2#32
  let v200 : BitVec 32 := Scalar.muli arg9 c2_i32_73
  let c1_i32_74 : BitVec 32 := 1#32
  let v201 : BitVec 32 := Scalar.addi v200 c1_i32_74
  let c512_i32_135 : BitVec 32 := 512#32
  let v403 : BitVec 32 := Scalar.muli v201 c512_i32_135
  v403
def k0_cond1 (i : grid0.Coords) : BitVec 1 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_38 : BitVec 32 := 1#32
  let v113 : BitVec 32 := Scalar.subi v104 c1_i32_38
  let c2_i32_39 : BitVec 32 := 2#32
  let v114 : BitVec 32 := Scalar.muli v113 c2_i32_39
  let v115 : BitVec 32 := Scalar.subi v85 v114
  let c0_i32_41 : BitVec 32 := 0#32
  let v117 : BitVec 1 := Scalar.cmpi .sgt v115 c0_i32_41
  let v118 : BitVec 32 := Scalar.extui v117
  let c0_i32_42 : BitVec 32 := 0#32
  let v119 : BitVec 1 := Scalar.cmpi .slt v115 c0_i32_42
  let v120 : BitVec 32 := Scalar.extui v119
  let v121 : BitVec 32 := Scalar.subi v118 v120
  let c1_i32_40 : BitVec 32 := 1#32
  let c0_i32_43 : BitVec 32 := 0#32
  let v122 : BitVec 1 := Scalar.cmpi .sgt c1_i32_40 c0_i32_43
  let v123 : BitVec 32 := Scalar.extui v122
  let c0_i32_44 : BitVec 32 := 0#32
  let v124 : BitVec 1 := Scalar.cmpi .slt c1_i32_40 c0_i32_44
  let v125 : BitVec 32 := Scalar.extui v124
  let v126 : BitVec 32 := Scalar.subi v123 v125
  let v127 : BitVec 1 := Scalar.cmpi .ne v121 v126
  let v128 : BitVec 32 := Scalar.remsi v115 c1_i32_40
  let c0_i32_45 : BitVec 32 := 0#32
  let v129 : BitVec 1 := Scalar.cmpi .ne v128 c0_i32_45
  let v130 : BitVec 1 := Scalar.andi v127 v129
  let v116 : BitVec 32 := Scalar.divsi v115 c1_i32_40
  let c1_i32_46 : BitVec 32 := 1#32
  let v131 : BitVec 32 := Scalar.subi v116 c1_i32_46
  let v132 : BitVec 32 := Scalar.select v130 v131 v116
  let c1_i32_47 : BitVec 32 := 1#32
  let v133 : BitVec 32 := Scalar.subi v132 c1_i32_47
  let c0_i32_48 : BitVec 32 := 0#32
  let v134 : BitVec 32 := Scalar.maxsi v133 c0_i32_48
  let c1_i32_49 : BitVec 32 := 1#32
  let v135 : BitVec 32 := Scalar.minsi v134 c1_i32_49
  let c0_i32_50 : BitVec 32 := 0#32
  let v136 : BitVec 1 := Scalar.cmpi .ne v135 c0_i32_50
  v136

def k0_mult33 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32 : BitVec 32 := 512#32
  let v203 : BitVec 32 := Scalar.muli v200 c512_i32
  v203
def k0_off9 (i : grid0.Coords) (c0_i32_73 : BitVec 32) : Fin 2 → Nat :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let v200 : BitVec 32 := Scalar.addi v199 c0_i32_73
  let c512_i32 : BitVec 32 := 512#32
  let v203 : BitVec 32 := Scalar.muli v200 c512_i32
  let v204 : BitVec 32 := v203
  let v205 : Index := Scalar.indexCast v204
  let c0_76 : Index := 0#32
  ![v205.toNat, 0]
def k0_mult34 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_78 : BitVec 32 := 512#32
  let v208 : BitVec 32 := Scalar.muli v200 c512_i32_78
  v208
def k0_mult35 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_81 : BitVec 32 := 512#32
  let v213 : BitVec 32 := Scalar.muli v200 c512_i32_81
  v213
def k0_off10 (i : grid0.Coords) (c0_i32_73 : BitVec 32) : Fin 2 → Nat :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let v200 : BitVec 32 := Scalar.addi v199 c0_i32_73
  let c512_i32_81 : BitVec 32 := 512#32
  let v213 : BitVec 32 := Scalar.muli v200 c512_i32_81
  let v214 : BitVec 32 := v213
  let v215 : Index := Scalar.indexCast v214
  let c128_82 : Index := 128#32
  ![v215.toNat, 128]
def k0_mult36 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_84 : BitVec 32 := 512#32
  let v218 : BitVec 32 := Scalar.muli v200 c512_i32_84
  v218
def k0_mult37 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_74 : BitVec 32 := 2#32
  let v201 : BitVec 32 := Scalar.muli v198 c2_i32_74
  let c1_i32_75 : BitVec 32 := 1#32
  let v202 : BitVec 32 := Scalar.addi v201 c1_i32_75
  let c512_i32_87 : BitVec 32 := 512#32
  let v223 : BitVec 32 := Scalar.muli v202 c512_i32_87
  v223
def k0_mult38 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_74 : BitVec 32 := 2#32
  let v201 : BitVec 32 := Scalar.muli v198 c2_i32_74
  let c1_i32_75 : BitVec 32 := 1#32
  let v202 : BitVec 32 := Scalar.addi v201 c1_i32_75
  let c512_i32_90 : BitVec 32 := 512#32
  let v228 : BitVec 32 := Scalar.muli v202 c512_i32_90
  v228
def k0_mult39 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_74 : BitVec 32 := 2#32
  let v201 : BitVec 32 := Scalar.muli v198 c2_i32_74
  let c1_i32_75 : BitVec 32 := 1#32
  let v202 : BitVec 32 := Scalar.addi v201 c1_i32_75
  let c512_i32_93 : BitVec 32 := 512#32
  let v233 : BitVec 32 := Scalar.muli v202 c512_i32_93
  v233
def k0_mult40 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_74 : BitVec 32 := 2#32
  let v201 : BitVec 32 := Scalar.muli v198 c2_i32_74
  let c1_i32_75 : BitVec 32 := 1#32
  let v202 : BitVec 32 := Scalar.addi v201 c1_i32_75
  let c512_i32_96 : BitVec 32 := 512#32
  let v238 : BitVec 32 := Scalar.muli v202 c512_i32_96
  v238
def k0_mult41 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_101 : BitVec 32 := 512#32
  let v257 : BitVec 32 := Scalar.muli v200 c512_i32_101
  v257
def k0_off11 (i : grid0.Coords) (c0_i32_73 : BitVec 32) : Fin 2 → Nat :=
  let c0_102 : Index := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let v200 : BitVec 32 := Scalar.addi v199 c0_i32_73
  let c512_i32_101 : BitVec 32 := 512#32
  let v257 : BitVec 32 := Scalar.muli v200 c512_i32_101
  let v258 : BitVec 32 := v257
  let v259 : Index := Scalar.indexCast v258
  ![0, v259.toNat]
def k0_mult42 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_106 : BitVec 32 := 512#32
  let v278 : BitVec 32 := Scalar.muli v200 c512_i32_106
  v278
def k0_mult43 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_111 : BitVec 32 := 512#32
  let v299 : BitVec 32 := Scalar.muli v200 c512_i32_111
  v299
def k0_off12 (i : grid0.Coords) (c0_i32_73 : BitVec 32) : Fin 2 → Nat :=
  let c128_112 : Index := 128#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let v200 : BitVec 32 := Scalar.addi v199 c0_i32_73
  let c512_i32_111 : BitVec 32 := 512#32
  let v299 : BitVec 32 := Scalar.muli v200 c512_i32_111
  let v300 : BitVec 32 := v299
  let v301 : Index := Scalar.indexCast v300
  ![128, v301.toNat]
def k0_mult44 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_116 : BitVec 32 := 512#32
  let v320 : BitVec 32 := Scalar.muli v200 c512_i32_116
  v320
def k0_mult45 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_74 : BitVec 32 := 2#32
  let v201 : BitVec 32 := Scalar.muli v198 c2_i32_74
  let c1_i32_75 : BitVec 32 := 1#32
  let v202 : BitVec 32 := Scalar.addi v201 c1_i32_75
  let c512_i32_123 : BitVec 32 := 512#32
  let v345 : BitVec 32 := Scalar.muli v202 c512_i32_123
  v345
def k0_mult46 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_74 : BitVec 32 := 2#32
  let v201 : BitVec 32 := Scalar.muli v198 c2_i32_74
  let c1_i32_75 : BitVec 32 := 1#32
  let v202 : BitVec 32 := Scalar.addi v201 c1_i32_75
  let c512_i32_130 : BitVec 32 := 512#32
  let v370 : BitVec 32 := Scalar.muli v202 c512_i32_130
  v370
def k0_mult47 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_74 : BitVec 32 := 2#32
  let v201 : BitVec 32 := Scalar.muli v198 c2_i32_74
  let c1_i32_75 : BitVec 32 := 1#32
  let v202 : BitVec 32 := Scalar.addi v201 c1_i32_75
  let c512_i32_137 : BitVec 32 := 512#32
  let v395 : BitVec 32 := Scalar.muli v202 c512_i32_137
  v395
def k0_mult48 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_74 : BitVec 32 := 2#32
  let v201 : BitVec 32 := Scalar.muli v198 c2_i32_74
  let c1_i32_75 : BitVec 32 := 1#32
  let v202 : BitVec 32 := Scalar.addi v201 c1_i32_75
  let c512_i32_144 : BitVec 32 := 512#32
  let v420 : BitVec 32 := Scalar.muli v202 c512_i32_144
  v420
def k0_mult49 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32 : BitVec 32 := 512#32
  let v201 : BitVec 32 := Scalar.muli v200 c512_i32
  v201
def k0_off13 (i : grid0.Coords) : Fin 2 → Nat :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32 : BitVec 32 := 512#32
  let v201 : BitVec 32 := Scalar.muli v200 c512_i32
  let v202 : BitVec 32 := v201
  let v203 : Index := Scalar.indexCast v202
  let c0_74 : Index := 0#32
  ![v203.toNat, 0]
def k0_mult50 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_76 : BitVec 32 := 512#32
  let v206 : BitVec 32 := Scalar.muli v200 c512_i32_76
  v206
def k0_mult51 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_79 : BitVec 32 := 512#32
  let v211 : BitVec 32 := Scalar.muli v200 c512_i32_79
  v211
def k0_off14 (i : grid0.Coords) : Fin 2 → Nat :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_79 : BitVec 32 := 512#32
  let v211 : BitVec 32 := Scalar.muli v200 c512_i32_79
  let v212 : BitVec 32 := v211
  let v213 : Index := Scalar.indexCast v212
  let c128_80 : Index := 128#32
  ![v213.toNat, 128]
def k0_mult52 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_82 : BitVec 32 := 512#32
  let v216 : BitVec 32 := Scalar.muli v200 c512_i32_82
  v216
def k0_mult53 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_89 : BitVec 32 := 512#32
  let v239 : BitVec 32 := Scalar.muli v200 c512_i32_89
  v239
def k0_off15 (i : grid0.Coords) : Fin 2 → Nat :=
  let c0_90 : Index := 0#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_89 : BitVec 32 := 512#32
  let v239 : BitVec 32 := Scalar.muli v200 c512_i32_89
  let v240 : BitVec 32 := v239
  let v241 : Index := Scalar.indexCast v240
  ![0, v241.toNat]
def k0_mult54 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_96 : BitVec 32 := 512#32
  let v264 : BitVec 32 := Scalar.muli v200 c512_i32_96
  v264
def k0_mult55 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_103 : BitVec 32 := 512#32
  let v289 : BitVec 32 := Scalar.muli v200 c512_i32_103
  v289
def k0_off16 (i : grid0.Coords) : Fin 2 → Nat :=
  let c128_104 : Index := 128#32
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_103 : BitVec 32 := 512#32
  let v289 : BitVec 32 := Scalar.muli v200 c512_i32_103
  let v290 : BitVec 32 := v289
  let v291 : Index := Scalar.indexCast v290
  ![128, v291.toNat]
def k0_mult56 (i : grid0.Coords) : BitVec 32 :=
  let arg2 : BitVec 32 := BitVec.ofNat 32 (i 2).val
  let c1_i32_23 : BitVec 32 := 1#32
  let v84 : BitVec 32 := Scalar.addi arg2 c1_i32_23
  let c1_i32_24 : BitVec 32 := 1#32
  let v85 : BitVec 32 := Scalar.muli v84 c1_i32_24
  let c2_i32 : BitVec 32 := 2#32
  let v86 : BitVec 32 := Scalar.addi v85 c2_i32
  let c1_i32_25 : BitVec 32 := 1#32
  let v87 : BitVec 32 := Scalar.subi v86 c1_i32_25
  let c0_i32_27 : BitVec 32 := 0#32
  let v89 : BitVec 1 := Scalar.cmpi .sgt v87 c0_i32_27
  let v90 : BitVec 32 := Scalar.extui v89
  let c0_i32_28 : BitVec 32 := 0#32
  let v91 : BitVec 1 := Scalar.cmpi .slt v87 c0_i32_28
  let v92 : BitVec 32 := Scalar.extui v91
  let v93 : BitVec 32 := Scalar.subi v90 v92
  let c2_i32_26 : BitVec 32 := 2#32
  let c0_i32_29 : BitVec 32 := 0#32
  let v94 : BitVec 1 := Scalar.cmpi .sgt c2_i32_26 c0_i32_29
  let v95 : BitVec 32 := Scalar.extui v94
  let c0_i32_30 : BitVec 32 := 0#32
  let v96 : BitVec 1 := Scalar.cmpi .slt c2_i32_26 c0_i32_30
  let v97 : BitVec 32 := Scalar.extui v96
  let v98 : BitVec 32 := Scalar.subi v95 v97
  let v99 : BitVec 1 := Scalar.cmpi .ne v93 v98
  let v100 : BitVec 32 := Scalar.remsi v87 c2_i32_26
  let c0_i32_31 : BitVec 32 := 0#32
  let v101 : BitVec 1 := Scalar.cmpi .ne v100 c0_i32_31
  let v102 : BitVec 1 := Scalar.andi v99 v101
  let v88 : BitVec 32 := Scalar.divsi v87 c2_i32_26
  let c1_i32_32 : BitVec 32 := 1#32
  let v103 : BitVec 32 := Scalar.subi v88 c1_i32_32
  let v104 : BitVec 32 := Scalar.select v102 v103 v88
  let c1_i32_71 : BitVec 32 := 1#32
  let v198 : BitVec 32 := Scalar.subi v104 c1_i32_71
  let c2_i32_72 : BitVec 32 := 2#32
  let v199 : BitVec 32 := Scalar.muli v198 c2_i32_72
  let c0_i32_73 : BitVec 32 := 0#32
  let v200 : BitVec 32 := Scalar.addi v199 c0_i32_73
  let c512_i32_110 : BitVec 32 := 512#32
  let v314 : BitVec 32 := Scalar.muli v200 c512_i32_110
  v314
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x2048 : Shape := ⟨2, ![16384, 2048]⟩
abbrev S1024x16384 : Shape := ⟨2, ![1024, 16384]⟩
abbrev S64 : Shape := ⟨1, ![64]⟩
abbrev S128 : Shape := ⟨1, ![128]⟩
abbrev S16384x1024 : Shape := ⟨2, ![16384, 1024]⟩
abbrev S4x4096x8x2x2x32 : Shape := ⟨6, ![4, 4096, 8, 2, 2, 32]⟩
abbrev S8x128x4x4096 : Shape := ⟨4, ![8, 128, 4, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096x8x2x1x32 : Shape := ⟨6, ![4, 4096, 8, 2, 1, 32]⟩
abbrev S4x4096x8x2x32 : Shape := ⟨5, ![4, 4096, 8, 2, 32]⟩
abbrev S4x8x4096x4096 : Shape := ⟨4, ![4, 8, 4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 122
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1024x16384, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S16384x1024, .bf16⟩
  | .hbm, ⟨8, _⟩ => ⟨S16384x1024, .f32⟩
  | .hbm, ⟨9, _⟩ => ⟨S4x4096x8x2x2x32, .f32⟩
  | .hbm, ⟨10, _⟩ => ⟨S16384x1024, .bf16⟩
  | .hbm, ⟨11, _⟩ => ⟨S16384x1024, .f32⟩
  | .hbm, ⟨12, _⟩ => ⟨S4x4096x8x2x2x32, .f32⟩
  | .hbm, ⟨13, _⟩ => ⟨S1024x16384, .f32⟩
  | .hbm, ⟨14, _⟩ => ⟨S8x128x4x4096, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .i32⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S1x4096, .i32⟩
  | .hbm, ⟨46, _⟩ => ⟨S4096x1, .i32⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S4x4096x8x2x1x32, .f32⟩
  | .hbm, ⟨51, _⟩ => ⟨S4x4096x8x2x32, .f32⟩
  | .hbm, ⟨52, _⟩ => ⟨S4x4096x8x2x1x32, .f32⟩
  | .hbm, ⟨53, _⟩ => ⟨S4x4096x8x2x32, .f32⟩
  | .hbm, ⟨54, _⟩ => ⟨S4x8x4096x4096, .f32⟩
  | .hbm, ⟨55, _⟩ => ⟨S4x4096x8x2x1x32, .f32⟩
  | .hbm, ⟨56, _⟩ => ⟨S4x4096x8x2x32, .f32⟩
  | .hbm, ⟨57, _⟩ => ⟨S4x4096x8x2x1x32, .f32⟩
  | .hbm, ⟨58, _⟩ => ⟨S4x4096x8x2x32, .f32⟩
  | .hbm, ⟨59, _⟩ => ⟨S4x8x4096x4096, .f32⟩
  | .hbm, ⟨60, _⟩ => ⟨S_, .f32⟩
  | .hbm, ⟨61, _⟩ => ⟨S_, .f32⟩
  | .hbm, ⟨62, _⟩ => ⟨S4x8x4096x4096, .i1⟩
  | .hbm, ⟨63, _⟩ => ⟨S4x8x4096x4096, .f32⟩
  | .hbm, ⟨64, _⟩ => ⟨S4x8x4096x4096, .f32⟩
  | .hbm, ⟨65, _⟩ => ⟨S_, .f32⟩
  | .hbm, ⟨66, _⟩ => ⟨S4x8x4096, .f32⟩
  | .hbm, ⟨67, _⟩ => ⟨S4x8x4096x1, .f32⟩
  | .hbm, ⟨68, _⟩ => ⟨S4x8x4096x4096, .f32⟩
  | .hbm, ⟨69, _⟩ => ⟨S4x8x4096x4096, .f32⟩
  | .hbm, ⟨70, _⟩ => ⟨S_, .f32⟩
  | .hbm, ⟨71, _⟩ => ⟨S4x8x4096x4096, .f32⟩
  | .hbm, ⟨72, _⟩ => ⟨S4x8x4096x4096, .f32⟩
  | .hbm, ⟨73, _⟩ => ⟨S_, .f32⟩
  | .hbm, ⟨74, _⟩ => ⟨S4x8x4096, .f32⟩
  | .hbm, ⟨75, _⟩ => ⟨S4x8x4096x1, .f32⟩
  | .hbm, ⟨76, _⟩ => ⟨S4x8x4096x4096, .f32⟩
  | .hbm, ⟨77, _⟩ => ⟨S4x8x4096x4096, .f32⟩
  | .hbm, ⟨78, _⟩ => ⟨S_, .f32⟩
  | .hbm, ⟨79, _⟩ => ⟨S_, .f32⟩
  | .hbm, ⟨80, _⟩ => ⟨S4x8x4096x4096, .i1⟩
  | .hbm, ⟨81, _⟩ => ⟨S4x8x4096x4096, .f32⟩
  | .hbm, ⟨82, _⟩ => ⟨S4x8x4096x4096, .f32⟩
  | .hbm, ⟨83, _⟩ => ⟨S_, .f32⟩
  | .hbm, ⟨84, _⟩ => ⟨S4x8x4096, .f32⟩
  | .hbm, ⟨85, _⟩ => ⟨S4x8x4096x1, .f32⟩
  | .hbm, ⟨86, _⟩ => ⟨S4x8x4096x4096, .f32⟩
  | .hbm, ⟨87, _⟩ => ⟨S4x8x4096x4096, .f32⟩
  | .hbm, ⟨88, _⟩ => ⟨S_, .f32⟩
  | .hbm, ⟨89, _⟩ => ⟨S4x8x4096x4096, .f32⟩
  | .hbm, ⟨90, _⟩ => ⟨S4x8x4096x4096, .f32⟩
  | .hbm, ⟨91, _⟩ => ⟨S_, .f32⟩
  | .hbm, ⟨92, _⟩ => ⟨S4x8x4096, .f32⟩
  | .hbm, ⟨93, _⟩ => ⟨S4x8x4096x1, .f32⟩
  | .hbm, ⟨94, _⟩ => ⟨S4x8x4096x4096, .f32⟩
  | .hbm, ⟨95, _⟩ => ⟨S4x8x4096x4096, .f32⟩
  | .hbm, ⟨96, _⟩ => ⟨S4x8x4096x4096, .f32⟩
  | .hbm, ⟨97, _⟩ => ⟨S4x8x4096x4096, .f32⟩
  | .hbm, ⟨98, _⟩ => ⟨S4x8x4096x4096, .f32⟩
  | .hbm, ⟨99, _⟩ => ⟨S4x8x128x4096, .f32⟩
  | .hbm, ⟨100, _⟩ => ⟨S4x4096x8x128, .f32⟩
  | .hbm, ⟨101, _⟩ => ⟨S4x4096x8x128, .f32⟩
  | .hbm, ⟨102, _⟩ => ⟨S_, .f32⟩
  | .hbm, ⟨103, _⟩ => ⟨S4x4096x8, .f32⟩
  | .hbm, ⟨104, _⟩ => ⟨S4x4096x8x1, .f32⟩
  | .hbm, ⟨105, _⟩ => ⟨S_, .f32⟩
  | .hbm, ⟨106, _⟩ => ⟨S4x4096x8x1, .f32⟩
  | .hbm, ⟨107, _⟩ => ⟨S4x4096x8x1, .f32⟩
  | .hbm, ⟨108, _⟩ => ⟨S_, .f32⟩
  | .hbm, ⟨109, _⟩ => ⟨S4x4096x8x1, .f32⟩
  | .hbm, ⟨110, _⟩ => ⟨S4x4096x8x1, .f32⟩
  | .hbm, ⟨111, _⟩ => ⟨S4x4096x8x1, .f32⟩
  | .hbm, ⟨112, _⟩ => ⟨S4x4096x8x128, .f32⟩
  | .hbm, ⟨113, _⟩ => ⟨S4x4096x8x128, .f32⟩
  | .hbm, ⟨114, _⟩ => ⟨S1x1x1x128, .f32⟩
  | .hbm, ⟨115, _⟩ => ⟨S4x4096x8x128, .f32⟩
  | .hbm, ⟨116, _⟩ => ⟨S4x4096x8x128, .f32⟩
  | .hbm, ⟨117, _⟩ => ⟨S_, .f32⟩
  | .hbm, ⟨118, _⟩ => ⟨S4x4096x8x128, .f32⟩
  | .hbm, ⟨119, _⟩ => ⟨S4x4096x8x128, .f32⟩
  | .hbm, ⟨120, _⟩ => ⟨S16384x1024, .f32⟩
  | .hbm, ⟨121, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v33 : Ref sig .tc := ⟨.hbm, 64, rfl⟩
abbrev main_cst_3 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_4 : Ref sig .tc := ⟨.hbm, 70, rfl⟩
abbrev main_v38 : Ref sig .tc := ⟨.hbm, 71, rfl⟩
abbrev main_v39 : Ref sig .tc := ⟨.hbm, 72, rfl⟩
abbrev main_cst_5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_6 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v44 : Ref sig .tc := ⟨.hbm, 82, rfl⟩
abbrev main_cst_7 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_8 : Ref sig .tc := ⟨.hbm, 88, rfl⟩
abbrev main_v49 : Ref sig .tc := ⟨.hbm, 89, rfl⟩
abbrev main_v50 : Ref sig .tc := ⟨.hbm, 90, rfl⟩
abbrev main_cst_9 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_10 : Ref sig .tc := ⟨.hbm, 102, rfl⟩
abbrev main_v61 : Ref sig .tc := ⟨.hbm, 103, rfl⟩
abbrev main_v62 : Ref sig .tc := ⟨.hbm, 104, rfl⟩
abbrev main_cst_11 : Ref sig .tc := ⟨.hbm, 105, rfl⟩
abbrev main_v63 : Ref sig .tc := ⟨.hbm, 106, rfl⟩
abbrev main_v64 : Ref sig .tc := ⟨.hbm, 107, rfl⟩
abbrev main_cst_12 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_13 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩

abbrev nD : Nat := 1
abbrev τ : Topo := Topo.v7x

variable {F : FTy → Type} [FloatOps F]
-- ==== Kernel2.lean ====
abbrev S16384x2048 : Shape := ⟨2, ![16384, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x5632x2048 : Shape := ⟨3, ![4, 5632, 2048]⟩
abbrev S4x2048 : Shape := ⟨2, ![4, 2048]⟩
abbrev S1x2048 : Shape := ⟨2, ![1, 2048]⟩
abbrev S2048 : Shape := ⟨1, ![2048]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S512x2048 : Shape := ⟨2, ![512, 2048]⟩
abbrev S16x2048 : Shape := ⟨2, ![16, 2048]⟩
abbrev S1x2048x512 : Shape := ⟨3, ![1, 2048, 512]⟩
abbrev S3x512 : Shape := ⟨2, ![3, 512]⟩
abbrev S1x512 : Shape := ⟨2, ![1, 512]⟩
abbrev S1x512x2048 : Shape := ⟨3, ![1, 512, 2048]⟩
abbrev S528x2048 : Shape := ⟨2, ![528, 2048]⟩
abbrev S4x528x256 : Shape := ⟨3, ![4, 528, 256]⟩
abbrev S272x2048 : Shape := ⟨2, ![272, 2048]⟩
abbrev S1x2048x256 : Shape := ⟨3, ![1, 2048, 256]⟩
abbrev S2048x256 : Shape := ⟨2, ![2048, 256]⟩
abbrev S272x256 : Shape := ⟨2, ![272, 256]⟩
abbrev S1x272x256 : Shape := ⟨3, ![1, 272, 256]⟩
abbrev S256x2048 : Shape := ⟨2, ![256, 2048]⟩
abbrev S256x256 : Shape := ⟨2, ![256, 256]⟩
abbrev S1x256x256 : Shape := ⟨3, ![1, 256, 256]⟩
abbrev S3x256 : Shape := ⟨2, ![3, 256]⟩
abbrev S1x256 : Shape := ⟨2, ![1, 256]⟩
abbrev S256x512 : Shape := ⟨2, ![256, 512]⟩
abbrev S512 : Shape := ⟨1, ![512]⟩
abbrev S512x1 : Shape := ⟨2, ![512, 1]⟩

abbrev nBuf : Space → Nat
  | .hbm => 24
  | .vmem => 29
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S4x5632x2048, .f32⟩
  | .hbm, ⟨6, _⟩ => ⟨S4x2048, .f32⟩
  | .hbm, ⟨7, _⟩ => ⟨S4x2048, .f32⟩
  | .hbm, ⟨8, _⟩ => ⟨S4x2048x11264, .bf16⟩
  | .hbm, ⟨9, _⟩ => ⟨S4x5632x2048, .bf16⟩
  | .hbm, ⟨10, _⟩ => ⟨S1x2048, .f32⟩
  | .hbm, ⟨11, _⟩ => ⟨S2048, .f32⟩
  | .hbm, ⟨12, _⟩ => ⟨S1x3x11264, .f32⟩
  | .hbm, ⟨13, _⟩ => ⟨S3x11264, .f32⟩
  | .hbm, ⟨14, _⟩ => ⟨S1x11264, .f32⟩
  | .hbm, ⟨15, _⟩ => ⟨S11264, .f32⟩
  | .hbm, ⟨16, _⟩ => ⟨S1x2048, .f32⟩
  | .hbm, ⟨17, _⟩ => ⟨S2048, .f32⟩
  | .hbm, ⟨18, _⟩ => ⟨S1x11264, .f32⟩
  | .hbm, ⟨19, _⟩ => ⟨S1x11264, .f32⟩
  | .hbm, ⟨20, _⟩ => ⟨S1x2048, .f32⟩
  | .hbm, ⟨21, _⟩ => ⟨S1x2048, .f32⟩
  | .hbm, ⟨22, _⟩ => ⟨S16384x2048, .f32⟩
  | .hbm, ⟨23, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512x2048, .bf16⟩
  | .local _ .vmem, ⟨17, _⟩ => ⟨S1x512x2048, .bf16⟩
  | .local _ .vmem, ⟨18, _⟩ => ⟨S512x2048, .f32⟩
  | .local _ .vmem, ⟨19, _⟩ => ⟨S512x2048, .f32⟩
  | .local _ .vmem, ⟨20, _⟩ => ⟨S1x2048, .f32⟩
  | .local _ .vmem, ⟨21, _⟩ => ⟨S1x2048, .f32⟩
  | .local _ .vmem, ⟨22, _⟩ => ⟨S512x2048, .f32⟩
  | .local _ .vmem, ⟨23, _⟩ => ⟨S512x2048, .f32⟩
  | .local _ .vmem, ⟨24, _⟩ => ⟨S512x2048, .bf16⟩
  | .local _ .vmem, ⟨25, _⟩ => ⟨S512x2048, .bf16⟩
  | .local _ .vmem, ⟨26, _⟩ => ⟨S528x2048, .bf16⟩
  | .local _ .vmem, ⟨27, _⟩ => ⟨S4x528x256, .f32⟩
  | .local _ .vmem, ⟨28, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v271 : BitVec 1 := Scalar.cmpi .eq arg1 c10_i32
  let v272 : BitVec 32 := Scalar.extui v271
  let c0_i32_169 : BitVec 32 := 0#32
  let v273 : BitVec 1 := Scalar.cmpi .ne v272 c0_i32_169
  v273

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference2Ideal.lean ====
abbrev S16384x2048 : Shape := ⟨2, ![16384, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x5632x2048 : Shape := ⟨3, ![4, 5632, 2048]⟩
abbrev S4x2048 : Shape := ⟨2, ![4, 2048]⟩
abbrev S4x4096x2048 : Shape := ⟨3, ![4, 4096, 2048]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S_ : Shape := ⟨0, ![]⟩
abbrev S4x4098x11264 : Shape := ⟨3, ![4, 4098, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S1x1x11264 : Shape := ⟨3, ![1, 1, 11264]⟩
abbrev S4x4096x5632 : Shape := ⟨3, ![4, 4096, 5632]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S16384 : Shape := ⟨1, ![16384]⟩
abbrev S16384x1 : Shape := ⟨2, ![16384, 1]⟩

abbrev nBuf : Space → Nat
  | .hbm => 85
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S4x5632x2048, .f32⟩
  | .hbm, ⟨6, _⟩ => ⟨S4x2048, .f32⟩
  | .hbm, ⟨7, _⟩ => ⟨S4x2048, .f32⟩
  | .hbm, ⟨8, _⟩ => ⟨S16384x2048, .f32⟩
  | .hbm, ⟨9, _⟩ => ⟨S4x4096x2048, .f32⟩
  | .hbm, ⟨10, _⟩ => ⟨S1x2048x11264, .f32⟩
  | .hbm, ⟨11, _⟩ => ⟨S2048x11264, .f32⟩
  | .hbm, ⟨12, _⟩ => ⟨S4x4096x11264, .f32⟩
  | .hbm, ⟨13, _⟩ => ⟨S_, .i32⟩
  | .hbm, ⟨14, _⟩ => ⟨S_, .f32⟩
  | .hbm, ⟨15, _⟩ => ⟨S4x4098x11264, .f32⟩
  | .hbm, ⟨16, _⟩ => ⟨S4x4096x11264, .f32⟩
  | .hbm, ⟨17, _⟩ => ⟨S1x3x11264, .f32⟩
  | .hbm, ⟨18, _⟩ => ⟨S3x11264, .f32⟩
  | .hbm, ⟨19, _⟩ => ⟨S1x11264, .f32⟩
  | .hbm, ⟨20, _⟩ => ⟨S11264, .f32⟩
  | .hbm, ⟨21, _⟩ => ⟨S1x1x11264, .f32⟩
  | .hbm, ⟨22, _⟩ => ⟨S4x4096x11264, .f32⟩
  | .hbm, ⟨23, _⟩ => ⟨S4x4096x11264, .f32⟩
  | .hbm, ⟨24, _⟩ => ⟨S_, .f32⟩
  | .hbm, ⟨25, _⟩ => ⟨S4x4096x11264, .f32⟩
  | .hbm, ⟨26, _⟩ => ⟨S4x4096x11264, .f32⟩
  | .hbm, ⟨27, _⟩ => ⟨S4x4096x11264, .f32⟩
  | .hbm, ⟨28, _⟩ => ⟨S1x3x11264, .f32⟩
  | .hbm, ⟨29, _⟩ => ⟨S3x11264, .f32⟩
  | .hbm, ⟨30, _⟩ => ⟨S1x11264, .f32⟩
  | .hbm, ⟨31, _⟩ => ⟨S11264, .f32⟩
  | .hbm, ⟨32, _⟩ => ⟨S1x1x11264, .f32⟩
  | .hbm, ⟨33, _⟩ => ⟨S4x4096x11264, .f32⟩
  | .hbm, ⟨34, _⟩ => ⟨S4x4096x11264, .f32⟩
  | .hbm, ⟨35, _⟩ => ⟨S4x4096x11264, .f32⟩
  | .hbm, ⟨36, _⟩ => ⟨S4x4096x11264, .f32⟩
  | .hbm, ⟨37, _⟩ => ⟨S1x3x11264, .f32⟩
  | .hbm, ⟨38, _⟩ => ⟨S3x11264, .f32⟩
  | .hbm, ⟨39, _⟩ => ⟨S1x11264, .f32⟩
  | .hbm, ⟨40, _⟩ => ⟨S11264, .f32⟩
  | .hbm, ⟨41, _⟩ => ⟨S1x1x11264, .f32⟩
  | .hbm, ⟨42, _⟩ => ⟨S4x4096x11264, .f32⟩
  | .hbm, ⟨43, _⟩ => ⟨S4x4096x11264, .f32⟩
  | .hbm, ⟨44, _⟩ => ⟨S4x4096x11264, .f32⟩
  | .hbm, ⟨45, _⟩ => ⟨S1x11264, .f32⟩
  | .hbm, ⟨46, _⟩ => ⟨S11264, .f32⟩
  | .hbm, ⟨47, _⟩ => ⟨S1x1x11264, .f32⟩
  | .hbm, ⟨48, _⟩ => ⟨S4x4096x11264, .f32⟩
  | .hbm, ⟨49, _⟩ => ⟨S4x4096x11264, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S4x4096x5632, .f32⟩
  | .hbm, ⟨54, _⟩ => ⟨S_, .f32⟩
  | .hbm, ⟨55, _⟩ => ⟨S4x4096x5632, .f32⟩
  | .hbm, ⟨56, _⟩ => ⟨S4x4096x5632, .f32⟩
  | .hbm, ⟨57, _⟩ => ⟨S_, .f32⟩
  | .hbm, ⟨58, _⟩ => ⟨S4x4096x5632, .f32⟩
  | .hbm, ⟨59, _⟩ => ⟨S4x4096x5632, .f32⟩
  | .hbm, ⟨60, _⟩ => ⟨S4x4096x5632, .f32⟩
  | .hbm, ⟨61, _⟩ => ⟨S4x4096x5632, .f32⟩
  | .hbm, ⟨62, _⟩ => ⟨S1x5632x2048, .f32⟩
  | .hbm, ⟨63, _⟩ => ⟨S5632x2048, .f32⟩
  | .hbm, ⟨64, _⟩ => ⟨S4x4096x2048, .f32⟩
  | .hbm, ⟨65, _⟩ => ⟨S16384x2048, .f32⟩
  | .hbm, ⟨66, _⟩ => ⟨S1x2048, .f32⟩
  | .hbm, ⟨67, _⟩ => ⟨S2048, .f32⟩
  | .hbm, ⟨68, _⟩ => ⟨S16384x2048, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x2048, .f32⟩
  | .hbm, ⟨80, _⟩ => ⟨S16384x2048, .f32⟩
  | .hbm, ⟨81, _⟩ => ⟨S1x2048, .f32⟩
  | .hbm, ⟨82, _⟩ => ⟨S16384x2048, .f32⟩
  | .hbm, ⟨83, _⟩ => ⟨S16384x2048, .f32⟩
  | .hbm, ⟨84, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_0 : Ref sig .tc := ⟨.hbm, 69, rfl⟩
abbrev main_v50 : Ref sig .tc := ⟨.hbm, 70, rfl⟩
abbrev main_v51 : Ref sig .tc := ⟨.hbm, 71, rfl⟩
abbrev main_cst_1 : Ref sig .tc := ⟨.hbm, 72, rfl⟩
abbrev main_v52 : Ref sig .tc := ⟨.hbm, 73, rfl⟩
abbrev main_v53 : Ref sig .tc := ⟨.hbm, 74, rfl⟩
abbrev main_cst_2 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Kernel3.lean ====
abbrev S16384x2048 : Shape := ⟨2, ![16384, 2048]⟩
abbrev S16384x1024 : Shape := ⟨2, ![16384, 1024]⟩
abbrev S4x2048x4096 : Shape := ⟨3, ![4, 2048, 4096]⟩
abbrev S4x4096 : Shape := ⟨2, ![4, 4096]⟩
abbrev S4x1024x2048 : Shape := ⟨3, ![4, 1024, 2048]⟩
abbrev S1x4096 : Shape := ⟨2, ![1, 4096]⟩
abbrev S4096 : Shape := ⟨1, ![4096]⟩
abbrev S1024x2048 : Shape := ⟨2, ![1024, 2048]⟩
abbrev S1024x1024 : Shape := ⟨2, ![1024, 1024]⟩
abbrev S1x2048x512 : Shape := ⟨3, ![1, 2048, 512]⟩
abbrev S1x512 : Shape := ⟨2, ![1, 512]⟩
abbrev S1x1024x512 : Shape := ⟨3, ![1, 1024, 512]⟩
abbrev S1024x512 : Shape := ⟨2, ![1024, 512]⟩
abbrev S256x2048 : Shape := ⟨2, ![256, 2048]⟩
abbrev S256x1024 : Shape := ⟨2, ![256, 1024]⟩
abbrev S1x2048x256 : Shape := ⟨3, ![1, 2048, 256]⟩
abbrev S2048x256 : Shape := ⟨2, ![2048, 256]⟩
abbrev S256x256 : Shape := ⟨2, ![256, 256]⟩
abbrev S1x256 : Shape := ⟨2, ![1, 256]⟩
abbrev S1x1024x256 : Shape := ⟨3, ![1, 1024, 256]⟩
abbrev S1024x256 : Shape := ⟨2, ![1024, 256]⟩

abbrev nBuf : Space → Nat
  | .hbm => 14
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S4x2048x4096, .bf16⟩
  | .hbm, ⟨4, _⟩ => ⟨S4x4096, .f32⟩
  | .hbm, ⟨5, _⟩ => ⟨S4x1024x2048, .f32⟩
  | .hbm, ⟨6, _⟩ => ⟨S4x1024x2048, .f32⟩
  | .hbm, ⟨7, _⟩ => ⟨S4x1024x2048, .bf16⟩
  | .hbm, ⟨8, _⟩ => ⟨S4x1024x2048, .bf16⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S1x4096, .f32⟩
  | .hbm, ⟨13, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1024x512, .bf16⟩
  | .local _ .vmem, ⟨19, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S16384x2048 : Shape := ⟨2, ![16384, 2048]⟩
abbrev S16384x1024 : Shape := ⟨2, ![16384, 1024]⟩
abbrev S4x2048x4096 : Shape := ⟨3, ![4, 2048, 4096]⟩
abbrev S4x4096 : Shape := ⟨2, ![4, 4096]⟩
abbrev S4x1024x2048 : Shape := ⟨3, ![4, 1024, 2048]⟩
abbrev S1x2048x4096 : Shape := ⟨3, ![1, 2048, 4096]⟩
abbrev S2048x4096 : Shape := ⟨2, ![2048, 4096]⟩
abbrev S16384x4096 : Shape := ⟨2, ![16384, 4096]⟩
abbrev S1x4096 : Shape := ⟨2, ![1, 4096]⟩
abbrev S4096 : Shape := ⟨1, ![4096]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S4x2048x4096, .bf16⟩
  | .hbm, ⟨4, _⟩ => ⟨S4x4096, .f32⟩
  | .hbm, ⟨5, _⟩ => ⟨S4x1024x2048, .f32⟩
  | .hbm, ⟨6, _⟩ => ⟨S4x1024x2048, .f32⟩
  | .hbm, ⟨7, _⟩ => ⟨S16384x2048, .f32⟩
  | .hbm, ⟨8, _⟩ => ⟨S1x2048x4096, .bf16⟩
  | .hbm, ⟨9, _⟩ => ⟨S2048x4096, .bf16⟩
  | .hbm, ⟨10, _⟩ => ⟨S2048x4096, .f32⟩
  | .hbm, ⟨11, _⟩ => ⟨S16384x4096, .f32⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x2048, .f32⟩
  | .hbm, ⟨26, _⟩ => ⟨S16384x2048, .f32⟩
  | .hbm, ⟨27, _⟩ => ⟨S16384x1024, .f32⟩
  | .hbm, ⟨28, _⟩ => ⟨S1x1024x2048, .f32⟩
  | .hbm, ⟨29, _⟩ => ⟨S1024x2048, .f32⟩
  | .hbm, ⟨30, _⟩ => ⟨S16384x2048, .f32⟩
  | .hbm, ⟨31, _⟩ => ⟨S16384x2048, .f32⟩
  | .hbm, ⟨32, _⟩ => ⟨S16384x1024, .f32⟩
  | .hbm, ⟨33, _⟩ => ⟨S1x1024x2048, .f32⟩
  | .hbm, ⟨34, _⟩ => ⟨S1024x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel4.lean ====
abbrev S16384x2048 : Shape := ⟨2, ![16384, 2048]⟩
abbrev S4x2048x2048 : Shape := ⟨3, ![4, 2048, 2048]⟩
abbrev S4x2048 : Shape := ⟨2, ![4, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2048x2048, .f32⟩
  | .hbm, ⟨3, _⟩ => ⟨S4x2048, .f32⟩
  | .hbm, ⟨4, _⟩ => ⟨S4x2048, .f32⟩
  | .hbm, ⟨5, _⟩ => ⟨S4x2048x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x2048 : Shape := ⟨2, ![16384, 2048]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2048x2048, .f32⟩
  | .hbm, ⟨3, _⟩ => ⟨S4x2048, .f32⟩
  | .hbm, ⟨4, _⟩ => ⟨S4x2048, .f32⟩
  | .hbm, ⟨5, _⟩ => ⟨S16384x2048, .f32⟩
  | .hbm, ⟨6, _⟩ => ⟨S1x2048x2048, .f32⟩
  | .hbm, ⟨7, _⟩ => ⟨S2048x2048, .f32⟩
  | .hbm, ⟨8, _⟩ => ⟨S16384x2048, .f32⟩
  | .hbm, ⟨9, _⟩ => ⟨S1x2048, .f32⟩
  | .hbm, ⟨10, _⟩ => ⟨S2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S2048, .f32⟩
  | .hbm, ⟨30, _⟩ => ⟨S16384x2048, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x2048, .f32⟩
  | .hbm, ⟨42, _⟩ => ⟨S16384x2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel5.lean ====
abbrev S16384x2048 : Shape := ⟨2, ![16384, 2048]⟩
abbrev S4x2048x2048 : Shape := ⟨3, ![4, 2048, 2048]⟩
abbrev S1024x4096 : Shape := ⟨2, ![1024, 4096]⟩
abbrev S4x2048 : Shape := ⟨2, ![4, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S256x4096 : Shape := ⟨2, ![256, 4096]⟩
abbrev S1x2048x512 : Shape := ⟨3, ![1, 2048, 512]⟩
abbrev S2048x512 : Shape := ⟨2, ![2048, 512]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S4x2048x2048, .f32⟩
  | .hbm, ⟨2, _⟩ => ⟨S1024x4096, .bf16⟩
  | .hbm, ⟨3, _⟩ => ⟨S4x2048x2048, .f32⟩
  | .hbm, ⟨4, _⟩ => ⟨S16384x2048, .f32⟩
  | .hbm, ⟨5, _⟩ => ⟨S4x2048, .f32⟩
  | .hbm, ⟨6, _⟩ => ⟨S4x2048, .f32⟩
  | .hbm, ⟨7, _⟩ => ⟨S4x2048x2048, .bf16⟩
  | .hbm, ⟨8, _⟩ => ⟨S4x2048x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S16384x2048, .f32⟩
  | .hbm, ⟨16, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S256x4096, .bf16⟩
  | .local _ .vmem, ⟨4, _⟩ => ⟨S256x4096, .bf16⟩
  | .local _ .vmem, ⟨5, _⟩ => ⟨S1x2048x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16384x2048 : Shape := ⟨2, ![16384, 2048]⟩
abbrev S4x2048x2048 : Shape := ⟨3, ![4, 2048, 2048]⟩
abbrev S1024x4096 : Shape := ⟨2, ![1024, 4096]⟩
abbrev S4x2048 : Shape := ⟨2, ![4, 2048]⟩
abbrev S1x2048x2048 : Shape := ⟨3, ![1, 2048, 2048]⟩
abbrev S2048x2048 : Shape := ⟨2, ![2048, 2048]⟩
abbrev S4x4096x4x512 : Shape := ⟨4, ![4, 4096, 4, 512]⟩
abbrev S4x256x2x4x512 : Shape := ⟨5, ![4, 256, 2, 4, 512]⟩
abbrev S4x256x1x4x512 : Shape := ⟨5, ![4, 256, 1, 4, 512]⟩
abbrev S4x256x4x512 : Shape := ⟨4, ![4, 256, 4, 512]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x512x4096 : Shape := ⟨4, ![4, 4, 512, 4096]⟩
abbrev S1x2048 : Shape := ⟨2, ![1, 2048]⟩
abbrev S2048 : Shape := ⟨1, ![2048]⟩
abbrev S16384 : Shape := ⟨1, ![16384]⟩
abbrev S16384x1 : Shape := ⟨2, ![16384, 1]⟩

abbrev nBuf : Space → Nat
  | .hbm => 80
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x2048, .f32⟩
  | .hbm, ⟨2, _⟩ => ⟨S1024x4096, .bf16⟩
  | .hbm, ⟨3, _⟩ => ⟨S4x2048x2048, .f32⟩
  | .hbm, ⟨4, _⟩ => ⟨S16384x2048, .f32⟩
  | .hbm, ⟨5, _⟩ => ⟨S4x2048, .f32⟩
  | .hbm, ⟨6, _⟩ => ⟨S4x2048, .f32⟩
  | .hbm, ⟨7, _⟩ => ⟨S16384x2048, .f32⟩
  | .hbm, ⟨8, _⟩ => ⟨S1x2048x2048, .f32⟩
  | .hbm, ⟨9, _⟩ => ⟨S2048x2048, .f32⟩
  | .hbm, ⟨10, _⟩ => ⟨S16384x2048, .f32⟩
  | .hbm, ⟨11, _⟩ => ⟨S4x4096x4x512, .f32⟩
  | .hbm, ⟨12, _⟩ => ⟨S1024x4096, .f32⟩
  | .hbm, ⟨13, _⟩ => ⟨S4x256x2x4x512, .f32⟩
  | .hbm, ⟨14, _⟩ => ⟨S4x256x1x4x512, .f32⟩
  | .hbm, ⟨15, _⟩ => ⟨S4x256x4x512, .f32⟩
  | .hbm, ⟨16, _⟩ => ⟨S4x256x1x4x512, .f32⟩
  | .hbm, ⟨17, _⟩ => ⟨S4x256x4x512, .f32⟩
  | .hbm, ⟨18, _⟩ => ⟨S4x4x4096x256, .f32⟩
  | .hbm, ⟨19, _⟩ => ⟨S_, .f32⟩
  | .hbm, ⟨20, _⟩ => ⟨S4x4x4096x256, .f32⟩
  | .hbm, ⟨21, _⟩ => ⟨S4x4x4096x256, .f32⟩
  | .hbm, ⟨22, _⟩ => ⟨S_, .f32⟩
  | .hbm, ⟨23, _⟩ => ⟨S4x4x4096, .f32⟩
  | .hbm, ⟨24, _⟩ => ⟨S_, .f32⟩
  | .hbm, ⟨25, _⟩ => ⟨S4x4x4096, .f32⟩
  | .hbm, ⟨26, _⟩ => ⟨S4x4x4096, .f32⟩
  | .hbm, ⟨27, _⟩ => ⟨S4x4x4096x1, .f32⟩
  | .hbm, ⟨28, _⟩ => ⟨S4x4x4096x256, .f32⟩
  | .hbm, ⟨29, _⟩ => ⟨S4x4x4096x256, .f32⟩
  | .hbm, ⟨30, _⟩ => ⟨S4x4x4096x256, .f32⟩
  | .hbm, ⟨31, _⟩ => ⟨S_, .f32⟩
  | .hbm, ⟨32, _⟩ => ⟨S4x4x4096, .f32⟩
  | .hbm, ⟨33, _⟩ => ⟨S4x4x4096x1, .f32⟩
  | .hbm, ⟨34, _⟩ => ⟨S4x4x4096x256, .f32⟩
  | .hbm, ⟨35, _⟩ => ⟨S4x4x4096x256, .f32⟩
  | .hbm, ⟨36, _⟩ => ⟨S4x4x512x4096, .f32⟩
  | .hbm, ⟨37, _⟩ => ⟨S4x4096x4x512, .f32⟩
  | .hbm, ⟨38, _⟩ => ⟨S16384x2048, .f32⟩
  | .hbm, ⟨39, _⟩ => ⟨S1x2048x2048, .f32⟩
  | .hbm, ⟨40, _⟩ => ⟨S2048x2048, .f32⟩
  | .hbm, ⟨41, _⟩ => ⟨S16384x2048, .f32⟩
  | .hbm, ⟨42, _⟩ => ⟨S1x2048, .f32⟩
  | .hbm, ⟨43, _⟩ => ⟨S2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S1x2048, .f32⟩
  | .hbm, ⟨62, _⟩ => ⟨S2048, .f32⟩
  | .hbm, ⟨63, _⟩ => ⟨S16384x2048, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x2048, .f32⟩
  | .hbm, ⟨75, _⟩ => ⟨S16384x2048, .f32⟩
  | .hbm, ⟨76, _⟩ => ⟨S1x2048, .f32⟩
  | .hbm, ⟨77, _⟩ => ⟨S16384x2048, .f32⟩
  | .hbm, ⟨78, _⟩ => ⟨S16384x2048, .f32⟩
  | .hbm, ⟨79, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Kernel6.lean ====
abbrev S16384x2048 : Shape := ⟨2, ![16384, 2048]⟩
abbrev S4x1024x2048 : Shape := ⟨3, ![4, 1024, 2048]⟩
abbrev S1024x16384 : Shape := ⟨2, ![1024, 16384]⟩
abbrev S1024x2048 : Shape := ⟨2, ![1024, 2048]⟩
abbrev S1x512x2048 : Shape := ⟨3, ![1, 512, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S4x1024x2048, .bf16⟩
  | .hbm, ⟨2, _⟩ => ⟨S1024x16384, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x1024, .bf16⟩
  | .local _ .vmem, ⟨5, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x2048 : Shape := ⟨2, ![16384, 2048]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S2048x1024 : Shape := ⟨2, ![2048, 1024]⟩
abbrev S16384x1024 : Shape := ⟨2, ![16384, 1024]⟩
abbrev S1024x16384 : Shape := ⟨2, ![1024, 16384]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x1024x2048, .bf16⟩
  | .hbm, ⟨2, _⟩ => ⟨S16384x2048, .f32⟩
  | .hbm, ⟨3, _⟩ => ⟨S1x1024x2048, .bf16⟩
  | .hbm, ⟨4, _⟩ => ⟨S1024x2048, .bf16⟩
  | .hbm, ⟨5, _⟩ => ⟨S2048x1024, .bf16⟩
  | .hbm, ⟨6, _⟩ => ⟨S2048x1024, .f32⟩
  | .hbm, ⟨7, _⟩ => ⟨S16384x1024, .f32⟩
  | .hbm, ⟨8, _⟩ => ⟨S1024x16384, .f32⟩
  | .hbm, ⟨9, _⟩ => ⟨S1024x16384, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proof.Block.lean ====
/- One key block of the online softmax, and the block function of the kernel built from it. -/
module

public import proofs.«01_k».proof.Proof.Gen.KernelIdeal.Loops
public import proofs.«01_k».proof.Proof.Gen.KernelIdeal.Frame

@[expose] public section

set_option maxRecDepth 16384

noncomputable section

namespace Cert.Proof

open Idealize.ShloMosaic Idealize.ShloMosaic.TcCoe
open Idealize.SL Idealize.SL.Sem
open Cert.KernelIdeal Cert.KernelIdeal.Gen

variable {F : FTy → Type} [FloatOps F]

/-- What one softmax carries from key block to key block: the running maximum and the running sum of each
    query column, and the running weighted sum of the value rows. -/
abbrev Carry (F : FTy → Type) [FloatOps F] : Type := FVec F S1x512 .f32 × FVec F S1x512 .f32 × FVec F S128x512 .f32

/-- The four softmaxes of one grid step: two parts of each of two heads. -/
abbrev Carries (F : FTy → Type) [FloatOps F] : Type :=
  FVec F S1x512 .f32 × FVec F S1x512 .f32 × FVec F S128x512 .f32 × FVec F S1x512 .f32 × FVec F S1x512 .f32 × FVec F S128x512 .f32
    × FVec F S1x512 .f32 × FVec F S1x512 .f32 × FVec F S128x512 .f32 × FVec F S1x512 .f32 × FVec F S1x512 .f32 × FVec F S128x512 .f32

/-- Four carries as the one tuple the loop carries. -/
def pack (a b c d : Carry F) : Carries F := (a.1, a.2.1, a.2.2, b.1, b.2.1, b.2.2, c.1, c.2.1, c.2.2, d.1, d.2.1, d.2.2)

/-- The scores of one key block against the query block, keys down and queries across. -/
def scores (q k : Vec F S512x128 .bf16) : FVec F S512x512 .f32 := k0_pay2 q k

/-- One key block, with scores `s` and values `v`, taken into the carry. -/
def step (s : FVec F S512x512 .f32) (v : Vec F S128x512 .bf16) (a : Carry F) : Carry F :=
  (k0_pay10 a.1 s, k0_pay13 a.1 a.2.1 s, k0_pay14 a.1 a.2.2 s v)

/-- The carry before the first key block. -/
def start : Carry F := (k0_pay179, k0_pay180, k0_pay181)

/-- One trip of the loop: two key blocks into each of the four carries. -/
def trip (q0 q1 q2 q3 : Vec F S512x128 .bf16) (ka0 kb0 ka1 kb1 : Vec F S512x128 .bf16) (va0 vb0 va1 vb1 : Vec F S128x512 .bf16)
    (a : Carries F) : Carries F :=
  pack
    (step (scores q0 ka1) va1 (step (scores q0 ka0) va0 (a.1, a.2.1, a.2.2.1)))
    (step (scores q1 ka1) va1 (step (scores q1 ka0) va0 (a.2.2.2.1, a.2.2.2.2.1, a.2.2.2.2.2.1)))
    (step (scores q2 kb1) vb1 (step (scores q2 kb0) vb0 (a.2.2.2.2.2.2.1, a.2.2.2.2.2.2.2.1, a.2.2.2.2.2.2.2.2.1)))
    (step (scores q3 kb1) vb1 (step (scores q3 kb0) vb0
      (a.2.2.2.2.2.2.2.2.2.1, a.2.2.2.2.2.2.2.2.2.2.1, a.2.2.2.2.2.2.2.2.2.2.2)))

/-- The same, from the windows of the key and value arrays, at trip `k` of the grid point `i`. -/
def tripAt (i : grid0.Coords) (k : Fin (k0_t1_loop i).trips) (q0 q1 q2 q3 : Vec F S512x128 .bf16)
    (X2 : Vec F S4096x256 .bf16) (X3 : Vec F S256x4096 .bf16) (a : Carries F) : Carries F :=
  trip q0 q1 q2 q3
    (View.ld X2 (Rect.unit (s := S4096x256) (k0_off1 i k 0#32) S512x128.size (k0_off1_inb i k 0)))
    (View.ld X2 (Rect.unit (s := S4096x256) (k0_off2 i k 0#32) S512x128.size (k0_off2_inb i k 0)))
    (View.ld X2 (Rect.unit (s := S4096x256) (k0_off1 i k 1#32) S512x128.size (k0_off1_inb i k 1)))
    (View.ld X2 (Rect.unit (s := S4096x256) (k0_off2 i k 1#32) S512x128.size (k0_off2_inb i k 1)))
    (View.ld X3 (Rect.unit (s := S256x4096) (k0_off3 i k 0#32) S128x512.size (k0_off3_inb i k 0)))
    (View.ld X3 (Rect.unit (s := S256x4096) (k0_off4 i k 0#32) S128x512.size (k0_off4_inb i k 0)))
    (View.ld X3 (Rect.unit (s := S256x4096) (k0_off3 i k 1#32) S128x512.size (k0_off3_inb i k 1)))
    (View.ld X3 (Rect.unit (s := S256x4096) (k0_off4 i k 1#32) S128x512.size (k0_off4_inb i k 1)))
    a

/-- A trip of the generated run is `tripAt`. -/
theorem tripR_eq (𝒱 : Variants) (c : Dev nD) (bd : Option 𝒱.V) (i : grid0.Coords)
    (arg3 : Memref sig .tc .vmem S4x64 .f32) (harg3 : arg3.IsWhole) (arg4 : Memref sig .tc .vmem S512x256 .bf16) (harg4 : arg4.IsWhole)
    (arg5 : Memref sig .tc .vmem S4096x256 .bf16) (harg5 : arg5.IsWhole) (arg6 : Memref sig .tc .vmem S256x4096 .bf16) (harg6 : arg6.IsWhole)
    (arg7 : Memref sig .tc .vmem S128x1 .f32) (harg7 : arg7.IsWhole) (arg8 : Memref sig .tc .vmem S512x256 .bf16) (harg8 : arg8.IsWhole)
    (v24 v25 v28 v29 : FVec F S512x128 .bf16) (v81 v82 : FVec F S1x512 .f32) (v83 : FVec F S128x512 .f32) (v84 v85 : BitVec 32)
    (f5 : BufTy.Contents (Elt F) arg5.view.ty) (f6 : BufTy.Contents (Elt F) arg6.view.ty) (k : Fin (k0_t1_loop i).trips) (a : Carries F) :
    tripR_k0_t1 (F := F) 𝒱 c bd i arg3 harg3 arg4 harg4 arg5 harg5 arg6 harg6 arg7 harg7 arg8 harg8 v24 v25 v28 v29 v81 v82 v83 v84 v85 f5 f6 k a
      = tripAt i k v24 v25 v28 v29 (arg5.view.read (Elt F) f5) (arg6.view.read (Elt F) f6) a := by
  unfold tripR_k0_t1 trip_k0_t1
  rfl

/-- The four carries before trip `k` of the grid point `i`. -/
def carryAt (i : grid0.Coords) (q0 q1 q2 q3 : Vec F S512x128 .bf16) (X2 : Vec F S4096x256 .bf16) (X3 : Vec F S256x4096 .bf16) : Nat → Carries F
  | 0 => pack start start start start
  | k + 1 => if h : k < (k0_t1_loop i).trips then tripAt i ⟨k, h⟩ q0 q1 q2 q3 X2 X3 (carryAt i q0 q1 q2 q3 X2 X3 k)
      else carryAt i q0 q1 q2 q3 X2 X3 k

/-- The generated recursion over the trips is `carryAt`. -/
theorem st_eq (𝒱 : Variants) (c : Dev nD) (bd : Option 𝒱.V) (i : grid0.Coords)
    (arg3 : Memref sig .tc .vmem S4x64 .f32) (harg3 : arg3.IsWhole) (arg4 : Memref sig .tc .vmem S512x256 .bf16) (harg4 : arg4.IsWhole)
    (arg5 : Memref sig .tc .vmem S4096x256 .bf16) (harg5 : arg5.IsWhole) (arg6 : Memref sig .tc .vmem S256x4096 .bf16) (harg6 : arg6.IsWhole)
    (arg7 : Memref sig .tc .vmem S128x1 .f32) (harg7 : arg7.IsWhole) (arg8 : Memref sig .tc .vmem S512x256 .bf16) (harg8 : arg8.IsWhole)
    (v24 v25 v28 v29 : FVec F S512x128 .bf16) (v81 v82 : FVec F S1x512 .f32) (v83 : FVec F S128x512 .f32) (v84 v85 : BitVec 32)
    (f5 : BufTy.Contents (Elt F) arg5.view.ty) (f6 : BufTy.Contents (Elt F) arg6.view.ty) (k : Nat) (hk : k ≤ (k0_t1_loop i).trips) :
    st_k0_t1 (F := F) 𝒱 c bd i arg3 harg3 arg4 harg4 arg5 harg5 arg6 harg6 arg7 harg7 arg8 harg8 v24 v25 v28 v29 v81 v82 v83 v84 v85 f5 f6
        (pack start start start start) k
      = carryAt i v24 v25 v28 v29 (arg5.view.read (Elt F) f5) (arg6.view.read (Elt F) f6) k := by
  induction k with
  | zero => rfl
  | succ k ih =>
    have h : k < (k0_t1_loop i).trips := hk
    have e := st_k0_t1_succ (F := F) 𝒱 c bd i arg3 harg3 arg4 harg4 arg5 harg5 arg6 harg6 arg7 harg7 arg8 harg8 v24 v25 v28 v29 v81 v82 v83
      v84 v85 f5 f6 (pack start start start start) ⟨k, h⟩
    rw [e, tripR_eq, ih (Nat.le_of_lt h)]
    show _ = dite _ _ _
    rw [dif_pos h]

/-- The block distance of key row and query column within one diagonal block: positive where the key is masked. -/
def rel : IVec S512x512 32 := k0_pay178 (iota .tc S512x512 32 [0] iota_S512x512_d0_w32) 64#32 k0_pay176 k0_pay177 0#32

/-- The scores of the diagonal block, with the masked keys at minus infinity. -/
def masked (s : FVec F S512x512 .f32) : FVec F S512x512 .f32 := k0_pay199 rel s

/-- The last blocks of a grid point whose number of key blocks is even: a whole block, then the diagonal one. -/
def tailTwo (i : grid0.Coords) (h : k0_cond1 i = 1#1) (q0 q1 q2 q3 : Vec F S512x128 .bf16)
    (X2 : Vec F S4096x256 .bf16) (X3 : Vec F S256x4096 .bf16) (a : Carries F) : Carries F :=
  let ka := View.ld X2 (Rect.unit (s := S4096x256) (k0_off9 i 0#32) S512x128.size (k0_off9_inb i h 0))
  let kb := View.ld X2 (Rect.unit (s := S4096x256) (k0_off10 i 0#32) S512x128.size (k0_off10_inb i h 0))
  let ka' := View.ld X2 (Rect.unit (s := S4096x256) (k0_off9 i 1#32) S512x128.size (k0_off9_inb i h 1))
  let kb' := View.ld X2 (Rect.unit (s := S4096x256) (k0_off10 i 1#32) S512x128.size (k0_off10_inb i h 1))
  let va := View.ld X3 (Rect.unit (s := S256x4096) (k0_off11 i 0#32) S128x512.size (k0_off11_inb i h 0))
  let vb := View.ld X3 (Rect.unit (s := S256x4096) (k0_off12 i 0#32) S128x512.size (k0_off12_inb i h 0))
  let va' := View.ld X3 (Rect.unit (s := S256x4096) (k0_off11 i 1#32) S128x512.size (k0_off11_inb i h 1))
  let vb' := View.ld X3 (Rect.unit (s := S256x4096) (k0_off12 i 1#32) S128x512.size (k0_off12_inb i h 1))
  pack
    (step (masked (scores q0 ka')) va' (step (scores q0 ka) va (a.1, a.2.1, a.2.2.1)))
    (step (masked (scores q1 ka')) va' (step (scores q1 ka) va (a.2.2.2.1, a.2.2.2.2.1, a.2.2.2.2.2.1)))
    (step (masked (scores q2 kb')) vb' (step (scores q2 kb) vb (a.2.2.2.2.2.2.1, a.2.2.2.2.2.2.2.1, a.2.2.2.2.2.2.2.2.1)))
    (step (masked (scores q3 kb')) vb' (step (scores q3 kb) vb
      (a.2.2.2.2.2.2.2.2.2.1, a.2.2.2.2.2.2.2.2.2.2.1, a.2.2.2.2.2.2.2.2.2.2.2)))

/-- The last block of a grid point whose number of key blocks is odd: the diagonal one. -/
def tailOne (i : grid0.Coords) (h : ¬ k0_cond1 i = 1#1) (q0 q1 q2 q3 : Vec F S512x128 .bf16)
    (X2 : Vec F S4096x256 .bf16) (X3 : Vec F S256x4096 .bf16) (a : Carries F) : Carries F :=
  let ka := View.ld X2 (Rect.unit (s := S4096x256) (k0_off13 i) S512x128.size (k0_off13_inb i h))
  let kb := View.ld X2 (Rect.unit (s := S4096x256) (k0_off14 i) S512x128.size (k0_off14_inb i h))
  let va := View.ld X3 (Rect.unit (s := S256x4096) (k0_off15 i) S128x512.size (k0_off15_inb i h))
  let vb := View.ld X3 (Rect.unit (s := S256x4096) (k0_off16 i) S128x512.size (k0_off16_inb i h))
  pack
    (step (masked (scores q0 ka)) va (a.1, a.2.1, a.2.2.1))
    (step (masked (scores q1 ka)) va (a.2.2.2.1, a.2.2.2.2.1, a.2.2.2.2.2.1))
    (step (masked (scores q2 kb)) vb (a.2.2.2.2.2.2.1, a.2.2.2.2.2.2.2.1, a.2.2.2.2.2.2.2.2.1))
    (step (masked (scores q3 kb)) vb
      (a.2.2.2.2.2.2.2.2.2.1, a.2.2.2.2.2.2.2.2.2.2.1, a.2.2.2.2.2.2.2.2.2.2.2))

/-- The left and the right half of the columns of the query and output windows. -/
abbrev rectL : Rect S512x256 := Rect.unit (s := S512x256) ![0, 0] S512x128.size inb_S512x256_S512x128_0_0
abbrev rectR : Rect S512x256 := Rect.unit (s := S512x256) ![0, 128] S512x128.size inb_S512x256_S512x128_0_128
/-- The two small windows, whole. -/
abbrev rectLam : Rect S4x64 := Rect.unit (s := S4x64) ![0, 0] S4x64.size inb_S4x64_S4x64_0_0
abbrev rectG : Rect S128x1 := Rect.unit (s := S128x1) ![0, 0] S128x1.size inb_S128x1_S128x1_0_0

/-- The four carries after every key block of the grid point `i`, from the query, key and value windows. -/
def allAt (i : grid0.Coords) (X1 : Vec F S512x256 .bf16) (X2 : Vec F S4096x256 .bf16) (X3 : Vec F S256x4096 .bf16) : Carries F :=
  let qa := View.ld X1 rectL
  let qb := View.ld X1 rectR
  let a := carryAt i (k0_pay171 qa) (k0_pay172 qa) (k0_pay174 qb) (k0_pay175 qb) X2 X3 (k0_t1_loop i).trips
  if h : k0_cond1 i = 1#1 then tailTwo i h (k0_pay171 qa) (k0_pay172 qa) (k0_pay174 qb) (k0_pay175 qb) X2 X3 a
  else tailOne i h (k0_pay171 qa) (k0_pay172 qa) (k0_pay174 qb) (k0_pay175 qb) X2 X3 a

/-- The output window after the body: the left head's columns and the right head's, each from its two softmaxes. -/
def outAt (i : grid0.Coords) (X0 : Vec F S4x64 .f32) (X1 : Vec F S512x256 .bf16) (X2 : Vec F S4096x256 .bf16) (X3 : Vec F S256x4096 .bf16)
    (X4 : Vec F S128x1 .f32) : Vec F S512x256 .bf16 :=
  let a := allAt i X1 X2 X3
  View.canon [
    ⟨rectR, k0_pay1 (k0_pay168 (View.ld X0 rectLam)) a.2.2.2.2.2.2.2.1 a.2.2.2.2.2.2.2.2.1 a.2.2.2.2.2.2.2.2.2.2.1 a.2.2.2.2.2.2.2.2.2.2.2 (View.ld X4 rectG)⟩,
    ⟨rectL, k0_pay205 (k0_pay168 (View.ld X0 rectLam)) a.2.1 a.2.2.1 a.2.2.2.2.1 a.2.2.2.2.2.1 (View.ld X4 rectG)⟩]

/-- The two halves tile the output window. -/
theorem cover (p0 p1 : Vec F S512x128 .bf16) (y : S512x256.Idx) :
    ∃ pc ∈ ([⟨rectR, p1⟩, ⟨rectL, p0⟩] : List (View.Piece (Elt F) S512x256 .bf16)), y ∈ pc.1.set :=
  View.cover_of_tiled [⟨rectR, p1⟩, ⟨rectL, p0⟩] S512x128.size (by rfl) y

/-- The second loop of the body, over what is left of the trips, has no trip. -/
theorem no_rest (i : grid0.Coords) : (k0_t2_loop i).trips = 0 :=
  (by decide +kernel : ∀ i : grid0.Coords, (k0_t2_loop i).trips = 0) i

end Cert.Proof

end
-- ==== Proof.Body.lean ====
/- The kernel body's triple: on windows holding anything it leaves the output window at the block function's value. -/
module

public import proofs.«01_k».proof.Proof.Block

@[expose] public section

set_option maxRecDepth 65536

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- What the two loops of the body leave in the carries is `carryAt` at the last trip. -/
theorem carry_eq (c : Dev nD) (i : grid0.Coords)
    (arg3 : Memref sig .tc .vmem S4x64 .f32) (harg3 : arg3.IsWhole) (arg4 : Memref sig .tc .vmem S512x256 .bf16) (harg4 : arg4.IsWhole)
    (arg5 : Memref sig .tc .vmem S4096x256 .bf16) (harg5 : arg5.IsWhole) (arg6 : Memref sig .tc .vmem S256x4096 .bf16) (harg6 : arg6.IsWhole)
    (arg7 : Memref sig .tc .vmem S128x1 .f32) (harg7 : arg7.IsWhole) (arg8 : Memref sig .tc .vmem S512x256 .bf16) (harg8 : arg8.IsWhole)
    {v24 v25 v28 v29 : FVec F S512x128 .bf16} {v81 v82 : FVec F S1x512 .f32} {v83 : FVec F S128x512 .f32} {v84 v85 v110 : BitVec 32}
    {v81' v82' : FVec F S1x512 .f32} {v83' : FVec F S128x512 .f32} {v84' v85' : BitVec 32}
    {f5 : BufTy.Contents (Elt F) arg5.view.ty} {f6 : BufTy.Contents (Elt F) arg6.view.ty} :
    st_k0_t2 (F := F) Variants.none c none i arg3 harg3 arg4 harg4 arg5 harg5 arg6 harg6 arg7 harg7 arg8 harg8 v24 v25 v28 v29 v81' v82' v83'
        v84' v85' v110 f5 f6
        (st_k0_t1 (F := F) Variants.none c none i arg3 harg3 arg4 harg4 arg5 harg5 arg6 harg6 arg7 harg7 arg8 harg8 v24 v25 v28 v29 v81 v82 v83
          v84 v85 f5 f6 (pack start start start start) (k0_t1_loop i).trips) (k0_t2_loop i).trips
      = carryAt i v24 v25 v28 v29 (arg5.view.read (Elt F) f5) (arg6.view.read (Elt F) f6) (k0_t1_loop i).trips := by
  rw [no_rest, st_k0_t2_zero, st_eq _ _ _ _ _ _ _ _ _ _ _ _ _ _ _ _ _ _ _ _ _ _ _ _ _ _ _ _ (Nat.le_refl _)]

set_option maxHeartbeats 4000000 in
/-- The body runs from the five input windows at any contents, leaves them, and leaves the output window at `outAt`. -/
theorem sound_kernel (c : Dev nD) (E : Set ℕ) (i : grid0.Coords)
    (arg3 : Memref sig .tc .vmem S4x64 .f32) (harg3 : arg3.IsWhole) (arg4 : Memref sig .tc .vmem S512x256 .bf16) (harg4 : arg4.IsWhole)
    (arg5 : Memref sig .tc .vmem S4096x256 .bf16) (harg5 : arg5.IsWhole) (arg6 : Memref sig .tc .vmem S256x4096 .bf16) (harg6 : arg6.IsWhole)
    (arg7 : Memref sig .tc .vmem S128x1 .f32) (harg7 : arg7.IsWhole) (arg8 : Memref sig .tc .vmem S512x256 .bf16) (harg8 : arg8.IsWhole)
    (x0 : Vec F S4x64 .f32) (x1 : Vec F S512x256 .bf16) (x2 : Vec F S4096x256 .bf16) (x3 : Vec F S256x4096 .bf16) (x4 : Vec F S128x1 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (outAt i x0 x1 x2 x3 x4)) -∗ K ⟨⟩))
      ⊢ wp frame (wpE (defs₀ (F := F)) Variants.none c none) E
        (cc0_diff_attention i arg3 harg3 arg4 harg4 arg5 harg5 arg6 harg6 arg7 harg7 arg8 harg8) K := by
  simp only [cc0_diff_attention_eq_skeleton]; unfold cc0_diff_attention_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  by_cases h1 : k0_cond1 i = 1#1
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine (View.read_writes_eq_canon _ _ _ (cover _ _)).trans ?_
    unfold outAt allAt
    rw [dif_pos h1, ← carry_eq c i arg3 harg3 arg4 harg4 arg5 harg5 arg6 harg6 arg7 harg7 arg8 harg8]
    rfl
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine (View.read_writes_eq_canon _ _ _ (cover _ _)).trans ?_
    unfold outAt allAt
    rw [dif_neg h1, ← carry_eq c i arg3 harg3 arg4 harg4 arg5 harg5 arg6 harg6 arg7 harg7 arg8 harg8]
    rfl

end Cert.Proof

end
-- ==== Proof.Run.lean ====
/- The whole run of the kernel program: what the output array holds at the end, the arguments and the counters. -/
module

public import proofs.«01_k».proof.Proof.Body
public import Idealize.ShloMosaic.Lib.Pipeline.Value
public import Idealize.ShloMosaic.Lib.Claim

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data: every input window keeps its block, the output window holds the block function of the input
    blocks; the two windows on the projected array share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt (grid0.coords t) (iblk m c 0 t) (iblk m c 1 t) (iblk m c 2 t) (iblk m c 3 t) (iblk m c 4 t)
  Φ _ := Pipeline.ΦA spec0 c
  q w := Pipeline.shareOf spec0 w
  owed _ := 0

/-- The data's arrays are the contents at the region's entry. -/
theorem A_eq (c : Dev nD) (w : Fin cfg0.W) : (dats m 0 c).A w = V m c (Pipeline.arrRef spec0 w) := by
  dsimp only [dats]

/-- What the body leaves in each input window: its block. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
/-- What the body leaves in the output window. -/
theorem after_5 (c : Dev nD) (t : Fin cfg0.N) : (dats m 0 c).after 5 t
    = outAt (grid0.coords t) (iblk m c 0 t) (iblk m c 1 t) (iblk m c 2 t) (iblk m c 3 t) (iblk m c 4 t) := by dsimp only [dats]

/-- What the body finds in each input window: its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any grid point. -/
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body. -/
theorem row (t : Fin cfg0.N) : defs₀ (F := F) .tc cfg0.body (cfg0.bodyArgs t (cfg0.slots t)) = bodyAt0 t := by
  unfold defs₀; rw [Defs.onTc_tc]

/-- The library's body obligation, at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- Every execution ends with each window's array at what the data say, every other buffer as it was, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- Every execution leaves the argument arrays as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) ((θ_run defs _ _).mono (fun _ h => h.1) (run_quiescent m ρ))

/-- The frame: the arguments as they were, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_quiescent m ρ))

/-- Two grid points write different blocks. -/
theorem idx_inj : ∀ t t' : Fin cfg0.N, win0_5.index t = win0_5.index t' → t = t' :=
  (by decide +kernel : ∀ t t' : Fin grid0.N, win0_5.index t = win0_5.index t' → t = t')

/-- So two points' blocks share no index of the output array. -/
theorem disjoint : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj t t' h)

/-- Block `t` of the final output array is what point `t` computed. -/
theorem block_final (c : Dev nD) (t : Fin cfg0.N) :
    ((cfg0.win 5).blk t).view.read (Elt F) ((dats m 0 c).arrAt 5 cfg0.N)
      = outAt (grid0.coords t) (iblk m c 0 t) (iblk m c 1 t) (iblk m c 2 t) (iblk m c 3 t) (iblk m c 4 t) := by
  rw [(dats m 0 c).read_blk_arrAt_eq_flushed 5 disjoint cfg0.N t t.isLt (flush0_5 t)]
  show (cfg0.win 5).cut (grid0.coords t) ((dats m 0 c).after 5 t) = _
  rw [after_5]
  rfl

/-- The run with the output array named: it is the data's final array, and the arguments are as they were. -/
theorem run_named : θ_run defs (onTc (τ := τ) (main (F := F))) ⟨m, fun _ => 0, ρ⟩ (fun r => ∀ c : Dev nD,
      r.2.mem ((c.tc : Thread nD τ).loc main_v6) = (dats m 0 c).arrAt 5 cfg0.N) :=
  (θ_run defs _ _).mono (fun _ h c => (h.1 c).1 5) (run_quiescent m ρ)

end Cert.Proof

end
-- ==== Proof.Same.lean ====
/- The printed program and the one printed for the ideal instance have the same body table. -/
module
public import proofs.«01_k».proof.Defs
public import proofs.«01_k».proof.Proof.Gen.Kernel
public import proofs.«01_k».proof.Proof.Gen.KernelIdeal
@[expose] public section
set_option maxRecDepth 16384
noncomputable section
namespace Cert.Proof
open Idealize.ShloMosaic Idealize.SL.Sem
variable {F : FTy → Type} [FloatOps F]

/-- The two programs run the same kernel body. -/
theorem body_same : @Cert.Kernel.cc0_diff_attention F _ _ = @Cert.KernelIdeal.cc0_diff_attention F _ _ := rfl

/-- The two programs' kernel tables are the same. -/
theorem defs₀_same : @Cert.Kernel.defs₀ F _ _ = @Cert.KernelIdeal.defs₀ F _ _ := by
  unfold Cert.Kernel.defs₀ Cert.KernelIdeal.defs₀
  refine congrArg Defs.onTc ?_
  funext l x
  match l, x with
  | 0, (t, s) => exact congrFun rfl _

/-- The two programs' body tables are the same. -/
theorem defs_same : @Cert.Kernel.defs F _ _ = @Cert.KernelIdeal.defs F _ _ :=
  congrArg (Pipeline.defs (Cert.KernelIdeal.pcfgs (F := F))) defs₀_same

end Cert.Proof
end
-- ==== Proof.Finite.lean ====
/- The precondition read: what it says of an array whose elements it bounds. -/
module

public import proofs.«01_k».proof.Defs
public import Idealize.ShloMosaic.Lib.Pointwise

@[expose] public section

noncomputable section

namespace Cert.Proof

open Idealize.ShloMosaic Idealize.ShloMosaic.Tactic

/-- The shape relations the precondition states. -/
theorem finite_facts : Cert.Pre_finite.Facts :=
  ⟨by decide, by decide, by decide, by decide⟩

theorem ofBits_top : Ideal.ofBits FTy.f32 0x7F800000#32 = (⊤ : EReal) := by
  simp [Ideal.ofBits, Ideal.ieee]

/-- An extended real of absolute value below infinity is a real number. -/
theorem real_of_lt {x : EReal} (h : BitVec.ofBool (decide (max x (-x) < Ideal.ofBits FTy.f32 0x7F800000#32)) = 1#1) :
    x = ((x.toReal : ℝ) : EReal) := by
  rw [ofBits_top] at h
  have hlt : max x (-x) < ⊤ := by
    by_contra hn
    rw [decide_eq_false hn] at h
    exact absurd h (by decide)
  refine (EReal.coe_toReal ?_ ?_).symm
  · rintro rfl; simp at hlt
  · rintro rfl; simp at hlt

variable [Cert.Pre_finite.Facts]
variable (x : FVec Ideal Cert.Pre_finite.S16384x2048 .bf16) (v : FVec Ideal Cert.Pre_finite.S1024x16384 .bf16)
variable (a b c d : FVec Ideal Cert.Pre_finite.S64 .f32) (g : FVec Ideal Cert.Pre_finite.S128 .f32)

theorem finite_x (h : (Cert.Pre_finite.fn x v a b c d g).1 = fun _ => 1#1) (i : Fin 16384) (j : Fin 2048) :
    x (ix2 i j) = ((x (ix2 i j)).toReal : EReal) := by
  have e := congrFun h (ix2 i j)
  unfold Cert.Pre_finite.fn Cert.Pre_finite.fn_part1 at e
  pointwise at e
  exact real_of_lt e

theorem finite_v (h : (Cert.Pre_finite.fn x v a b c d g).2.1 = fun _ => 1#1) (i : Fin 1024) (j : Fin 16384) :
    v (ix2 i j) = ((v (ix2 i j)).toReal : EReal) := by
  have e := congrFun h (ix2 i j)
  unfold Cert.Pre_finite.fn Cert.Pre_finite.fn_part1 at e
  pointwise at e
  exact real_of_lt e

theorem finite_a (h : (Cert.Pre_finite.fn x v a b c d g).2.2.1 = fun _ => 1#1) (i : Fin 64) :
    a (ix1 i) = ((a (ix1 i)).toReal : EReal) := by
  have e := congrFun h (ix1 i)
  unfold Cert.Pre_finite.fn Cert.Pre_finite.fn_part1 at e
  pointwise at e
  exact real_of_lt e

theorem finite_b (h : (Cert.Pre_finite.fn x v a b c d g).2.2.2.1 = fun _ => 1#1) (i : Fin 64) :
    b (ix1 i) = ((b (ix1 i)).toReal : EReal) := by
  have e := congrFun h (ix1 i)
  unfold Cert.Pre_finite.fn Cert.Pre_finite.fn_part1 at e
  pointwise at e
  exact real_of_lt e

theorem finite_c (h : (Cert.Pre_finite.fn x v a b c d g).2.2.2.2.1 = fun _ => 1#1) (i : Fin 64) :
    c (ix1 i) = ((c (ix1 i)).toReal : EReal) := by
  have e := congrFun h (ix1 i)
  unfold Cert.Pre_finite.fn Cert.Pre_finite.fn_part1 at e
  pointwise at e
  exact real_of_lt e

theorem finite_d (h : (Cert.Pre_finite.fn x v a b c d g).2.2.2.2.2 = fun _ => 1#1) (i : Fin 64) :
    d (ix1 i) = ((d (ix1 i)).toReal : EReal) := by
  have e := congrFun h (ix1 i)
  unfold Cert.Pre_finite.fn Cert.Pre_finite.fn_part1 at e
  pointwise at e
  exact real_of_lt e

end Cert.Proof

end
-- ==== Proof.Payload.lean ====
/- What the kernel body's vector expressions are at one element, over the extended reals. -/
module

public import proofs.«01_k».proof.Proof.Block
public import Idealize.ShloMosaic.Lib.Pointwise

@[expose] public section

set_option maxRecDepth 16384

noncomputable section

namespace Cert.Proof

open Idealize.ShloMosaic
open Cert.KernelIdeal Cert.KernelIdeal.Gen

/-- The word of minus infinity. -/
theorem ofBits_bot : Ideal.ofBits FTy.f32 0xFF800000#32 = (⊥ : EReal) := by
  simp [Ideal.ofBits, Ideal.ieee]

/-- The scores at one key and one query: the sum over the lanes of the products. -/
theorem scores_apply (q k : Vec Ideal S512x128 .bf16) (r c : Fin 512) :
    scores (F := Ideal) q k (ix2 r c) = ∑ l : Fin 128, k (ix2 r l) * q (ix2 c l) := by
  unfold scores
  pointwise [k0_pay2]

/-- The running maximum after a block. -/
theorem step_max (s : FVec Ideal S512x512 .f32) (v : Vec Ideal S128x512 .bf16) (a : Carry Ideal) (c : Fin 512) :
    (step s v a).1 (ix2 0 c) = max (a.1 (ix2 0 c)) (Finset.univ.fold max ⊥ fun r : Fin 512 => s (ix2 r c)) := by
  unfold step
  pointwise [k0_pay10]
  rw [ofBits_bot]

/-- The running sum after a block. -/
theorem step_sum (s : FVec Ideal S512x512 .f32) (v : Vec Ideal S128x512 .bf16) (a : Carry Ideal) (c : Fin 512) :
    (step s v a).2.1 (ix2 0 c) = Ideal.exp2 (a.1 (ix2 0 c) - (step s v a).1 (ix2 0 c)) * a.2.1 (ix2 0 c)
      + ∑ r : Fin 512, Ideal.exp2 (s (ix2 r c) - (step s v a).1 (ix2 0 c)) := by
  unfold step
  pointwise [k0_pay13, k0_pay12, k0_pay11]
  rfl

/-- The running weighted sum after a block. -/
theorem step_acc (s : FVec Ideal S512x512 .f32) (v : Vec Ideal S128x512 .bf16) (a : Carry Ideal) (d : Fin 128) (c : Fin 512) :
    (step s v a).2.2 (ix2 d c) = Ideal.exp2 (a.1 (ix2 0 c) - (step s v a).1 (ix2 0 c)) * a.2.2 (ix2 d c)
      + ∑ r : Fin 512, v (ix2 d r) * Ideal.exp2 (s (ix2 r c) - (step s v a).1 (ix2 0 c)) := by
  unfold step
  pointwise [k0_pay14, k0_pay12, k0_pay11]
  rfl

/-- Before the first block the maximum is minus infinity. -/
theorem start_max (c : Fin 512) : (start (F := Ideal)).1 (ix2 0 c) = ⊥ := by
  unfold start
  pointwise [k0_pay179]
  exact ofBits_bot

/-- Before the first block the sum is zero. -/
theorem start_sum (c : Fin 512) : (start (F := Ideal)).2.1 (ix2 0 c) = 0 := by
  unfold start
  pointwise [k0_pay180]

/-- Before the first block the weighted sum is zero. -/
theorem start_acc (d : Fin 128) (c : Fin 512) : (start (F := Ideal)).2.2 (ix2 d c) = 0 := by
  unfold start
  pointwise [k0_pay181]

/-- The bit of a lane's number that tells the parts apart. -/
theorem lane_bit : ∀ l : Fin 128, IntOp.cmpi CmpIPredicate.eq (IntOp.andi (BitVec.ofNat 32 (l : ℕ)) 32#32) 0#32
    = if (l : ℕ) / 32 % 2 = 0 then 1#1 else 0#1 := by decide +kernel

theorem lane_bit_zero {l : Fin 128} (h : (l : ℕ) / 32 % 2 = 0) :
    IntOp.cmpi CmpIPredicate.eq (IntOp.andi (BitVec.ofNat 32 (l : ℕ)) 32#32) 0#32 = 1#1 := by rw [lane_bit, if_pos h]

theorem lane_bit_one {l : Fin 128} (h : ¬ (l : ℕ) / 32 % 2 = 0) :
    IntOp.cmpi CmpIPredicate.eq (IntOp.andi (BitVec.ofNat 32 (l : ℕ)) 32#32) 0#32 = 0#1 := by rw [lane_bit, if_neg h]

/-- The queries of the left head's first part: the lanes of the other part are zero. -/
theorem part171 (q : Vec Ideal S512x128 .bf16) (c : Fin 512) (l : Fin 128) :
    k0_pay171 (F := Ideal) q (ix2 c l) = if (l : ℕ) / 32 % 2 = 0 then q (ix2 c l) else 0 := by
  pointwise [k0_pay171, k0_pay169, k0_pay170]
  split
  next h => rw [lane_bit_zero h]; rfl
  next h => rw [lane_bit_one h]; rfl

/-- The queries of the left head's second part. -/
theorem part172 (q : Vec Ideal S512x128 .bf16) (c : Fin 512) (l : Fin 128) :
    k0_pay172 (F := Ideal) q (ix2 c l) = if (l : ℕ) / 32 % 2 = 0 then 0 else q (ix2 c l) := by
  pointwise [k0_pay172, k0_pay169, k0_pay170]
  split
  next h => rw [lane_bit_zero h]; rfl
  next h => rw [lane_bit_one h]; rfl

/-- The queries of the right head's first part. -/
theorem part174 (q : Vec Ideal S512x128 .bf16) (c : Fin 512) (l : Fin 128) :
    k0_pay174 (F := Ideal) q (ix2 c l) = if (l : ℕ) / 32 % 2 = 0 then q (ix2 c l) else 0 := by
  pointwise [k0_pay174, k0_pay169, k0_pay173]
  split
  next h => rw [lane_bit_zero h]; rfl
  next h => rw [lane_bit_one h]; rfl

/-- The queries of the right head's second part. -/
theorem part175 (q : Vec Ideal S512x128 .bf16) (c : Fin 512) (l : Fin 128) :
    k0_pay175 (F := Ideal) q (ix2 c l) = if (l : ℕ) / 32 % 2 = 0 then 0 else q (ix2 c l) := by
  pointwise [k0_pay175, k0_pay169, k0_pay173]
  split
  next h => rw [lane_bit_zero h]; rfl
  next h => rw [lane_bit_one h]; rfl

/-- The floor of a quotient by 64, as the program spells it. -/
def chunkWord (r : BitVec 32) : BitVec 32 :=
  Scalar.select
    (IntOp.andi
      (IntOp.cmpi CmpIPredicate.ne
        (IntOp.subi (BitVec.setWidth 32 (IntOp.cmpi CmpIPredicate.sgt r 0#32))
          (BitVec.setWidth 32 (IntOp.cmpi CmpIPredicate.slt r 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector r 64#32) 0#32))
    (IntOp.subi (IntOp.divsi ArithUnit.vector r 64#32) 1#32)
    (IntOp.divsi ArithUnit.vector r 64#32)

theorem chunkWord_eq : ∀ r : Fin 512, chunkWord (BitVec.ofNat 32 (r : ℕ)) = BitVec.ofNat 32 ((r : ℕ) / 64) := by decide +kernel

theorem chunk_le : ∀ a b : Fin 8, IntOp.cmpi CmpIPredicate.sle (IntOp.subi (BitVec.ofNat 32 (a : ℕ)) (BitVec.ofNat 32 (b : ℕ))) 0#32
    = if (a : ℕ) ≤ (b : ℕ) then 1#1 else 0#1 := by decide +kernel

/-- The diagonal block's scores: a key of a later chunk than the query's is masked. -/
theorem masked_apply (s : FVec Ideal S512x512 .f32) (r c : Fin 512) :
    masked s (ix2 r c) = if (r : ℕ) / 64 ≤ (c : ℕ) / 64 then s (ix2 r c) else ⊥ := by
  unfold masked rel
  pointwise [k0_pay199, k0_pay178, k0_pay177, k0_pay176]
  rw [ofBits_bot]
  show Scalar.select (IntOp.cmpi CmpIPredicate.sle (IntOp.subi (chunkWord (BitVec.ofNat 32 (r : ℕ))) (chunkWord (BitVec.ofNat 32 (c : ℕ)))) 0#32) _ _ = _
  rw [chunkWord_eq, chunkWord_eq, chunk_le ⟨(r : ℕ) / 64, by omega⟩ ⟨(c : ℕ) / 64, by omega⟩]
  split <;> rfl

/-- The factor of the second softmax. -/
theorem lam_apply (v0 : Vec Ideal S4x64 .f32) :
    k0_pay168 (F := Ideal) v0 (ix2 0 0) = Ideal.exp (∑ l : Fin 64, v0 (ix2 0 l) * v0 (ix2 1 l))
      - Ideal.exp (∑ l : Fin 64, v0 (ix2 2 l) * v0 (ix2 3 l)) + Ideal.ofBits .f32 0x3E4CCCCD#32 := by
  pointwise [k0_pay168]

/-- A head's output at one query and one column, from the two softmaxes' sums: their weighted difference, divided by its
    root mean square and scaled. -/
def headOut (lam l1 l2 : EReal) (acc1 acc2 g : Fin 128 → EReal) (d : Fin 128) : EReal :=
  let o : Fin 128 → EReal := fun d => acc1 d * Ideal.div 1 l1 - lam * (acc2 d * Ideal.div 1 l2)
  o d * Ideal.rsqrt (Ideal.div (∑ e, o e * o e) (Ideal.ofBits .f32 0x43000000#32) + Ideal.ofBits .f32 0x358637BD#32) * g d
    * Ideal.ofBits .f32 0x3F4CCCCD#32

/-- The left head's output. -/
theorem left_apply (lam : FVec Ideal S1x1 .f32) (l1 : FVec Ideal S1x512 .f32) (acc1 : FVec Ideal S128x512 .f32)
    (l2 : FVec Ideal S1x512 .f32) (acc2 : FVec Ideal S128x512 .f32) (g : Vec Ideal S128x1 .f32) (c : Fin 512) (d : Fin 128) :
    k0_pay205 (F := Ideal) lam l1 acc1 l2 acc2 g (ix2 c d)
      = headOut (lam (ix2 0 0)) (l1 (ix2 0 c)) (l2 (ix2 0 c)) (fun e => acc1 (ix2 e c)) (fun e => acc2 (ix2 e c)) (fun e => g (ix2 e 0)) d := by
  unfold headOut
  pointwise [k0_pay205]

/-- The right head's output. -/
theorem right_apply (lam : FVec Ideal S1x1 .f32) (l1 : FVec Ideal S1x512 .f32) (acc1 : FVec Ideal S128x512 .f32)
    (l2 : FVec Ideal S1x512 .f32) (acc2 : FVec Ideal S128x512 .f32) (g : Vec Ideal S128x1 .f32) (c : Fin 512) (d : Fin 128) :
    k0_pay1 (F := Ideal) lam l1 acc1 l2 acc2 g (ix2 c d)
      = headOut (lam (ix2 0 0)) (l1 (ix2 0 c)) (l2 (ix2 0 c)) (fun e => acc1 (ix2 e c)) (fun e => acc2 (ix2 e c)) (fun e => g (ix2 e 0)) d := by
  unfold headOut
  pointwise [k0_pay1]

end Cert.Proof

end
-- ==== Proof.Online.lean ====
/- The block by block softmax over the extended reals: what the running maximum, sum and weighted sum hold. -/
module

public import Idealize.ShloMosaic.PureOps.Ideal
public import Idealize.ShloMosaic.PureOps.Ideal.Laws

@[expose] public section

noncomputable section

namespace Cert.Proof

open Idealize.ShloMosaic

/-- A sum of real numbers taken over the extended reals. -/
theorem sum_coe {ι : Type} (S : Finset ι) (f : ι → ℝ) : ∑ i ∈ S, (f i : EReal) = ((∑ i ∈ S, f i : ℝ) : EReal) := by
  classical
  induction S using Finset.induction_on with
  | empty => simp
  | insert a S h ih => rw [Finset.sum_insert h, Finset.sum_insert h, ih, EReal.coe_add]

/-- The score `s` has weight `w`: a masked score has weight zero, a real one two to its power. -/
def Weighs (s : EReal) (w : ℝ) : Prop := (s = ⊥ ∧ w = 0) ∨ ∃ x : ℝ, s = (x : EReal) ∧ w = Real.rpow 2 x

/-- The carry `m`, `l`, `acc` stands for the total weight `W` and the weighted sums `A`: nothing taken in yet, or all of them
    scaled by two to the power of minus the running maximum. -/
def Holds {ι : Type} (W : ℝ) (A : ι → ℝ) (m l : EReal) (acc : ι → EReal) : Prop :=
  (m = ⊥ ∧ l = 0 ∧ (∀ d, acc d = 0) ∧ W = 0 ∧ ∀ d, A d = 0)
    ∨ ∃ M : ℝ, m = (M : EReal) ∧ l = ((Real.rpow 2 (-M) * W : ℝ) : EReal) ∧ ∀ d, acc d = ((Real.rpow 2 (-M) * A d : ℝ) : EReal)

/-- Two to the power of a score's distance from the maximum is its scaled weight. -/
theorem exp2_sub {s : EReal} {w : ℝ} (h : Weighs s w) (M : ℝ) : Ideal.exp2 (s - (M : EReal)) = ((Real.rpow 2 (-M) * w : ℝ) : EReal) := by
  rcases h with ⟨rfl, rfl⟩ | ⟨x, rfl, rfl⟩
  · rw [EReal.bot_sub, mul_zero]; rfl
  · rw [← EReal.coe_sub]
    show ((Real.rpow 2 (x - M) : ℝ) : EReal) = _
    congr 1
    show (2 : ℝ) ^ (x - M) = (2 : ℝ) ^ (-M) * (2 : ℝ) ^ x
    rw [← Real.rpow_add two_pos]; congr 1; ring

/-- The running maximum after a block that has an unmasked key is a real number. -/
theorem max_real {n : ℕ} {s : Fin n → EReal} {w : Fin n → ℝ} (hs : ∀ r, Weighs (s r) (w r)) (hne : ∃ r, s r ≠ ⊥) {m : EReal}
    (hm : m ≠ ⊤) : ∃ M : ℝ, max m (Finset.univ.fold max ⊥ s) = (M : EReal) := by
  have hsup : Finset.univ.fold max ⊥ s = Finset.univ.sup s := rfl
  rw [hsup]
  have htop : max m (Finset.univ.sup s) ≠ ⊤ := by
    refine ne_of_lt (max_lt (lt_top_iff_ne_top.2 hm) ((Finset.sup_lt_iff bot_lt_top).2 fun r _ => ?_))
    rcases hs r with ⟨h, _⟩ | ⟨x, h, _⟩
    · rw [h]; exact bot_lt_top
    · rw [h]; exact EReal.coe_lt_top x
  have hbot : max m (Finset.univ.sup s) ≠ ⊥ := by
    obtain ⟨r, hr⟩ := hne
    intro h
    exact hr (le_bot_iff.1 (h ▸ (Finset.le_sup (Finset.mem_univ r)).trans (le_max_right _ _)))
  exact ⟨_, (EReal.coe_toReal htop hbot).symm⟩

/-- One block taken in: the carry stands for the weights so far and the block's. -/
theorem holds_step {ι : Type} {n : ℕ} {W : ℝ} {A : ι → ℝ} {m l : EReal} {acc : ι → EReal} (h : Holds W A m l acc)
    {s : Fin n → EReal} {w : Fin n → ℝ} (hs : ∀ r, Weighs (s r) (w r)) (hne : ∃ r, s r ≠ ⊥)
    {v : ι → Fin n → EReal} {u : ι → Fin n → ℝ} (hv : ∀ d r, v d r = (u d r : EReal))
    {m' : EReal} (hm' : m' = max m (Finset.univ.fold max ⊥ s)) {l' : EReal}
    (hl' : l' = Ideal.exp2 (m - m') * l + ∑ r, Ideal.exp2 (s r - m')) {acc' : ι → EReal}
    (hacc' : ∀ d, acc' d = Ideal.exp2 (m - m') * acc d + ∑ r, v d r * Ideal.exp2 (s r - m')) :
    Holds (W + ∑ r, w r) (fun d => A d + ∑ r, u d r * w r) m' l' acc' := by
  have hmt : m ≠ ⊤ := by
    rcases h with ⟨rfl, _⟩ | ⟨M, rfl, _⟩
    · exact bot_ne_top
    · exact EReal.coe_ne_top M
  obtain ⟨M', hM'⟩ := max_real hs hne hmt
  rw [hM'] at hm'
  subst hm'
  have e : ∀ r, Ideal.exp2 (s r - (M' : EReal)) = ((Real.rpow 2 (-M') * w r : ℝ) : EReal) := fun r => exp2_sub (hs r) M'
  have eW : (∑ r, Ideal.exp2 (s r - (M' : EReal))) = ((Real.rpow 2 (-M') * ∑ r, w r : ℝ) : EReal) := by
    rw [Finset.mul_sum, ← sum_coe]; exact Finset.sum_congr rfl fun r _ => e r
  have eA : ∀ d, (∑ r, v d r * Ideal.exp2 (s r - (M' : EReal))) = ((Real.rpow 2 (-M') * ∑ r, u d r * w r : ℝ) : EReal) := by
    intro d
    rw [Finset.mul_sum, ← sum_coe]
    refine Finset.sum_congr rfl fun r _ => ?_
    rw [e, hv, ← EReal.coe_mul]; congr 1; ring
  right
  refine ⟨M', rfl, ?_, fun d => ?_⟩
  · rw [hl', eW]
    rcases h with ⟨rfl, rfl, _, rfl, _⟩ | ⟨M, rfl, rfl, _⟩
    · rw [mul_zero, zero_add, zero_add]
    · have e0 := exp2_sub (Or.inr ⟨M, rfl, rfl⟩ : Weighs (M : EReal) (Real.rpow 2 M)) M'
      rw [e0, ← EReal.coe_mul, ← EReal.coe_add]
      congr 1
      have e1 : Real.rpow 2 M * Real.rpow 2 (-M) = 1 := by
        show (2 : ℝ) ^ M * (2 : ℝ) ^ (-M) = 1
        rw [← Real.rpow_add two_pos, add_neg_cancel, Real.rpow_zero]
      linear_combination (Real.rpow 2 (-M') * W) * e1
  · show acc' d = ((Real.rpow 2 (-M') * (A d + ∑ r, u d r * w r) : ℝ) : EReal)
    rw [hacc', eA]
    rcases h with ⟨rfl, rfl, h0, _, hA⟩ | ⟨M, rfl, rfl, h0⟩
    · rw [h0, hA, mul_zero, zero_add, zero_add]
    · have e0 := exp2_sub (Or.inr ⟨M, rfl, rfl⟩ : Weighs (M : EReal) (Real.rpow 2 M)) M'
      rw [e0, h0, ← EReal.coe_mul, ← EReal.coe_add]
      congr 1
      have e1 : Real.rpow 2 M * Real.rpow 2 (-M) = 1 := by
        show (2 : ℝ) ^ M * (2 : ℝ) ^ (-M) = 1
        rw [← Real.rpow_add two_pos, add_neg_cancel, Real.rpow_zero]
      linear_combination (Real.rpow 2 (-M') * A d) * e1

/-- What the carry gives in the end: the weighted sums divided by the total weight. -/
theorem holds_quot {ι : Type} {W : ℝ} {A : ι → ℝ} {m l : EReal} {acc : ι → EReal} (h : Holds W A m l acc) (hW : 0 < W) (d : ι) :
    acc d * Ideal.div 1 l = ((A d / W : ℝ) : EReal) := by
  rcases h with ⟨_, _, _, h, _⟩ | ⟨M, _, rfl, hA⟩
  · exact absurd h hW.ne'
  · have hp : (0 : ℝ) < Real.rpow 2 (-M) := Real.rpow_pos_of_pos two_pos _
    have hne : ((Real.rpow 2 (-M) * W : ℝ) : EReal) ≠ 0 := by
      rw [Ne, EReal.coe_eq_zero]; exact (mul_pos hp hW).ne'
    rw [hA, Ideal.div, if_neg hne, one_mul, ← EReal.coe_inv, ← EReal.coe_mul]
    congr 1
    field_simp

end Cert.Proof

end
-- ==== Proof.Keys.lean ====
/- The key blocks of a grid point: where they lie in the key and value windows, and what the four carries hold after all of them. -/
module

public import proofs.«01_k».proof.Proof.Payload
public import proofs.«01_k».proof.Proof.Online

@[expose] public section

set_option maxRecDepth 16384

noncomputable section

namespace Cert.Proof

open Idealize.ShloMosaic
open Cert.KernelIdeal Cert.KernelIdeal.Gen

/-! ### Closed forms -/

theorem trips_eq : ∀ i : grid0.Coords, (k0_t1_loop i).trips = (i 2).val / 2 := by decide +kernel
theorem cond_iff : ∀ i : grid0.Coords, k0_cond1 i = 1#1 ↔ (i 2).val % 2 = 1 := by decide +kernel

theorem off1_0 : ∀ (i : grid0.Coords) (k : Fin (k0_t1_loop i).trips), k0_off1 i k 0#32 = ![1024 * k.val, 0] := by decide +kernel
theorem off1_1 : ∀ (i : grid0.Coords) (k : Fin (k0_t1_loop i).trips), k0_off1 i k 1#32 = ![1024 * k.val + 512, 0] := by decide +kernel
theorem off2_0 : ∀ (i : grid0.Coords) (k : Fin (k0_t1_loop i).trips), k0_off2 i k 0#32 = ![1024 * k.val, 128] := by decide +kernel
theorem off2_1 : ∀ (i : grid0.Coords) (k : Fin (k0_t1_loop i).trips), k0_off2 i k 1#32 = ![1024 * k.val + 512, 128] := by decide +kernel
theorem off3_0 : ∀ (i : grid0.Coords) (k : Fin (k0_t1_loop i).trips), k0_off3 i k 0#32 = ![0, 1024 * k.val] := by decide +kernel
theorem off3_1 : ∀ (i : grid0.Coords) (k : Fin (k0_t1_loop i).trips), k0_off3 i k 1#32 = ![0, 1024 * k.val + 512] := by decide +kernel
theorem off4_0 : ∀ (i : grid0.Coords) (k : Fin (k0_t1_loop i).trips), k0_off4 i k 0#32 = ![128, 1024 * k.val] := by decide +kernel
theorem off4_1 : ∀ (i : grid0.Coords) (k : Fin (k0_t1_loop i).trips), k0_off4 i k 1#32 = ![128, 1024 * k.val + 512] := by decide +kernel
theorem off9_0 : ∀ i : grid0.Coords, (i 2).val % 2 = 1 → k0_off9 i 0#32 = ![512 * (i 2).val - 512, 0] := by decide +kernel
theorem off9_1 : ∀ i : grid0.Coords, (i 2).val % 2 = 1 → k0_off9 i 1#32 = ![512 * (i 2).val, 0] := by decide +kernel
theorem off10_0 : ∀ i : grid0.Coords, (i 2).val % 2 = 1 → k0_off10 i 0#32 = ![512 * (i 2).val - 512, 128] := by decide +kernel
theorem off10_1 : ∀ i : grid0.Coords, (i 2).val % 2 = 1 → k0_off10 i 1#32 = ![512 * (i 2).val, 128] := by decide +kernel
theorem off11_0 : ∀ i : grid0.Coords, (i 2).val % 2 = 1 → k0_off11 i 0#32 = ![0, 512 * (i 2).val - 512] := by decide +kernel
theorem off11_1 : ∀ i : grid0.Coords, (i 2).val % 2 = 1 → k0_off11 i 1#32 = ![0, 512 * (i 2).val] := by decide +kernel
theorem off12_0 : ∀ i : grid0.Coords, (i 2).val % 2 = 1 → k0_off12 i 0#32 = ![128, 512 * (i 2).val - 512] := by decide +kernel
theorem off12_1 : ∀ i : grid0.Coords, (i 2).val % 2 = 1 → k0_off12 i 1#32 = ![128, 512 * (i 2).val] := by decide +kernel
theorem off13_eq : ∀ i : grid0.Coords, ¬ (i 2).val % 2 = 1 → k0_off13 i = ![512 * (i 2).val, 0] := by decide +kernel
theorem off14_eq : ∀ i : grid0.Coords, ¬ (i 2).val % 2 = 1 → k0_off14 i = ![512 * (i 2).val, 128] := by decide +kernel
theorem off15_eq : ∀ i : grid0.Coords, ¬ (i 2).val % 2 = 1 → k0_off15 i = ![0, 512 * (i 2).val] := by decide +kernel
theorem off16_eq : ∀ i : grid0.Coords, ¬ (i 2).val % 2 = 1 → k0_off16 i = ![128, 512 * (i 2).val] := by decide +kernel

/-! ### Loads -/

/-- A key block loaded at row `B` and column `o` of the key window. -/
theorem load_key (X2 : Vec Ideal S4096x256 .bf16) (off : Fin 2 → Nat) (h : ∀ a, off a + S512x128.size a ≤ S4096x256.size a) {B o : ℕ}
    (e : off = ![B, o]) (r : Fin 512) (l : Fin 128) (hB : B + r.val < 4096) (ho : o + l.val < 256) :
    View.ld X2 (Rect.unit (s := S4096x256) off S512x128.size h) (ix2 r l) = X2 (ix2 ⟨B + r.val, hB⟩ ⟨o + l.val, ho⟩) := by
  subst e
  pointwise

/-- A value block loaded at row `o` and column `B` of the value window. -/
theorem load_value (X3 : Vec Ideal S256x4096 .bf16) (off : Fin 2 → Nat) (h : ∀ a, off a + S128x512.size a ≤ S256x4096.size a) {B o : ℕ}
    (e : off = ![o, B]) (d : Fin 128) (r : Fin 512) (hB : B + r.val < 4096) (ho : o + d.val < 256) :
    View.ld X3 (Rect.unit (s := S256x4096) off S128x512.size h) (ix2 d r) = X3 (ix2 ⟨o + d.val, ho⟩ ⟨B + r.val, hB⟩) := by
  subst e
  pointwise

/-! ### The four carries -/

/-- The carry `a` stands, at query column `c`, for the first `B` keys with weights `w` and values `u`. -/
def HoldsAt (w : ℕ → ℝ) (u : Fin 128 → ℕ → ℝ) (B : ℕ) (c : Fin 512) (a : Carry Ideal) : Prop :=
  Holds (∑ j ∈ Finset.range B, w j) (fun d => ∑ j ∈ Finset.range B, u d j * w j) (a.1 (ix2 0 c)) (a.2.1 (ix2 0 c))
    (fun d => a.2.2 (ix2 d c))

theorem holdsAt_start (w : ℕ → ℝ) (u : Fin 128 → ℕ → ℝ) (c : Fin 512) : HoldsAt w u 0 c start :=
  Or.inl ⟨start_max c, start_sum c, fun d => start_acc d c, Finset.sum_range_zero _, fun d => Finset.sum_range_zero _⟩

/-- The next block of 512 keys taken in. -/
theorem holdsAt_next {w : ℕ → ℝ} {u : Fin 128 → ℕ → ℝ} {B : ℕ} {c : Fin 512} {a : Carry Ideal} (h : HoldsAt w u B c a)
    {s : FVec Ideal S512x512 .f32} {v : Vec Ideal S128x512 .bf16} (hs : ∀ r : Fin 512, Weighs (s (ix2 r c)) (w (B + r.val)))
    (hne : ∃ r : Fin 512, s (ix2 r c) ≠ ⊥) (hv : ∀ (d : Fin 128) (r : Fin 512), v (ix2 d r) = (u d (B + r.val) : EReal)) :
    HoldsAt w u (B + 512) c (step s v a) := by
  have e : ∀ f : ℕ → ℝ, ∑ j ∈ Finset.range (B + 512), f j = ∑ j ∈ Finset.range B, f j + ∑ r : Fin 512, f (B + r.val) := by
    intro f
    rw [Finset.sum_range_add, Finset.sum_range (fun x => f (B + x))]
  unfold HoldsAt
  simp only [e]
  exact holds_step h hs hne hv (step_max s v a c) (step_sum s v a c) (fun d => step_acc s v a d c)

/-- The weight of key `j` for query column `c` of query block `n`, with score `x j`: zero where the key's chunk is later. -/
def weight (n : ℕ) (c : Fin 512) (x : ℕ → ℝ) (j : ℕ) : ℝ := if j / 64 ≤ (512 * n + c.val) / 64 then Real.rpow 2 (x j) else 0

/-- A block before the diagonal one taken in. -/
theorem holdsAt_whole {n : ℕ} {x : ℕ → ℝ} {u : Fin 128 → ℕ → ℝ} {B : ℕ} {c : Fin 512} {a : Carry Ideal} (hB : B + 512 ≤ 512 * n)
    {s : FVec Ideal S512x512 .f32} {v : Vec Ideal S128x512 .bf16} (hs : ∀ r : Fin 512, s (ix2 r c) = (x (B + r.val) : EReal))
    (hv : ∀ (d : Fin 128) (r : Fin 512), v (ix2 d r) = (u d (B + r.val) : EReal)) (h : HoldsAt (weight n c x) u B c a) :
    HoldsAt (weight n c x) u (B + 512) c (step s v a) := by
  refine holdsAt_next h (fun r => Or.inr ⟨x (B + r.val), hs r, ?_⟩) ⟨0, ?_⟩ hv
  · unfold weight
    rw [if_pos (by have := r.isLt; omega)]
  · rw [hs]; exact EReal.coe_ne_bot _

/-- The diagonal block taken in. -/
theorem holdsAt_masked {n : ℕ} {x : ℕ → ℝ} {u : Fin 128 → ℕ → ℝ} {c : Fin 512} {a : Carry Ideal}
    {s : FVec Ideal S512x512 .f32} {v : Vec Ideal S128x512 .bf16} (hs : ∀ r : Fin 512, s (ix2 r c) = (x (512 * n + r.val) : EReal))
    (hv : ∀ (d : Fin 128) (r : Fin 512), v (ix2 d r) = (u d (512 * n + r.val) : EReal)) (h : HoldsAt (weight n c x) u (512 * n) c a) :
    HoldsAt (weight n c x) u (512 * n + 512) c (step (masked s) v a) := by
  refine holdsAt_next h (fun r => ?_) ⟨0, ?_⟩ hv
  · rw [masked_apply]
    unfold weight
    by_cases hr : (r : ℕ) / 64 ≤ (c : ℕ) / 64
    · rw [if_pos hr, if_pos (by omega)]
      exact Or.inr ⟨_, hs r, rfl⟩
    · rw [if_neg hr, if_neg (by omega)]
      exact Or.inl ⟨rfl, rfl⟩
  · rw [masked_apply, if_pos (by show 0 / 64 ≤ _; omega), hs]; exact EReal.coe_ne_bot _

/-- After the diagonal block every key is in: the later ones weigh nothing. -/
theorem holdsAt_all {n : ℕ} (hn : n < 8) {x : ℕ → ℝ} {u : Fin 128 → ℕ → ℝ} {c : Fin 512} {a : Carry Ideal}
    (h : HoldsAt (weight n c x) u (512 * n + 512) c a) : HoldsAt (weight n c x) u 4096 c a := by
  have hz : ∀ j, 512 * n + 512 ≤ j → weight n c x j = 0 := by
    intro j hj
    unfold weight
    rw [if_neg (by have := c.isLt; omega)]
  have e : ∀ f : ℕ → ℝ, (∀ j, 512 * n + 512 ≤ j → f j = 0) → ∑ j ∈ Finset.range 4096, f j = ∑ j ∈ Finset.range (512 * n + 512), f j := by
    intro f hf
    symm
    refine Finset.sum_subset (fun j hj => Finset.mem_range.2 (by have := Finset.mem_range.1 hj; omega)) fun j _ hj => hf j ?_
    exact not_lt.1 fun hlt => hj (Finset.mem_range.2 hlt)
  unfold HoldsAt at h ⊢
  rw [e _ hz]
  have e2 : (fun d => ∑ j ∈ Finset.range 4096, u d j * weight n c x j) = fun d => ∑ j ∈ Finset.range (512 * n + 512), u d j * weight n c x j :=
    funext fun d => e _ fun j hj => by rw [hz j hj, mul_zero]
  rw [e2]
  exact h

/-- The score of part `p` of the head in half `o` of the windows: the sum over the two rotary halves and the part's lanes. -/
def score (p o : ℕ) (xq xk : ℕ → ℕ → ℝ) (c j : ℕ) : ℝ :=
  ∑ e : Fin 2, ∑ r : Fin 32, xq c (o + (e.val * 64 + p * 32 + r.val)) * xk j (o + (e.val * 64 + p * 32 + r.val))

/-- A sum over the lanes that leaves out the other part's is the sum over the part's. -/
theorem sum_part (p : ℕ) (hp : p < 2) (f : ℕ → ℝ) :
    ∑ l : Fin 128, (if (l : ℕ) / 32 % 2 = p then f l else 0) = ∑ e : Fin 2, ∑ r : Fin 32, f (e.val * 64 + p * 32 + r.val) := by
  have e : ∑ l : Fin 128, (if (l : ℕ) / 32 % 2 = p then f l else 0)
      = ∑ l ∈ Finset.range (32 + 32 + 32 + 32), (if l / 32 % 2 = p then f l else 0) :=
    (Finset.sum_range (fun l => if l / 32 % 2 = p then f l else 0)).symm
  rw [e, Finset.sum_range_add, Finset.sum_range_add, Finset.sum_range_add]
  have hin : ∀ B k : ℕ, B = 32 * k → k % 2 = p → ∑ l ∈ Finset.range 32, (if (B + l) / 32 % 2 = p then f (B + l) else 0) = ∑ r : Fin 32, f (B + r.val) := by
    intro B k hB hk
    rw [Finset.sum_range]
    exact Finset.sum_congr rfl fun r _ => if_pos (by have := r.isLt; omega)
  have hout : ∀ B k : ℕ, B = 32 * k → k % 2 ≠ p → ∑ l ∈ Finset.range 32, (if (B + l) / 32 % 2 = p then f (B + l) else 0) = 0 := by
    intro B k hB hk
    exact Finset.sum_eq_zero fun l hl => if_neg (by have := Finset.mem_range.1 hl; omega)
  have h0 : ∑ l ∈ Finset.range 32, (if l / 32 % 2 = p then f l else 0) = ∑ l ∈ Finset.range 32, (if (0 + l) / 32 % 2 = p then f (0 + l) else 0) := by
    simp only [zero_add]
  rw [h0, Fin.sum_univ_two]
  interval_cases p
  · rw [hin 0 0 rfl rfl, hout 32 1 rfl (by decide), hin (32 + 32) 2 rfl rfl, hout (32 + 32 + 32) 3 rfl (by decide), add_zero, add_zero]
    rfl
  · rw [hout 0 0 rfl (by decide), hin 32 1 rfl rfl, hout (32 + 32) 2 rfl (by decide), hin (32 + 32 + 32) 3 rfl rfl, zero_add, add_zero]
    rfl

/-- What the windows hold: real numbers. -/
structure Reals (X1 : Vec Ideal S512x256 .bf16) (X2 : Vec Ideal S4096x256 .bf16) (X3 : Vec Ideal S256x4096 .bf16) (xq xk xv : ℕ → ℕ → ℝ) : Prop where
  q : ∀ (c : Fin 512) (l : Fin 256), X1 (ix2 c l) = (xq c.val l.val : EReal)
  k : ∀ (j : Fin 4096) (l : Fin 256), X2 (ix2 j l) = (xk j.val l.val : EReal)
  v : ∀ (d : Fin 256) (j : Fin 4096), X3 (ix2 d j) = (xv d.val j.val : EReal)

section

variable {X1 : Vec Ideal S512x256 .bf16} {X2 : Vec Ideal S4096x256 .bf16} {X3 : Vec Ideal S256x4096 .bf16} {xq xk xv : ℕ → ℕ → ℝ}

/-- The queries of one part, as real numbers. -/
def IsPart (p o : ℕ) (xq : ℕ → ℕ → ℝ) (c : Fin 512) (Q : Vec Ideal S512x128 .bf16) : Prop :=
  ∀ l : Fin 128, Q (ix2 c l) = ((if (l : ℕ) / 32 % 2 = p then xq c.val (o + l.val) else 0 : ℝ) : EReal)

theorem left_half (X1 : Vec Ideal S512x256 .bf16) (c : Fin 512) (l : Fin 128) :
    View.ld X1 rectL (ix2 c l) = X1 (ix2 c ⟨0 + l.val, by omega⟩) := by
  pointwise

theorem right_half (X1 : Vec Ideal S512x256 .bf16) (c : Fin 512) (l : Fin 128) :
    View.ld X1 rectR (ix2 c l) = X1 (ix2 c ⟨128 + l.val, by omega⟩) := by
  pointwise

theorem isPart_0 (hX : Reals X1 X2 X3 xq xk xv) (c : Fin 512) : IsPart 0 0 xq c (k0_pay171 (View.ld X1 rectL)) := by
  intro l
  rw [part171, left_half, hX.q]
  split <;> simp

theorem isPart_1 (hX : Reals X1 X2 X3 xq xk xv) (c : Fin 512) : IsPart 1 0 xq c (k0_pay172 (View.ld X1 rectL)) := by
  intro l
  rw [part172, left_half, hX.q]
  rcases Nat.mod_two_eq_zero_or_one ((l : ℕ) / 32) with h | h <;> simp [h]

theorem isPart_2 (hX : Reals X1 X2 X3 xq xk xv) (c : Fin 512) : IsPart 0 128 xq c (k0_pay174 (View.ld X1 rectR)) := by
  intro l
  rw [part174, right_half, hX.q]
  split <;> simp

theorem isPart_3 (hX : Reals X1 X2 X3 xq xk xv) (c : Fin 512) : IsPart 1 128 xq c (k0_pay175 (View.ld X1 rectR)) := by
  intro l
  rw [part175, right_half, hX.q]
  rcases Nat.mod_two_eq_zero_or_one ((l : ℕ) / 32) with h | h <;> simp [h]

/-- The scores of a key block, as real numbers. -/
theorem scores_real (hX : Reals X1 X2 X3 xq xk xv) {p o : ℕ} (hp : p < 2) (ho : o ≤ 128) {c : Fin 512} {Q : Vec Ideal S512x128 .bf16}
    (hQ : IsPart p o xq c Q) (off : Fin 2 → Nat) (h : ∀ a, off a + S512x128.size a ≤ S4096x256.size a) {B : ℕ} (e : off = ![B, o])
    (hB : B + 512 ≤ 4096) (r : Fin 512) :
    scores Q (View.ld X2 (Rect.unit (s := S4096x256) off S512x128.size h)) (ix2 r c) = (score p o xq xk c.val (B + r.val) : EReal) := by
  rw [scores_apply]
  have e1 : ∀ l : Fin 128, View.ld X2 (Rect.unit (s := S4096x256) off S512x128.size h) (ix2 r l) * Q (ix2 c l)
      = ((if (l : ℕ) / 32 % 2 = p then xq c.val (o + l.val) * xk (B + r.val) (o + l.val) else 0 : ℝ) : EReal) := by
    intro l
    rw [load_key X2 off h e r l (by omega) (by omega), hX.k, hQ, ← EReal.coe_mul]
    congr 1
    split
    · exact mul_comm _ _
    · exact mul_zero _
  rw [Finset.sum_congr rfl fun l _ => e1 l, sum_coe, sum_part p hp (fun l => xq c.val (o + l) * xk (B + r.val) (o + l))]
  rfl

/-- A value block, as real numbers. -/
theorem value_real (hX : Reals X1 X2 X3 xq xk xv) {o : ℕ} (ho : o ≤ 128) (off : Fin 2 → Nat) (h : ∀ a, off a + S128x512.size a ≤ S256x4096.size a)
    {B : ℕ} (e : off = ![o, B]) (hB : B + 512 ≤ 4096) (d : Fin 128) (r : Fin 512) :
    View.ld X3 (Rect.unit (s := S256x4096) off S128x512.size h) (ix2 d r) = (xv (o + d.val) (B + r.val) : EReal) := by
  rw [load_value X3 off h e d r (by omega) (by omega), hX.v]

/-- The carry of part `p` of the head in half `o`, at column `c` of query block `n`, stands for the first `B` keys. -/
abbrev Stands (n : ℕ) (xq xk xv : ℕ → ℕ → ℝ) (c : Fin 512) (B p o : ℕ) (a : Carry Ideal) : Prop :=
  HoldsAt (weight n c (score p o xq xk c.val)) (fun d j => xv (o + d.val) j) B c a

/-- All four carries stand for the first `B` keys. -/
structure Four (n : ℕ) (xq xk xv : ℕ → ℕ → ℝ) (c : Fin 512) (B : ℕ) (a : Carries Ideal) : Prop where
  a0 : Stands n xq xk xv c B 0 0 (a.1, a.2.1, a.2.2.1)
  a1 : Stands n xq xk xv c B 1 0 (a.2.2.2.1, a.2.2.2.2.1, a.2.2.2.2.2.1)
  a2 : Stands n xq xk xv c B 0 128 (a.2.2.2.2.2.2.1, a.2.2.2.2.2.2.2.1, a.2.2.2.2.2.2.2.2.1)
  a3 : Stands n xq xk xv c B 1 128 (a.2.2.2.2.2.2.2.2.2.1, a.2.2.2.2.2.2.2.2.2.2.1, a.2.2.2.2.2.2.2.2.2.2.2)

theorem four_trip (hX : Reals X1 X2 X3 xq xk xv) (i : grid0.Coords) (k : Fin (k0_t1_loop i).trips) (c : Fin 512)
    {q0 q1 q2 q3 : Vec Ideal S512x128 .bf16} (h0 : IsPart 0 0 xq c q0) (h1 : IsPart 1 0 xq c q1) (h2 : IsPart 0 128 xq c q2)
    (h3 : IsPart 1 128 xq c q3) {a : Carries Ideal} (h : Four (i 2).val xq xk xv c (1024 * k.val) a) :
    Four (i 2).val xq xk xv c (1024 * (k.val + 1)) (tripAt i k q0 q1 q2 q3 X2 X3 a) := by
  have hk : k.val < (i 2).val / 2 := trips_eq i ▸ k.isLt
  have hi : (i 2).val < 8 := (i 2).isLt
  have e : 1024 * (k.val + 1) = 1024 * k.val + 512 + 512 := by ring
  rw [e]
  constructor
  · exact holdsAt_whole (by omega) (scores_real hX (by omega) (by omega) h0 _ _ (off1_1 i k) (by omega)) (value_real hX (by omega) _ _ (off3_1 i k) (by omega))
      (holdsAt_whole (by omega) (scores_real hX (by omega) (by omega) h0 _ _ (off1_0 i k) (by omega)) (value_real hX (by omega) _ _ (off3_0 i k) (by omega)) h.a0)
  · exact holdsAt_whole (by omega) (scores_real hX (by omega) (by omega) h1 _ _ (off1_1 i k) (by omega)) (value_real hX (by omega) _ _ (off3_1 i k) (by omega))
      (holdsAt_whole (by omega) (scores_real hX (by omega) (by omega) h1 _ _ (off1_0 i k) (by omega)) (value_real hX (by omega) _ _ (off3_0 i k) (by omega)) h.a1)
  · exact holdsAt_whole (by omega) (scores_real hX (by omega) (by omega) h2 _ _ (off2_1 i k) (by omega)) (value_real hX (by omega) _ _ (off4_1 i k) (by omega))
      (holdsAt_whole (by omega) (scores_real hX (by omega) (by omega) h2 _ _ (off2_0 i k) (by omega)) (value_real hX (by omega) _ _ (off4_0 i k) (by omega)) h.a2)
  · exact holdsAt_whole (by omega) (scores_real hX (by omega) (by omega) h3 _ _ (off2_1 i k) (by omega)) (value_real hX (by omega) _ _ (off4_1 i k) (by omega))
      (holdsAt_whole (by omega) (scores_real hX (by omega) (by omega) h3 _ _ (off2_0 i k) (by omega)) (value_real hX (by omega) _ _ (off4_0 i k) (by omega)) h.a3)

theorem four_loop (hX : Reals X1 X2 X3 xq xk xv) (i : grid0.Coords) (c : Fin 512)
    {q0 q1 q2 q3 : Vec Ideal S512x128 .bf16} (h0 : IsPart 0 0 xq c q0) (h1 : IsPart 1 0 xq c q1) (h2 : IsPart 0 128 xq c q2)
    (h3 : IsPart 1 128 xq c q3) : ∀ k ≤ (k0_t1_loop i).trips, Four (i 2).val xq xk xv c (1024 * k) (carryAt i q0 q1 q2 q3 X2 X3 k)
  | 0, _ => ⟨holdsAt_start _ _ c, holdsAt_start _ _ c, holdsAt_start _ _ c, holdsAt_start _ _ c⟩
  | k + 1, hk => by
    have e : carryAt i q0 q1 q2 q3 X2 X3 (k + 1) = tripAt i ⟨k, hk⟩ q0 q1 q2 q3 X2 X3 (carryAt i q0 q1 q2 q3 X2 X3 k) := dif_pos hk
    rw [e]
    exact four_trip hX i ⟨k, hk⟩ c h0 h1 h2 h3 (four_loop hX i c h0 h1 h2 h3 k (Nat.le_of_succ_le hk))

/-- After the last blocks all four carries stand for all the keys. -/
theorem four_all (hX : Reals X1 X2 X3 xq xk xv) (i : grid0.Coords) (c : Fin 512) : Four (i 2).val xq xk xv c 4096 (allAt i X1 X2 X3) := by
  have h0 := isPart_0 hX c
  have h1 := isPart_1 hX c
  have h2 := isPart_2 hX c
  have h3 := isPart_3 hX c
  have hl := four_loop hX i c h0 h1 h2 h3 _ le_rfl
  have hi : (i 2).val < 8 := (i 2).isLt
  rw [trips_eq] at hl
  unfold allAt
  by_cases hc : k0_cond1 i = 1#1
  · have ho := (cond_iff i).1 hc
    have eB : 1024 * ((i 2).val / 2) = 512 * (i 2).val - 512 := by omega
    have eN : 512 * (i 2).val - 512 + 512 = 512 * (i 2).val := by omega
    rw [eB] at hl
    simp only [dif_pos hc, trips_eq]
    constructor
    · exact holdsAt_all hi (holdsAt_masked (scores_real hX (by omega) (by omega) h0 _ _ (off9_1 i ho) (by omega)) (value_real hX (by omega) _ _ (off11_1 i ho) (by omega))
        (eN ▸ holdsAt_whole (by omega) (scores_real hX (by omega) (by omega) h0 _ _ (off9_0 i ho) (by omega)) (value_real hX (by omega) _ _ (off11_0 i ho) (by omega)) hl.a0))
    · exact holdsAt_all hi (holdsAt_masked (scores_real hX (by omega) (by omega) h1 _ _ (off9_1 i ho) (by omega)) (value_real hX (by omega) _ _ (off11_1 i ho) (by omega))
        (eN ▸ holdsAt_whole (by omega) (scores_real hX (by omega) (by omega) h1 _ _ (off9_0 i ho) (by omega)) (value_real hX (by omega) _ _ (off11_0 i ho) (by omega)) hl.a1))
    · exact holdsAt_all hi (holdsAt_masked (scores_real hX (by omega) (by omega) h2 _ _ (off10_1 i ho) (by omega)) (value_real hX (by omega) _ _ (off12_1 i ho) (by omega))
        (eN ▸ holdsAt_whole (by omega) (scores_real hX (by omega) (by omega) h2 _ _ (off10_0 i ho) (by omega)) (value_real hX (by omega) _ _ (off12_0 i ho) (by omega)) hl.a2))
    · exact holdsAt_all hi (holdsAt_masked (scores_real hX (by omega) (by omega) h3 _ _ (off10_1 i ho) (by omega)) (value_real hX (by omega) _ _ (off12_1 i ho) (by omega))
        (eN ▸ holdsAt_whole (by omega) (scores_real hX (by omega) (by omega) h3 _ _ (off10_0 i ho) (by omega)) (value_real hX (by omega) _ _ (off12_0 i ho) (by omega)) hl.a3))
  · have ho := mt (cond_iff i).2 hc
    have eB : 1024 * ((i 2).val / 2) = 512 * (i 2).val := by omega
    rw [eB] at hl
    simp only [dif_neg hc, trips_eq]
    constructor
    · exact holdsAt_all hi (holdsAt_masked (scores_real hX (by omega) (by omega) h0 _ _ (off13_eq i ho) (by omega)) (value_real hX (by omega) _ _ (off15_eq i ho) (by omega)) hl.a0)
    · exact holdsAt_all hi (holdsAt_masked (scores_real hX (by omega) (by omega) h1 _ _ (off13_eq i ho) (by omega)) (value_real hX (by omega) _ _ (off15_eq i ho) (by omega)) hl.a1)
    · exact holdsAt_all hi (holdsAt_masked (scores_real hX (by omega) (by omega) h2 _ _ (off14_eq i ho) (by omega)) (value_real hX (by omega) _ _ (off16_eq i ho) (by omega)) hl.a2)
    · exact holdsAt_all hi (holdsAt_masked (scores_real hX (by omega) (by omega) h3 _ _ (off14_eq i ho) (by omega)) (value_real hX (by omega) _ _ (off16_eq i ho) (by omega)) hl.a3)

end

end Cert.Proof

end
-- ==== Proof.Softmax.lean ====
/- The softmax to base two of a whole row of scores, and the norm of a head's output, over the extended reals. -/
module

public import proofs.«01_k».proof.Proof.Online

@[expose] public section

noncomputable section

namespace Cert.Proof

open Idealize.ShloMosaic

/-- A weight is at least zero. -/
theorem weighs_nonneg {s : EReal} {w : ℝ} (h : Weighs s w) : 0 ≤ w := by
  rcases h with ⟨_, rfl⟩ | ⟨x, _, rfl⟩
  · exact le_rfl
  · exact (Real.rpow_pos_of_pos two_pos x).le

/-- An unmasked score has a weight above zero. -/
theorem weighs_pos {s : EReal} {w : ℝ} (h : Weighs s w) (hs : s ≠ ⊥) : 0 < w := by
  rcases h with ⟨h, _⟩ | ⟨x, _, rfl⟩
  · exact absurd h hs
  · exact Real.rpow_pos_of_pos two_pos x

/-- A row with an unmasked score has a total weight above zero. -/
theorem total_pos {n : ℕ} {s : Fin n → EReal} {w : Fin n → ℝ} (hs : ∀ r, Weighs (s r) (w r)) (hne : ∃ r, s r ≠ ⊥) : 0 < ∑ r, w r := by
  obtain ⟨r, hr⟩ := hne
  exact Finset.sum_pos' (fun i _ => weighs_nonneg (hs i)) ⟨r, Finset.mem_univ r, weighs_pos (hs r) hr⟩

/-- The power with base two is the exponential to base two, below plus infinity. -/
theorem pow_two {y : EReal} (h : y ≠ ⊤) : Ideal.pow 2 y = Ideal.exp2 y := by
  have e2 : (2 : EReal) = ((2 : ℝ) : EReal) := rfl
  rw [e2]
  induction y using EReal.rec with
  | bot =>
    rw [Ideal.pow_coe_bot, if_neg (by norm_num), if_pos (by norm_num)]; rfl
  | coe x => rfl
  | top => exact absurd rfl h

/-- The softmax of a row: each weight divided by the total weight. -/
theorem softmax_row {n : ℕ} {s : Fin n → EReal} {w : Fin n → ℝ} (hs : ∀ r, Weighs (s r) (w r)) (hne : ∃ r, s r ≠ ⊥) (k : Fin n) :
    Ideal.div (Ideal.pow 2 (s k - Finset.univ.fold max ⊥ s)) (∑ j, Ideal.pow 2 (s j - Finset.univ.fold max ⊥ s))
      = ((w k / ∑ j, w j : ℝ) : EReal) := by
  obtain ⟨M, hM⟩ := max_real hs hne (m := ⊥) bot_ne_top
  rw [max_eq_right bot_le] at hM
  rw [hM]
  have e : ∀ j, Ideal.pow 2 (s j - (M : EReal)) = ((Real.rpow 2 (-M) * w j : ℝ) : EReal) := by
    intro j
    rw [pow_two, exp2_sub (hs j)]
    rcases hs j with ⟨h, _⟩ | ⟨x, h, _⟩
    · rw [h, EReal.bot_sub]; exact bot_ne_top
    · rw [h, ← EReal.coe_sub]; exact EReal.coe_ne_top _
  have hT := total_pos hs hne
  have hp : (0 : ℝ) < Real.rpow 2 (-M) := Real.rpow_pos_of_pos two_pos _
  rw [Finset.sum_congr rfl fun j _ => e j, e, sum_coe, ← Finset.mul_sum]
  have hne : ((Real.rpow 2 (-M) * ∑ j, w j : ℝ) : EReal) ≠ 0 := by
    rw [Ne, EReal.coe_eq_zero]; exact (mul_pos hp hT).ne'
  rw [Ideal.div, if_neg hne, ← EReal.coe_inv, ← EReal.coe_mul]
  congr 1
  field_simp

/-- A head's output at column `d`, from the difference `o` of its two softmaxes: divided by its root mean square and scaled. -/
def normOut (o g : Fin 128 → EReal) (d : Fin 128) : EReal :=
  o d * Ideal.rsqrt (Ideal.div (∑ e, o e * o e) (Ideal.ofBits .f32 0x43000000#32) + Ideal.ofBits .f32 0x358637BD#32) * g d
    * Ideal.ofBits .f32 0x3F4CCCCD#32

/-- The factor of the second softmax, of real vectors, is a real number. -/
theorem lam_real {n : ℕ} {a b c d : Fin n → EReal} {a' b' c' d' : Fin n → ℝ} (ha : ∀ l, a l = (a' l : EReal)) (hb : ∀ l, b l = (b' l : EReal))
    (hc : ∀ l, c l = (c' l : EReal)) (hd : ∀ l, d l = (d' l : EReal)) :
    ∃ L : ℝ, Ideal.exp (∑ l, a l * b l) - Ideal.exp (∑ l, c l * d l) + Ideal.ofBits .f32 0x3E4CCCCD#32 = (L : EReal) := by
  have e1 : ∑ l, a l * b l = ((∑ l, a' l * b' l : ℝ) : EReal) := by
    rw [← sum_coe]; exact Finset.sum_congr rfl fun l _ => by rw [ha, hb, EReal.coe_mul]
  have e2 : ∑ l, c l * d l = ((∑ l, c' l * d' l : ℝ) : EReal) := by
    rw [← sum_coe]; exact Finset.sum_congr rfl fun l _ => by rw [hc, hd, EReal.coe_mul]
  obtain ⟨z, hz⟩ : ∃ z : ℝ, Ideal.ofBits .f32 0x3E4CCCCD#32 = (z : EReal) := by
    simp only [Ideal.ofBits, Ideal.ieee]
    simp
    exact ⟨_, rfl⟩
  rw [e1, e2, hz]
  exact ⟨Real.exp (∑ l, a' l * b' l) - Real.exp (∑ l, c' l * d' l) + z, by rw [EReal.coe_add, EReal.coe_sub]; rfl⟩

/-- The difference of two softmaxes applied to the values is the difference of the two quotients. -/
theorem diff_real {n : ℕ} (v w1 w2 : Fin n → ℝ) (T1 T2 L : ℝ) :
    ∑ k, ((v k : ℝ) : EReal) * (((w1 k / T1 : ℝ) : EReal) - (L : EReal) * ((w2 k / T2 : ℝ) : EReal))
      = (((∑ k, v k * w1 k) / T1 : ℝ) : EReal) - (L : EReal) * (((∑ k, v k * w2 k) / T2 : ℝ) : EReal) := by
  rw [← EReal.coe_mul, ← EReal.coe_sub, Finset.sum_div, Finset.sum_div, Finset.mul_sum, ← Finset.sum_sub_distrib, ← sum_coe]
  refine Finset.sum_congr rfl fun k _ => ?_
  rw [← EReal.coe_mul, ← EReal.coe_sub, ← EReal.coe_mul]
  congr 1
  ring

end Cert.Proof

end
-- ==== Proof.Spec.lean ====
/- The differential attention over the real numbers: what both programs compute at one query, head and column. -/
module

public import proofs.«01_k».proof.Proof.Softmax

@[expose] public section

noncomputable section

namespace Cert.Proof

open Idealize.ShloMosaic

/-- The score of query `q` and key `k` of head `h` in batch `b`, for part `p`: the sum over the rotary halves and the lanes.
    `x` holds the queries in its first 1024 columns and the keys in the next. -/
def sc (p : ℕ) (x : ℕ → ℕ → ℝ) (b h q k : ℕ) : ℝ :=
  ∑ e : Fin 2, ∑ r : Fin 32, x (b * 4096 + q) (h * 128 + e.val * 64 + p * 32 + r.val) * x (b * 4096 + k) (1024 + (h * 128 + e.val * 64 + p * 32 + r.val))

/-- The weight of key `k`: zero where its chunk is later than the query's. -/
def wt (p : ℕ) (x : ℕ → ℕ → ℝ) (b h q k : ℕ) : ℝ := if k / 64 ≤ q / 64 then Real.rpow 2 (sc p x b h q k) else 0

/-- One softmax applied to the values, at column `d`. -/
def quo (p : ℕ) (x v : ℕ → ℕ → ℝ) (b h q d : ℕ) : ℝ :=
  (∑ k : Fin 4096, v (h * 128 + d) (b * 4096 + k.val) * wt p x b h q k.val) / ∑ k : Fin 4096, wt p x b h q k.val

/-- The result at one query, head and column. -/
def attn (x v : ℕ → ℕ → ℝ) (L : EReal) (g : Fin 128 → EReal) (b h q : ℕ) (d : Fin 128) : EReal :=
  normOut (fun e => (quo 0 x v b h q e.val : EReal) - L * (quo 1 x v b h q e.val : EReal)) g d

/-- A query's own key is unmasked, so the total weight is above zero. -/
theorem wt_pos (p : ℕ) (x : ℕ → ℕ → ℝ) (b h : ℕ) {q : ℕ} (hq : q < 4096) : 0 < ∑ k : Fin 4096, wt p x b h q k.val := by
  refine Finset.sum_pos' (fun k _ => ?_) ⟨⟨q, hq⟩, Finset.mem_univ _, ?_⟩
  · unfold wt
    split
    · exact (Real.rpow_pos_of_pos two_pos _).le
    · exact le_rfl
  · unfold wt
    rw [if_pos le_rfl]
    exact Real.rpow_pos_of_pos two_pos _

end Cert.Proof

end
-- ==== Proof.Out.lean ====
/- The kernel's result array over the extended reals: every element is the differential attention's. -/
module

public import proofs.«01_k».proof.Proof.Run
public import proofs.«01_k».proof.Proof.Keys
public import proofs.«01_k».proof.Proof.Spec
public import Idealize.ShloMosaic.Lib.Claim
public import Idealize.ShloMosaic.Lib.Pipeline.ValueKit.Point

@[expose] public section

set_option maxRecDepth 16384

noncomputable section

namespace Cert.Proof

open Idealize.ShloMosaic Idealize.ShloMosaic.TcCoe Idealize.ShloMosaic.Tactic
open Idealize.SL Idealize.SL.Sem
open Cert.KernelIdeal Cert.KernelIdeal.Gen

/-! ### Where the blocks lie -/

theorem at_0 : ∀ t : Fin grid0.N, win0_0.index t = ![0, 0] := by decide +kernel
theorem at_1 : ∀ t : Fin grid0.N, win0_1.index t = ![8 * (grid0.coords t 0).val + (grid0.coords t 2).val, (grid0.coords t 1).val] := by decide +kernel
theorem at_2 : ∀ t : Fin grid0.N, win0_2.index t = ![(grid0.coords t 0).val, 4 + (grid0.coords t 1).val] := by decide +kernel
theorem at_3 : ∀ t : Fin grid0.N, win0_3.index t = ![(grid0.coords t 1).val, (grid0.coords t 0).val] := by decide +kernel
theorem at_4 : ∀ t : Fin grid0.N, win0_4.index t = ![0, 0] := by decide +kernel
theorem at_5 : ∀ t : Fin grid0.N, win0_5.index t = ![8 * (grid0.coords t 0).val + (grid0.coords t 2).val, (grid0.coords t 1).val] := by decide +kernel

theorem lt_0 : ∀ t : Fin grid0.N, (grid0.coords t 0).val < 4 := by decide +kernel
theorem lt_1 : ∀ t : Fin grid0.N, (grid0.coords t 1).val < 4 := by decide +kernel
theorem lt_2 : ∀ t : Fin grid0.N, (grid0.coords t 2).val < 8 := by decide +kernel

/-! ### The windows' blocks as parts of the arguments -/

section

variable (m : (ℓ : Loc nD τ sig) → Buf (Elt Ideal) ℓ) (c : Dev nD)

theorem blk_q (t : Fin cfg0.N) (r : Fin 512) (l : Fin 256) :
    iblk m c 1 t (ix2 r l) = m ((c.tc : Thread nD τ).loc main_arg0)
      (ix2 ⟨(8 * (grid0.coords t 0).val + (grid0.coords t 2).val) * 512 + r.val, by have := lt_0 t; have := lt_2 t; omega⟩
        ⟨(grid0.coords t 1).val * 256 + l.val, by have := lt_1 t; omega⟩) := by
  blk_ext [iblk, V, at_1 t]

theorem blk_k (t : Fin cfg0.N) (j : Fin 4096) (l : Fin 256) :
    iblk m c 2 t (ix2 j l) = m ((c.tc : Thread nD τ).loc main_arg0)
      (ix2 ⟨(grid0.coords t 0).val * 4096 + j.val, by have := lt_0 t; omega⟩
        ⟨(4 + (grid0.coords t 1).val) * 256 + l.val, by have := lt_1 t; omega⟩) := by
  blk_ext [iblk, V, at_2 t]

theorem blk_v (t : Fin cfg0.N) (d : Fin 256) (j : Fin 4096) :
    iblk m c 3 t (ix2 d j) = m ((c.tc : Thread nD τ).loc main_arg1)
      (ix2 ⟨(grid0.coords t 1).val * 256 + d.val, by have := lt_1 t; omega⟩
        ⟨(grid0.coords t 0).val * 4096 + j.val, by have := lt_0 t; omega⟩) := by
  blk_ext [iblk, V, at_3 t]

theorem entry_g : V m c main_v5 = broadcastInDim S128x1 ![0] bcast_S128_S128x1_0 (m ((c.tc : Thread nD τ).loc main_arg6)) := by
  rfl

set_option maxHeartbeats 1000000 in
/-- The four vectors of the heads' common weight, as the rows of one array. -/
theorem entry_lam : V m c main_v4 = concatenate S4x64 0
    [⟨S1x64, broadcastInDim S1x64 ![1] bcast_S64_S1x64_1 (m ((c.tc : Thread nD τ).loc main_arg2))⟩,
     ⟨S1x64, broadcastInDim S1x64 ![1] bcast_S64_S1x64_1 (m ((c.tc : Thread nD τ).loc main_arg3))⟩,
     ⟨S1x64, broadcastInDim S1x64 ![1] bcast_S64_S1x64_1 (m ((c.tc : Thread nD τ).loc main_arg4))⟩,
     ⟨S1x64, broadcastInDim S1x64 ![1] bcast_S64_S1x64_1 (m ((c.tc : Thread nD τ).loc main_arg5))⟩]
    concatenates_S1x64_S1x64_S1x64_S1x64_S4x64_d0 := by
  rfl

theorem blk_g (t : Fin cfg0.N) (d : Fin 128) : iblk m c 4 t (ix2 d 0) = m ((c.tc : Thread nD τ).loc main_arg6) (ix1 d) := by
  have h : iblk m c 4 t (ix2 d 0) = V m c main_v5 (ix2 d 0) := by blk_ext [iblk, at_4 t]
  rw [h, entry_g]
  pointwise

theorem blk_lam (t : Fin cfg0.N) (r : Fin 4) (l : Fin 64) : iblk m c 0 t (ix2 r l) = V m c main_v4 (ix2 r l) := by
  blk_ext [iblk, at_0 t]

theorem blk_lam_0 (t : Fin cfg0.N) (l : Fin 64) : iblk m c 0 t (ix2 0 l) = m ((c.tc : Thread nD τ).loc main_arg2) (ix1 l) := by
  rw [blk_lam, entry_lam]
  pointwise

theorem blk_lam_1 (t : Fin cfg0.N) (l : Fin 64) : iblk m c 0 t (ix2 1 l) = m ((c.tc : Thread nD τ).loc main_arg3) (ix1 l) := by
  rw [blk_lam, entry_lam]
  pointwise

theorem blk_lam_2 (t : Fin cfg0.N) (l : Fin 64) : iblk m c 0 t (ix2 2 l) = m ((c.tc : Thread nD τ).loc main_arg4) (ix1 l) := by
  rw [blk_lam, entry_lam]
  pointwise

theorem blk_lam_3 (t : Fin cfg0.N) (l : Fin 64) : iblk m c 0 t (ix2 3 l) = m ((c.tc : Thread nD τ).loc main_arg5) (ix1 l) := by
  rw [blk_lam, entry_lam]
  pointwise

end

/-! ### The output window -/

theorem canon_right (p0 p1 : Vec Ideal S512x128 .bf16) (r : Fin 512) (l : Fin 256) (d : Fin 128) (h : l.val = 128 + d.val) :
    View.canon (Val := Elt Ideal) (e := .bf16) [⟨rectR, p1⟩, ⟨rectL, p0⟩] (ix2 r l) = p1 (ix2 r d) := by
  have e : (ix2 r l : S512x256.Idx) = rectR.emb (ix2 r d) := by
    funext a
    refine Fin.ext ?_
    fin_cases a <;> simp [Rect.emb, Rect.unit, ix2, h]
  rw [e, View.canon_cons_emb]

theorem canon_left (p0 p1 : Vec Ideal S512x128 .bf16) (r : Fin 512) (l : Fin 256) (d : Fin 128) (h : l.val = d.val) :
    View.canon (Val := Elt Ideal) (e := .bf16) [⟨rectR, p1⟩, ⟨rectL, p0⟩] (ix2 r l) = p0 (ix2 r d) := by
  have e : (ix2 r l : S512x256.Idx) = rectL.emb (ix2 r d) := by
    funext a
    refine Fin.ext ?_
    fin_cases a <;> simp [Rect.emb, Rect.unit, ix2, h]
  rw [View.canon_cons_of_not_mem, e, View.canon_cons_emb]
  intro hm
  obtain ⟨j, _, hj⟩ := (LoadRect.mem_set _).mp hm 1
  simp [Rect.unit, ix2] at hj
  omega

/-! ### One block of the output -/

section

variable {m : (ℓ : Loc nD τ sig) → Buf (Elt Ideal) ℓ} {c : Dev nD} {xr vr : ℕ → ℕ → ℝ}

/-- The blocks of queries, keys and values are real where the arguments are. -/
theorem reals (hx : ∀ i j, m ((c.tc : Thread nD τ).loc main_arg0) (ix2 i j) = (xr i.val j.val : EReal))
    (hv : ∀ i j, m ((c.tc : Thread nD τ).loc main_arg1) (ix2 i j) = (vr i.val j.val : EReal)) (t : Fin cfg0.N) :
    Reals (iblk m c 1 t) (iblk m c 2 t) (iblk m c 3 t)
      (fun r l => xr ((8 * (grid0.coords t 0).val + (grid0.coords t 2).val) * 512 + r) ((grid0.coords t 1).val * 256 + l))
      (fun j l => xr ((grid0.coords t 0).val * 4096 + j) ((4 + (grid0.coords t 1).val) * 256 + l))
      (fun d j => vr ((grid0.coords t 1).val * 256 + d) ((grid0.coords t 0).val * 4096 + j)) where
  q r l := (blk_q m c t r l).trans (hx _ _)
  k j l := (blk_k m c t j l).trans (hx _ _)
  v d j := (blk_v m c t d j).trans (hv _ _)

end

/-- The kernel's score of a query and a key is the layer's. -/
theorem score_eq (xr : ℕ → ℕ → ℝ) (p o s b h n r j : ℕ) (ho : o = 128 * s) :
    score p o (fun r l => xr ((8 * b + n) * 512 + r) (h * 256 + l)) (fun j l => xr (b * 4096 + j) ((4 + h) * 256 + l)) r j
      = sc p xr b (2 * h + s) (512 * n + r) j := by
  unfold score sc
  refine Finset.sum_congr rfl fun e _ => Finset.sum_congr rfl fun u _ => ?_
  have e1 : (8 * b + n) * 512 + r = b * 4096 + (512 * n + r) := by ring
  have e2 : h * 256 + (o + (e.val * 64 + p * 32 + u.val)) = (2 * h + s) * 128 + e.val * 64 + p * 32 + u.val := by subst ho; ring
  have e3 : (4 + h) * 256 + (o + (e.val * 64 + p * 32 + u.val)) = 1024 + ((2 * h + s) * 128 + e.val * 64 + p * 32 + u.val) := by
    subst ho; ring
  simp only [e1, e2, e3]

/-- One part's accumulated values over its accumulated weights are its softmax's weighted mean of the values. -/
theorem part_eq {xr vr : ℕ → ℕ → ℝ} {p o s b h n : ℕ} {r : Fin 512} (ho : o = 128 * s) (hn : n < 8) {a : Carry Ideal}
    (ha : Stands n (fun r l => xr ((8 * b + n) * 512 + r) (h * 256 + l)) (fun j l => xr (b * 4096 + j) ((4 + h) * 256 + l))
      (fun d j => vr (h * 256 + d) (b * 4096 + j)) r 4096 p o a) (d : Fin 128) :
    a.2.2 (ix2 d r) * Ideal.div 1 (a.2.1 (ix2 0 r)) = (quo p xr vr b (2 * h + s) (512 * n + r.val) d.val : EReal) := by
  have hw : ∀ j, weight n r (score p o (fun r l => xr ((8 * b + n) * 512 + r) (h * 256 + l))
      (fun j l => xr (b * 4096 + j) ((4 + h) * 256 + l)) r.val) j = wt p xr b (2 * h + s) (512 * n + r.val) j := by
    intro j
    unfold weight wt
    rw [score_eq xr p o s b h n r.val j ho]
  have hd : ∀ (d : Fin 128) j, vr (h * 256 + (o + d.val)) (b * 4096 + j) = vr ((2 * h + s) * 128 + d.val) (b * 4096 + j) := by
    intro d j
    congr 1
    subst ho; ring
  unfold Stands HoldsAt at ha
  simp only [hw, hd, Finset.sum_range] at ha
  exact holds_quot ha (wt_pos p xr b (2 * h + s) (by omega)) d

/-- A head's output is the layer's. -/
theorem head_eq {xr vr : ℕ → ℕ → ℝ} {o s b h n : ℕ} {r : Fin 512} (ho : o = 128 * s) (hn : n < 8) {a a' : Carry Ideal}
    (ha : Stands n (fun r l => xr ((8 * b + n) * 512 + r) (h * 256 + l)) (fun j l => xr (b * 4096 + j) ((4 + h) * 256 + l))
      (fun d j => vr (h * 256 + d) (b * 4096 + j)) r 4096 0 o a)
    (ha' : Stands n (fun r l => xr ((8 * b + n) * 512 + r) (h * 256 + l)) (fun j l => xr (b * 4096 + j) ((4 + h) * 256 + l))
      (fun d j => vr (h * 256 + d) (b * 4096 + j)) r 4096 1 o a') (L : ℝ) (g : Fin 128 → EReal) (d : Fin 128) :
    headOut (L : EReal) (a.2.1 (ix2 0 r)) (a'.2.1 (ix2 0 r)) (fun e => a.2.2 (ix2 e r)) (fun e => a'.2.2 (ix2 e r)) g d
      = attn xr vr L g b (2 * h + s) (512 * n + r.val) d := by
  unfold headOut attn normOut
  simp only [part_eq ho hn ha, part_eq ho hn ha']

section

variable {m : (ℓ : Loc nD τ sig) → Buf (Elt Ideal) ℓ} {c : Dev nD} {xr vr : ℕ → ℕ → ℝ} {L : ℝ}

/-- The two softmaxes' common weight, of the four vectors. -/
def lamOf (a b u v : Fin 64 → EReal) : EReal :=
  Ideal.exp (∑ l, a l * b l) - Ideal.exp (∑ l, u l * v l) + Ideal.ofBits .f32 0x3E4CCCCD#32

theorem ld_lam (X : Vec Ideal S4x64 .f32) : View.ld X rectLam = X := View.ld_unit_lit inb_S4x64_S4x64_0_0 X (by decide)

theorem ld_g (X : Vec Ideal S128x1 .f32) : View.ld X rectG = X := View.ld_unit_lit inb_S128x1_S128x1_0_0 X (by decide)

theorem lam_eq (t : Fin cfg0.N)
    (hL : lamOf (fun l => m ((c.tc : Thread nD τ).loc main_arg2) (ix1 l)) (fun l => m ((c.tc : Thread nD τ).loc main_arg3) (ix1 l))
      (fun l => m ((c.tc : Thread nD τ).loc main_arg4) (ix1 l)) (fun l => m ((c.tc : Thread nD τ).loc main_arg5) (ix1 l)) = (L : EReal)) :
    k0_pay168 (View.ld (iblk m c 0 t) rectLam) (ix2 0 0) = (L : EReal) := by
  rw [ld_lam, lam_apply]
  simp only [blk_lam_0, blk_lam_1, blk_lam_2, blk_lam_3]
  exact hL

theorem headOut_congr {lam lam' l1 l2 : EReal} {acc1 acc2 g g' : Fin 128 → EReal} (h : lam = lam') (hg : g = g') (d : Fin 128) :
    headOut lam l1 l2 acc1 acc2 g d = headOut lam' l1 l2 acc1 acc2 g' d := by
  rw [h, hg]

/-- The block written at one grid point, at an element of it. -/
theorem out_apply (hx : ∀ i j, m ((c.tc : Thread nD τ).loc main_arg0) (ix2 i j) = (xr i.val j.val : EReal))
    (hv : ∀ i j, m ((c.tc : Thread nD τ).loc main_arg1) (ix2 i j) = (vr i.val j.val : EReal))
    (hL : lamOf (fun l => m ((c.tc : Thread nD τ).loc main_arg2) (ix1 l)) (fun l => m ((c.tc : Thread nD τ).loc main_arg3) (ix1 l))
      (fun l => m ((c.tc : Thread nD τ).loc main_arg4) (ix1 l)) (fun l => m ((c.tc : Thread nD τ).loc main_arg5) (ix1 l)) = (L : EReal))
    (t : Fin cfg0.N) (r : Fin 512) (l : Fin 256) :
    outAt (grid0.coords t) (iblk m c 0 t) (iblk m c 1 t) (iblk m c 2 t) (iblk m c 3 t) (iblk m c 4 t) (ix2 r l)
      = attn xr vr L (fun e => m ((c.tc : Thread nD τ).loc main_arg6) (ix1 e)) (grid0.coords t 0).val
          (2 * (grid0.coords t 1).val + l.val / 128) (512 * (grid0.coords t 2).val + r.val) ⟨l.val % 128, Nat.mod_lt _ (by decide)⟩ := by
  have hf := four_all (reals hx hv t) (grid0.coords t) r
  have hn := lt_2 t
  have hg : (fun e : Fin 128 => View.ld (iblk m c 4 t) rectG (ix2 e 0)) = fun e => m ((c.tc : Thread nD τ).loc main_arg6) (ix1 e) := by
    funext e
    rw [ld_g, blk_g]
  unfold outAt
  dsimp only
  generalize allAt (grid0.coords t) (iblk m c 1 t) (iblk m c 2 t) (iblk m c 3 t) = A at hf ⊢
  have hl0 := head_eq (s := 0) rfl hn hf.a0 hf.a1 L fun e => m ((c.tc : Thread nD τ).loc main_arg6) (ix1 e)
  have hl1 := head_eq (s := 1) rfl hn hf.a2 hf.a3 L fun e => m ((c.tc : Thread nD τ).loc main_arg6) (ix1 e)
  dsimp only at hl0 hl1
  by_cases hl : l.val < 128
  · refine (canon_left _ _ r l ⟨l.val, hl⟩ rfl).trans ((left_apply _ _ _ _ _ _ r ⟨l.val, hl⟩).trans
      ((headOut_congr (lam_eq t hL) hg _).trans ((hl0 _).trans ?_)))
    congr 1
    · omega
    · exact Fin.ext (by simp; omega)
  · refine (canon_right _ _ r l ⟨l.val - 128, by omega⟩ (by simp; omega)).trans ((right_apply _ _ _ _ _ _ r ⟨l.val - 128, by omega⟩).trans
      ((headOut_congr (lam_eq t hL) hg _).trans ((hl1 _).trans ?_)))
    congr 1
    · omega
    · exact Fin.ext (by simp; omega)

/-! ### The whole array -/

/-- The layer's attention, as an array. -/
def attnArray (xr vr : ℕ → ℕ → ℝ) (L : ℝ) (g : Fin 128 → EReal) : Vec Ideal S16384x1024 .bf16 := fun i =>
  attn xr vr L g ((i 0).val / 4096) ((i 1).val / 128) ((i 0).val % 4096) ⟨(i 1).val % 128, Nat.mod_lt _ (by decide)⟩

/-- The kernel's result array is the layer's attention. -/
theorem array_eq (hx : ∀ i j, m ((c.tc : Thread nD τ).loc main_arg0) (ix2 i j) = (xr i.val j.val : EReal))
    (hv : ∀ i j, m ((c.tc : Thread nD τ).loc main_arg1) (ix2 i j) = (vr i.val j.val : EReal))
    (hL : lamOf (fun l => m ((c.tc : Thread nD τ).loc main_arg2) (ix1 l)) (fun l => m ((c.tc : Thread nD τ).loc main_arg3) (ix1 l))
      (fun l => m ((c.tc : Thread nD τ).loc main_arg4) (ix1 l)) (fun l => m ((c.tc : Thread nD τ).loc main_arg5) (ix1 l)) = (L : EReal)) :
    (dats m 0 c).arrAt 5 cfg0.N = attnArray xr vr L fun e => m ((c.tc : Thread nD τ).loc main_arg6) (ix1 e) := by
  refine (dats m 0 c).arrAt_eq_of_covers 5 _ (by decide +kernel) fun t hf y => ?_
  blk_simp
  rw [after_5]
  obtain ⟨r, l, rfl⟩ : ∃ (r : Fin 512) (l : Fin 256), y = (ix2 r l : S512x256.Idx) := ⟨y 0, y 1, eq_ix2 y⟩
  refine (out_apply hx hv hL t r l).trans ?_
  have e : (win0_5.blk t).view.emb (ix2 r l) = (ix2
      ⟨(8 * (grid0.coords t 0).val + (grid0.coords t 2).val) * 512 + r.val, by have := lt_0 t; have := lt_2 t; omega⟩
      ⟨(grid0.coords t 1).val * 256 + l.val, by have := lt_1 t; omega⟩ : S16384x1024.Idx) := by
    blk_ext [at_5 t]
  rw [e]
  have h0 := lt_0 t
  have h1 := lt_1 t
  have h2 := lt_2 t
  unfold attnArray
  congr 1
  · simp; omega
  · simp; omega
  · simp; omega
  · exact Fin.ext (by simp; omega)

end

end Cert.Proof

end
-- ==== Proof.Ref.lean ====
/- What the reference computes, step by step, at one element over the extended reals. -/
module

public import proofs.«01_k».proof.Proof.Gen.ReferenceIdeal.Run
public import Idealize.ShloMosaic.Lib.Pointwise
public import proofs.«01_k».proof.Proof.Spec

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.SL.Sem

variable {F : FTy → Type} [FloatOps F]

/-- The chunk of each position. -/
def chunks : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The mask: one where the key's chunk is no later than the query's. -/
def mask : IVec S4096x4096 1 :=
  cmpi .sle (broadcastInDim S4096x4096 ![0, 1] bcast_S1x4096_S4096x4096_0_1 (broadcastInDim S1x4096 ![1] bcast_S4096_S1x4096_1 chunks)) (broadcastInDim S4096x4096 ![0, 1] bcast_S4096x1_S4096x4096_0_1 (broadcastInDim S4096x1 ![0] bcast_S4096_S4096x1_0 chunks))

/-- The queries and the keys, by batch, position, head, rotary half, part and lane. -/
def queries (x : FVec F S16384x2048 .bf16) : FVec F S4x4096x8x2x2x32 .f32 :=
  shapeCast _ (extf .f32 (extractStridedSlice S16384x1024 ![0, 0] x slices_S16384x2048_S16384x1024_0_0) bitsLt_bf16_f32) shapeCasts_S16384x1024_S4x4096x8x2x2x32
def keys (x : FVec F S16384x2048 .bf16) : FVec F S4x4096x8x2x2x32 .f32 :=
  shapeCast _ (extf .f32 (extractStridedSlice S16384x1024 ![0, 1024] x slices_S16384x2048_S16384x1024_0_1024) bitsLt_bf16_f32) shapeCasts_S16384x1024_S4x4096x8x2x2x32

/-- The two parts of the queries or keys. -/
def part1 (y : FVec F S4x4096x8x2x2x32 .f32) : FVec F S4x4096x8x2x32 .f32 :=
  shapeCast _ (extractStridedSlice S4x4096x8x2x1x32 ![0, 0, 0, 0, 0, 0] y slices_S4x4096x8x2x2x32_S4x4096x8x2x1x32_0_0_0_0_0_0) shapeCasts_S4x4096x8x2x1x32_S4x4096x8x2x32
def part2 (y : FVec F S4x4096x8x2x2x32 .f32) : FVec F S4x4096x8x2x32 .f32 :=
  shapeCast _ (extractStridedSlice S4x4096x8x2x1x32 ![0, 0, 0, 0, 1, 0] y slices_S4x4096x8x2x2x32_S4x4096x8x2x1x32_0_0_0_0_1_0) shapeCasts_S4x4096x8x2x1x32_S4x4096x8x2x32

/-- The scores of a part. -/
def dots (a b : FVec F S4x4096x8x2x32 .f32) : FVec F S4x8x4096x4096 .f32 :=
  Host.dotGeneral dot_S4x4096x8x2x32_S4x4096x8x2x32_S4x8x4096x4096_34_34_1_1_02_02 none a b

/-- The scores with the masked ones at minus infinity. -/
def maskedScores (s : FVec F S4x8x4096x4096 .f32) : FVec F S4x8x4096x4096 .f32 :=
  select (broadcastInDim S4x8x4096x4096 ![2, 3] bcast_S4096x4096_S4x8x4096x4096_2_3 mask) s (broadcastInDim S4x8x4096x4096 ![] bcast_S_S4x8x4096x4096 (id (constant S_ .f32 0xFF800000#32)))

/-- Two to the power of each score's distance from its row's maximum. -/
def weights (s : FVec F S4x8x4096x4096 .f32) : FVec F S4x8x4096x4096 .f32 :=
  Host.powf (broadcastInDim S4x8x4096x4096 ![] bcast_S_S4x8x4096x4096 (constant S_ .f32 0x40000000#32)) (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduce FloatOps.maximumf s (constant S_ .f32 0xFF800000#32) reducesTo_S4x8x4096x4096_S4x8x4096_d3 h_S_))))

/-- Each row divided by its sum. -/
def normed (w : FVec F S4x8x4096x4096 .f32) : FVec F S4x8x4096x4096 .f32 :=
  Host.divf w (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd w (constant S_ .f32 0x00000000#32) reducesTo_S4x8x4096x4096_S4x8x4096_d3 h_S_)))

/-- The factor of the second softmax. -/
def lam (a b c d : FVec F S64 .f32) : FVec F S_ .f32 :=
  addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_))) (constant S_ .f32 0x3E4CCCCD#32)

/-- The heads' outputs before the norm: the difference of the two softmaxes applied to the values. -/
def heads (v : FVec F S1024x16384 .bf16) (l : FVec F S_ .f32) (p1 p2 : FVec F S4x8x4096x4096 .f32) : FVec F S4x4096x8x128 .f32 :=
  transpose S4x4096x8x128 [0, 3, 1, 2] (Host.dotGeneral dot_S8x128x4x4096_S4x8x4096x4096_S4x8x128x4096_3_3_1_2_20_01 none (shapeCast _ (extf .f32 v bitsLt_bf16_f32) shapeCasts_S1024x16384_S8x128x4x4096) (subf p1 (mulf (broadcastInDim S4x8x4096x4096 ![] bcast_S_S4x8x4096x4096 l) p2))) transposes_S4x8x128x4096_S4x4096x8x128_0_3_1_2

/-- The norm over a head's columns, the two scales, and the result's layout. -/
def finish (o : FVec F S4x4096x8x128 .f32) (g : FVec F S128 .f32) : FVec F S16384x1024 .bf16 :=
  truncf .bf16 (shapeCast _ (mulf (mulf (mulf o (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf o o) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 g))) (broadcastInDim S4x4096x8x128 ![] bcast_S_S4x4096x8x128 (constant S_ .f32 0x3F4CCCCD#32))) shapeCasts_S4x4096x8x128_S16384x1024) bitsLt_bf16_f32

/-- The reference's result, step by step. -/
theorem result_eq (m : (ℓ : Loc nD τ sig) → Buf (Elt F) ℓ) (c : Dev nD) :
    res_out0 m c = finish (heads (m ((c.tc : Thread nD τ).loc main_arg1))
        (lam (m ((c.tc : Thread nD τ).loc main_arg2)) (m ((c.tc : Thread nD τ).loc main_arg3)) (m ((c.tc : Thread nD τ).loc main_arg4))
          (m ((c.tc : Thread nD τ).loc main_arg5)))
        (normed (weights (maskedScores (dots (part1 (queries (m ((c.tc : Thread nD τ).loc main_arg0))))
          (part1 (keys (m ((c.tc : Thread nD τ).loc main_arg0))))))))
        (normed (weights (maskedScores (dots (part2 (queries (m ((c.tc : Thread nD τ).loc main_arg0))))
          (part2 (keys (m ((c.tc : Thread nD τ).loc main_arg0)))))))))
      (m ((c.tc : Thread nD τ).loc main_arg6)) := rfl

/-! ### At one element -/

/-- The floor of a quotient by 64, as the program spells it. -/
def chunkWord (j : BitVec 32) : BitVec 32 :=
  Scalar.select
    (IntOp.andi
      (IntOp.cmpi CmpIPredicate.ne (if j = 0 then 0 else if j.msb = true then -1 else 1 : BitVec 32)
        (if (64#32 : BitVec 32) = 0 then 0 else if (64#32 : BitVec 32).msb = true then -1 else 1 : BitVec 32))
      (IntOp.cmpi CmpIPredicate.ne (IntOp.remsi ArithUnit.host j 64#32) 0#32))
    (IntOp.subi (IntOp.divsi ArithUnit.host j 64#32) 1#32)
    (IntOp.divsi ArithUnit.host j 64#32)

theorem chunkWord_eq : ∀ j : Fin 4096, chunkWord (BitVec.ofNat 32 (j : ℕ)) = BitVec.ofNat 32 ((j : ℕ) / 64) := by decide +kernel

theorem chunk_le : ∀ a b : Fin 64, IntOp.cmpi CmpIPredicate.sle (BitVec.ofNat 32 (a : ℕ)) (BitVec.ofNat 32 (b : ℕ))
    = if (a : ℕ) ≤ (b : ℕ) then 1#1 else 0#1 := by decide +kernel

/-- The chunk of position `j`. -/
theorem chunks_apply (j : Fin 4096) : chunks (ix1 j) = BitVec.ofNat 32 ((j : ℕ) / 64) := by
  unfold chunks
  pointwise
  exact chunkWord_eq j

/-- The mask at one query and one key. -/
theorem mask_apply (q k : Fin 4096) : mask (ix2 q k) = if (k : ℕ) / 64 ≤ (q : ℕ) / 64 then 1#1 else 0#1 := by
  unfold mask
  pointwise
  rw [chunks_apply, chunks_apply]
  exact chunk_le ⟨(k : ℕ) / 64, by omega⟩ ⟨(q : ℕ) / 64, by omega⟩

theorem queries_1 (x : FVec Ideal S16384x2048 .bf16) (b : Fin 4) (s : Fin 4096) (h : Fin 8) (e : Fin 2) (r : Fin 32) :
    part1 (queries x) (ix5 b s h e r) = x (ix2 ⟨b.val * 4096 + s.val, by omega⟩ ⟨h.val * 128 + e.val * 64 + r.val, by omega⟩) := by
  unfold part1 queries
  pointwise

theorem queries_2 (x : FVec Ideal S16384x2048 .bf16) (b : Fin 4) (s : Fin 4096) (h : Fin 8) (e : Fin 2) (r : Fin 32) :
    part2 (queries x) (ix5 b s h e r) = x (ix2 ⟨b.val * 4096 + s.val, by omega⟩ ⟨h.val * 128 + e.val * 64 + 32 + r.val, by omega⟩) := by
  unfold part2 queries
  pointwise

theorem keys_1 (x : FVec Ideal S16384x2048 .bf16) (b : Fin 4) (s : Fin 4096) (h : Fin 8) (e : Fin 2) (r : Fin 32) :
    part1 (keys x) (ix5 b s h e r) = x (ix2 ⟨b.val * 4096 + s.val, by omega⟩ ⟨1024 + (h.val * 128 + e.val * 64 + r.val), by omega⟩) := by
  unfold part1 keys
  pointwise

theorem keys_2 (x : FVec Ideal S16384x2048 .bf16) (b : Fin 4) (s : Fin 4096) (h : Fin 8) (e : Fin 2) (r : Fin 32) :
    part2 (keys x) (ix5 b s h e r) = x (ix2 ⟨b.val * 4096 + s.val, by omega⟩ ⟨1024 + (h.val * 128 + e.val * 64 + 32 + r.val), by omega⟩) := by
  unfold part2 keys
  pointwise

/-- The scores of a part: the sum over the rotary halves and the lanes. -/
theorem dots_apply (y z : FVec Ideal S4x4096x8x2x32 .f32) (b : Fin 4) (h : Fin 8) (q k : Fin 4096) :
    dots y z (ix4 b h q k) = ∑ e : Fin 2, ∑ r : Fin 32, y (ix5 b q h e r) * z (ix5 b k h e r) := by
  unfold dots
  pointwise

/-- The word of minus infinity. -/
theorem ofBits_bot : Ideal.ofBits FTy.f32 0xFF800000#32 = (⊥ : EReal) := by
  simp [Ideal.ofBits, Ideal.ieee]

/-- The word of two. -/
theorem ofBits_two : Ideal.ofBits FTy.f32 0x40000000#32 = (2 : EReal) := by
  have e2 : (2 : EReal) = ((2 : ℝ) : EReal) := rfl
  rw [e2]
  simp [Ideal.ofBits, Ideal.ieee]
  rw [← EReal.coe_mul]
  norm_num

theorem maskedScores_apply (s : FVec Ideal S4x8x4096x4096 .f32) (b : Fin 4) (h : Fin 8) (q k : Fin 4096) :
    maskedScores s (ix4 b h q k) = if (k : ℕ) / 64 ≤ (q : ℕ) / 64 then s (ix4 b h q k) else ⊥ := by
  unfold maskedScores
  pointwise
  have e : (id (constant (F := Ideal) S_ FTy.f32 4286578688#32)) ix0 = (⊥ : EReal) := ofBits_bot
  rw [mask_apply, e]
  split <;> rfl

theorem weights_apply (s : FVec Ideal S4x8x4096x4096 .f32) (b : Fin 4) (h : Fin 8) (q k : Fin 4096) :
    weights s (ix4 b h q k) = Ideal.pow 2 (s (ix4 b h q k) - Finset.univ.fold max ⊥ fun j : Fin 4096 => s (ix4 b h q j)) := by
  unfold weights
  pointwise
  rw [ofBits_bot, ofBits_two]

theorem normed_apply (w : FVec Ideal S4x8x4096x4096 .f32) (b : Fin 4) (h : Fin 8) (q k : Fin 4096) :
    normed w (ix4 b h q k) = Ideal.div (w (ix4 b h q k)) (∑ j : Fin 4096, w (ix4 b h q j)) := by
  unfold normed
  pointwise

theorem lam_apply (a b c d : FVec Ideal S64 .f32) :
    lam a b c d ix0 = Ideal.exp (∑ l : Fin 64, a (ix1 l) * b (ix1 l)) - Ideal.exp (∑ l : Fin 64, c (ix1 l) * d (ix1 l))
      + Ideal.ofBits .f32 0x3E4CCCCD#32 := by
  unfold lam
  pointwise

theorem heads_apply (v : FVec Ideal S1024x16384 .bf16) (l : FVec Ideal S_ .f32) (p1 p2 : FVec Ideal S4x8x4096x4096 .f32)
    (b : Fin 4) (s : Fin 4096) (h : Fin 8) (d : Fin 128) :
    heads v l p1 p2 (ix4 b s h d) = ∑ k : Fin 4096, v (ix2 ⟨h.val * 128 + d.val, by omega⟩ ⟨b.val * 4096 + k.val, by omega⟩)
      * (p1 (ix4 b h s k) - l ix0 * p2 (ix4 b h s k)) := by
  unfold heads
  pointwise

theorem finish_apply (o : FVec Ideal S4x4096x8x128 .f32) (g : FVec Ideal S128 .f32) (i : Fin 16384) (j : Fin 1024) :
    finish o g (ix2 i j) = normOut (fun e => o (ix4 ⟨i.val / 4096, by omega⟩ ⟨i.val % 4096, by omega⟩ ⟨j.val / 128, by omega⟩ e))
      (fun e => g (ix1 e)) ⟨j.val % 128, by omega⟩ := by
  unfold finish normOut
  pointwise

/-! ### The result over the real numbers -/

section

variable {x : FVec Ideal S16384x2048 .bf16} {v : FVec Ideal S1024x16384 .bf16} {xr vr : ℕ → ℕ → ℝ}

/-- The first part's scores are the real ones. -/
theorem scores_1 (hx : ∀ i j, x (ix2 i j) = (xr i.val j.val : EReal)) (b : Fin 4) (h : Fin 8) (q k : Fin 4096) :
    dots (part1 (queries x)) (part1 (keys x)) (ix4 b h q k) = (sc 0 xr b.val h.val q.val k.val : EReal) := by
  rw [dots_apply]
  unfold sc
  rw [← sum_coe]
  refine Finset.sum_congr rfl fun e _ => ?_
  rw [← sum_coe]
  refine Finset.sum_congr rfl fun r _ => ?_
  rw [queries_1, keys_1, hx, hx, EReal.coe_mul]
  simp only [zero_mul, add_zero]

/-- The second part's scores are the real ones. -/
theorem scores_2 (hx : ∀ i j, x (ix2 i j) = (xr i.val j.val : EReal)) (b : Fin 4) (h : Fin 8) (q k : Fin 4096) :
    dots (part2 (queries x)) (part2 (keys x)) (ix4 b h q k) = (sc 1 xr b.val h.val q.val k.val : EReal) := by
  rw [dots_apply]
  unfold sc
  rw [← sum_coe]
  refine Finset.sum_congr rfl fun e _ => ?_
  rw [← sum_coe]
  refine Finset.sum_congr rfl fun r _ => ?_
  rw [queries_2, keys_2, hx, hx, EReal.coe_mul]

/-- A softmax of real scores: each weight divided by the total weight. -/
theorem softmax_apply {s : FVec Ideal S4x8x4096x4096 .f32} {p : ℕ} (b : Fin 4) (h : Fin 8) (q : Fin 4096)
    (hs : ∀ k : Fin 4096, s (ix4 b h q k) = (sc p xr b.val h.val q.val k.val : EReal)) (k : Fin 4096) :
    normed (weights (maskedScores s)) (ix4 b h q k)
      = ((wt p xr b.val h.val q.val k.val / ∑ j : Fin 4096, wt p xr b.val h.val q.val j.val : ℝ) : EReal) := by
  rw [normed_apply]
  simp only [weights_apply]
  refine softmax_row (s := fun j => maskedScores s (ix4 b h q j)) (w := fun j => wt p xr b.val h.val q.val j.val) (fun j => ?_) ⟨q, ?_⟩ k
  · rw [maskedScores_apply]
    unfold wt
    split
    · exact Or.inr ⟨_, hs j, rfl⟩
    · exact Or.inl ⟨rfl, rfl⟩
  · rw [maskedScores_apply, if_pos le_rfl, hs]; exact EReal.coe_ne_bot _

/-- The reference's result at one row and column. -/
theorem result_apply (hx : ∀ i j, x (ix2 i j) = (xr i.val j.val : EReal)) (hv : ∀ i j, v (ix2 i j) = (vr i.val j.val : EReal))
    (l : FVec Ideal S_ .f32) {L : ℝ} (hl : l ix0 = (L : EReal)) (g : FVec Ideal S128 .f32) (i : Fin 16384) (j : Fin 1024) :
    finish (heads v l (normed (weights (maskedScores (dots (part1 (queries x)) (part1 (keys x))))))
        (normed (weights (maskedScores (dots (part2 (queries x)) (part2 (keys x))))))) g (ix2 i j)
      = attn xr vr L (fun e => g (ix1 e)) (i.val / 4096) (j.val / 128) (i.val % 4096) ⟨j.val % 128, by omega⟩ := by
  rw [finish_apply]
  unfold attn
  congr 1
  funext e
  rw [heads_apply]
  have e1 : ∀ k : Fin 4096, v (ix2 ⟨j.val / 128 * 128 + e.val, by omega⟩ ⟨i.val / 4096 * 4096 + k.val, by omega⟩)
      * (normed (weights (maskedScores (dots (part1 (queries x)) (part1 (keys x))))) (ix4 ⟨i.val / 4096, by omega⟩ ⟨j.val / 128, by omega⟩ ⟨i.val % 4096, by omega⟩ k)
        - l ix0 * normed (weights (maskedScores (dots (part2 (queries x)) (part2 (keys x))))) (ix4 ⟨i.val / 4096, by omega⟩ ⟨j.val / 128, by omega⟩ ⟨i.val % 4096, by omega⟩ k))
      = (vr (j.val / 128 * 128 + e.val) (i.val / 4096 * 4096 + k.val) : EReal)
        * (((wt 0 xr (i.val / 4096) (j.val / 128) (i.val % 4096) k.val / ∑ k : Fin 4096, wt 0 xr (i.val / 4096) (j.val / 128) (i.val % 4096) k.val : ℝ) : EReal)
          - (L : EReal) * ((wt 1 xr (i.val / 4096) (j.val / 128) (i.val % 4096) k.val / ∑ k : Fin 4096, wt 1 xr (i.val / 4096) (j.val / 128) (i.val % 4096) k.val : ℝ) : EReal)) := by
    intro k
    rw [hv, hl, softmax_apply (p := 0) (xr := xr) _ _ _ (fun k => scores_1 hx _ _ _ k), softmax_apply (p := 1) (xr := xr) _ _ _ (fun k => scores_2 hx _ _ _ k)]
  rw [Finset.sum_congr rfl fun k _ => e1 k]
  exact diff_real (fun k : Fin 4096 => vr (j.val / 128 * 128 + e.val) (i.val / 4096 * 4096 + k.val))
    (fun k => wt 0 xr (i.val / 4096) (j.val / 128) (i.val % 4096) k.val) (fun k => wt 1 xr (i.val / 4096) (j.val / 128) (i.val % 4096) k.val) _ _ L

end

end Cert.Proof.Ref

end
-- ==== Proof.Equation.lean ====
/- The kernel's result is the reference's, wherever the precondition holds. -/
module

public import proofs.«01_k».proof.Proof.Out
public import proofs.«01_k».proof.Proof.Ref
public import proofs.«01_k».proof.Proof.Finite

@[expose] public section

set_option maxRecDepth 16384

noncomputable section

namespace Cert.Proof

open Idealize.ShloMosaic Idealize.ShloMosaic.TcCoe Idealize.ShloMosaic.Tactic
open Idealize.SL Idealize.SL.Sem

/-- A matrix of extended reals read as a function of two numbers, outside the matrix zero. -/
def realOf {a b : ℕ} (x : (⟨2, ![a, b]⟩ : Shape).Idx → EReal) (i j : ℕ) : ℝ :=
  if h : i < a ∧ j < b then (x (ix2 ⟨i, h.1⟩ ⟨j, h.2⟩)).toReal else 0

theorem realOf_eq {a b : ℕ} (x : (⟨2, ![a, b]⟩ : Shape).Idx → EReal) (h : ∀ i j, x (ix2 i j) = ((x (ix2 i j)).toReal : EReal))
    (i : Fin a) (j : Fin b) : x (ix2 i j) = (realOf x i.val j.val : EReal) := by
  rw [realOf, dif_pos ⟨i.isLt, j.isLt⟩]
  exact h i j

variable [Cert.Pre_finite.Facts]

/-- The reference's array is the layer's attention. -/
theorem reference_eq (m : (ℓ : Loc Cert.ReferenceIdeal.nD Cert.ReferenceIdeal.τ Cert.ReferenceIdeal.sig) → Buf (Elt Ideal) ℓ)
    (c : Dev Cert.ReferenceIdeal.nD) {xr vr : ℕ → ℕ → ℝ} {L : ℝ}
    (hx : ∀ i j, m ((c.tc : Thread Cert.ReferenceIdeal.nD Cert.ReferenceIdeal.τ).loc Cert.ReferenceIdeal.main_arg0) (ix2 i j) = (xr i.val j.val : EReal))
    (hv : ∀ i j, m ((c.tc : Thread Cert.ReferenceIdeal.nD Cert.ReferenceIdeal.τ).loc Cert.ReferenceIdeal.main_arg1) (ix2 i j) = (vr i.val j.val : EReal))
    (hL : lamOf (fun l => m ((c.tc : Thread Cert.ReferenceIdeal.nD Cert.ReferenceIdeal.τ).loc Cert.ReferenceIdeal.main_arg2) (ix1 l))
      (fun l => m ((c.tc : Thread Cert.ReferenceIdeal.nD Cert.ReferenceIdeal.τ).loc Cert.ReferenceIdeal.main_arg3) (ix1 l))
      (fun l => m ((c.tc : Thread Cert.ReferenceIdeal.nD Cert.ReferenceIdeal.τ).loc Cert.ReferenceIdeal.main_arg4) (ix1 l))
      (fun l => m ((c.tc : Thread Cert.ReferenceIdeal.nD Cert.ReferenceIdeal.τ).loc Cert.ReferenceIdeal.main_arg5) (ix1 l)) = (L : EReal)) :
    Cert.ReferenceIdeal.Value.res_out0 m c
      = attnArray xr vr L fun e => m ((c.tc : Thread Cert.ReferenceIdeal.nD Cert.ReferenceIdeal.τ).loc Cert.ReferenceIdeal.main_arg6) (ix1 e) := by
  rw [Ref.result_eq]
  funext i
  obtain ⟨r, l, rfl⟩ : ∃ (r : Fin 16384) (l : Fin 1024), i = (ix2 r l : Cert.KernelIdeal.S16384x1024.Idx) := ⟨i 0, i 1, eq_ix2 i⟩
  exact Ref.result_apply hx hv _ ((Ref.lam_apply _ _ _ _).trans hL) _ r l

/-- From memories with the same arguments, satisfying the precondition: the kernel's array and the reference's are equal. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_out0 m' c = (dats m 0 c).arrAt 5 Cert.KernelIdeal.cfg0.N := by
  obtain ⟨p0, p1, p2, p3, p4, p5⟩ := hpre c
  have hx := realOf_eq (m ((c.tc : Thread Cert.KernelIdeal.nD Cert.KernelIdeal.τ).loc Cert.KernelIdeal.main_arg0)) (finite_x _ _ _ _ _ _ _ p0)
  have hv := realOf_eq (m ((c.tc : Thread Cert.KernelIdeal.nD Cert.KernelIdeal.τ).loc Cert.KernelIdeal.main_arg1)) (finite_v _ _ _ _ _ _ _ p1)
  obtain ⟨L, hL⟩ := lam_real (finite_a _ _ _ _ _ _ _ p2) (finite_b _ _ _ _ _ _ _ p3) (finite_c _ _ _ _ _ _ _ p4) (finite_d _ _ _ _ _ _ _ p5)
  rw [array_eq hx hv hL, reference_eq m' c (xr := realOf (m ((c.tc : Thread Cert.KernelIdeal.nD Cert.KernelIdeal.τ).loc Cert.KernelIdeal.main_arg0)))
    (vr := realOf (m ((c.tc : Thread Cert.KernelIdeal.nD Cert.KernelIdeal.τ).loc Cert.KernelIdeal.main_arg1))) (L := L)
    (fun i j => (congrFun h0 _).trans (hx i j)) (fun i j => (congrFun h1 _).trans (hv i j)) (by rw [h2, h3, h4, h5]; exact hL), h6]

end Cert.Proof

end
-- ==== Proof.FfnBlock.lean ====
/- The feed-forward kernel's input blocks at every grid point, as parts of the arguments. -/
module

public import proofs.«01_k».proof.Proof.Gen.Kernel2Ideal.Frame.Runs
public import Idealize.ShloMosaic.Lib.Claim
public import Idealize.ShloMosaic.Lib.Pointwise
public import Idealize.ShloMosaic.Lib.Pipeline.ValueKit.Point

@[expose] public section

set_option maxRecDepth 16384

noncomputable section

namespace Cert.Proof.Ffn

open Idealize.ShloMosaic Idealize.ShloMosaic.TcCoe Idealize.ShloMosaic.Tactic
open Idealize.SL Idealize.SL.Sem
open Cert.Kernel2Ideal Cert.Kernel2Ideal.Gen

/-! ### Where the blocks lie: point `t` is row tile `t / 11` and column tile `t % 11` -/

theorem at_0 : ∀ t : Fin grid0.N, win0_0.index t = ![t.val / 11, 0] := by decide +kernel
theorem at_1 : ∀ t : Fin grid0.N, win0_1.index t = ![32 * (t.val / 11) - 1, 0] := by decide +kernel
theorem at_2 : ∀ t : Fin grid0.N, win0_2.index t = ![3, 0, t.val % 11] := by decide +kernel
theorem at_3 : ∀ t : Fin grid0.N, win0_3.index t = ![3, 0, t.val % 11 + 11] := by decide +kernel
theorem at_4 : ∀ t : Fin grid0.N, win0_4.index t = ![0, t.val % 11] := by decide +kernel
theorem at_5 : ∀ t : Fin grid0.N, win0_5.index t = ![0, t.val % 11 + 11] := by decide +kernel
theorem at_6 : ∀ t : Fin grid0.N, win0_6.index t = ![0, t.val % 11] := by decide +kernel
theorem at_7 : ∀ t : Fin grid0.N, win0_7.index t = ![0, t.val % 11 + 11] := by decide +kernel
theorem at_8 : ∀ t : Fin grid0.N, win0_8.index t = ![3, t.val % 11, 0] := by decide +kernel
theorem at_9 : ∀ t : Fin grid0.N, win0_9.index t = ![t.val / 11, 0] := by decide +kernel
theorem at_10 : ∀ t : Fin grid0.N, win0_10.index t = ![0, 0] := by decide +kernel
theorem at_12 : ∀ t : Fin grid0.N, win0_12.index t = ![t.val / 11, 0] := by decide +kernel
theorem row_lt : ∀ t : Fin grid0.N, t.val / 11 < 32 := by decide +kernel
theorem col_lt (t : Fin grid0.N) : t.val % 11 < 11 := Nat.mod_lt _ (by decide)
/-- The grid's first coordinate is the row tile. -/
theorem coord_0 : ∀ t : Fin grid0.N, (grid0.coords t 0).val = t.val / 11 := by decide +kernel

variable (m : (ℓ : Loc nD τ sig) → Buf (Elt Ideal) ℓ) (c : Dev nD)

/-! ### The arguments -/

/-- The normalised input, the layer's input, the last layer's up weights, convolution weights and biases, down weights and gains. -/
def argH (r : Fin 16384) (k : Fin 2048) : EReal := m ((c.tc : Thread nD τ).loc main_arg0) (ix2 r k)
def argX (r : Fin 16384) (d : Fin 2048) : EReal := m ((c.tc : Thread nD τ).loc main_arg1) (ix2 r d)
def argW (k : Fin 2048) (n : Fin 11264) : EReal := m ((c.tc : Thread nD τ).loc main_arg2) (ix3 3 k n)
def argC (j : Fin 3) (n : Fin 11264) : EReal := m ((c.tc : Thread nD τ).loc main_arg3) (ix3 3 j n)
def argB (n : Fin 11264) : EReal := m ((c.tc : Thread nD τ).loc main_arg4) (ix2 3 n)
def argD (f : Fin 5632) (d : Fin 2048) : EReal := m ((c.tc : Thread nD τ).loc main_arg5) (ix3 3 f d)
def argG (d : Fin 2048) : EReal := m ((c.tc : Thread nD τ).loc main_arg6) (ix2 3 d)

/-! ### The arrays prepared before the call -/

theorem entry_up (k : Fin 2048) (n : Fin 11264) : V m c main_v0 (ix3 3 k n) = argW m c k n := by rfl
theorem entry_down (f : Fin 5632) (d : Fin 2048) : V m c main_v1 (ix3 3 f d) = argD m c f d := by rfl

theorem entry_taps (j : Fin 3) (n : Fin 11264) : V m c main_v5 (ix2 j n) = argC m c j n := by
  have h : V m c main_v5 = shapeCast _ (extractStridedSlice S1x3x11264 ![3, 0, 0] (m ((c.tc : Thread nD τ).loc main_arg3)) slices_S4x3x11264_S1x3x11264_3_0_0) shapeCasts_S1x3x11264_S3x11264 := by rfl
  rw [h]
  pointwise
  rfl

theorem entry_bias (n : Fin 11264) : V m c main_v10 (ix2 0 n) = argB m c n := by
  have h : V m c main_v10 = broadcastInDim S1x11264 ![1] bcast_S11264_S1x11264_1 (shapeCast S11264 (extractStridedSlice S1x11264 ![3, 0] (m ((c.tc : Thread nD τ).loc main_arg4)) slices_S4x11264_S1x11264_3_0) shapeCasts_S1x11264_S11264) := by rfl
  rw [h]
  pointwise
  rfl

theorem entry_bias' (n : Fin 11264) : V m c main_v11 (ix2 0 n) = argB m c n := by
  have h : V m c main_v11 = broadcastInDim S1x11264 ![1] bcast_S11264_S1x11264_1 (shapeCast S11264 (extractStridedSlice S1x11264 ![3, 0] (m ((c.tc : Thread nD τ).loc main_arg4)) slices_S4x11264_S1x11264_3_0) shapeCasts_S1x11264_S11264) := by rfl
  rw [h]
  pointwise
  rfl

theorem entry_gain (d : Fin 2048) : V m c main_v12 (ix2 0 d) = argG m c d := by
  have h : V m c main_v12 = broadcastInDim S1x2048 ![1] bcast_S2048_S1x2048_1 (shapeCast S2048 (extractStridedSlice S1x2048 ![3, 0] (m ((c.tc : Thread nD τ).loc main_arg6)) slices_S4x2048_S1x2048_3_0) shapeCasts_S1x2048_S2048) := by rfl
  rw [h]
  pointwise
  rfl

/-! ### The blocks -/

theorem block_h (t : Fin grid0.N) (i : Fin 512) (k : Fin 2048) :
    iblk m c 0 t (ix2 i k) = argH m c ⟨512 * (t.val / 11) + i.val, by have := row_lt t; omega⟩ k := by
  have h : iblk m c 0 t (ix2 i k) = V m c main_arg0 (ix2 ⟨512 * (t.val / 11) + i.val, by have := row_lt t; omega⟩ k) := by
    blk_ext [iblk, at_0 t]
  rw [h]; rfl

/-- The sixteen rows before the tile (at the first tile, which does not use them, its own first rows). -/
theorem block_halo (t : Fin grid0.N) (i : Fin 16) (k : Fin 2048) :
    iblk m c 1 t (ix2 i k) = argH m c ⟨16 * (32 * (t.val / 11) - 1) + i.val, by have := row_lt t; omega⟩ k := by
  have h : iblk m c 1 t (ix2 i k) = V m c main_arg0 (ix2 ⟨16 * (32 * (t.val / 11) - 1) + i.val, by have := row_lt t; omega⟩ k) := by
    blk_ext [iblk, at_1 t]
  rw [h]; rfl

theorem block_up_a (t : Fin grid0.N) (k : Fin 2048) (q : Fin 512) :
    iblk m c 2 t (ix3 0 k q) = argW m c k ⟨512 * (t.val % 11) + q.val, by have := col_lt t; omega⟩ := by
  have h : iblk m c 2 t (ix3 0 k q) = V m c main_v0 (ix3 3 k ⟨512 * (t.val % 11) + q.val, by have := col_lt t; omega⟩) := by
    blk_ext [iblk, at_2 t]
  rw [h, entry_up]

theorem block_up_g (t : Fin grid0.N) (k : Fin 2048) (q : Fin 512) :
    iblk m c 3 t (ix3 0 k q) = argW m c k ⟨5632 + (512 * (t.val % 11) + q.val), by have := col_lt t; omega⟩ := by
  have h : iblk m c 3 t (ix3 0 k q) = V m c main_v0 (ix3 3 k ⟨5632 + (512 * (t.val % 11) + q.val), by have := col_lt t; omega⟩) := by
    blk_ext [iblk, at_3 t]
  rw [h, entry_up]

theorem block_taps_a (t : Fin grid0.N) (j : Fin 3) (q : Fin 512) :
    iblk m c 4 t (ix2 j q) = argC m c j ⟨512 * (t.val % 11) + q.val, by have := col_lt t; omega⟩ := by
  have h : iblk m c 4 t (ix2 j q) = V m c main_v5 (ix2 j ⟨512 * (t.val % 11) + q.val, by have := col_lt t; omega⟩) := by
    blk_ext [iblk, at_4 t]
  rw [h, entry_taps]

theorem block_taps_g (t : Fin grid0.N) (j : Fin 3) (q : Fin 512) :
    iblk m c 5 t (ix2 j q) = argC m c j ⟨5632 + (512 * (t.val % 11) + q.val), by have := col_lt t; omega⟩ := by
  have h : iblk m c 5 t (ix2 j q) = V m c main_v5 (ix2 j ⟨5632 + (512 * (t.val % 11) + q.val), by have := col_lt t; omega⟩) := by
    blk_ext [iblk, at_5 t]
  rw [h, entry_taps]

theorem block_bias_a (t : Fin grid0.N) (q : Fin 512) :
    iblk m c 6 t (ix2 0 q) = argB m c ⟨512 * (t.val % 11) + q.val, by have := col_lt t; omega⟩ := by
  have h : iblk m c 6 t (ix2 0 q) = V m c main_v10 (ix2 0 ⟨512 * (t.val % 11) + q.val, by have := col_lt t; omega⟩) := by
    blk_ext [iblk, at_6 t]
  rw [h, entry_bias]

theorem block_bias_g (t : Fin grid0.N) (q : Fin 512) :
    iblk m c 7 t (ix2 0 q) = argB m c ⟨5632 + (512 * (t.val % 11) + q.val), by have := col_lt t; omega⟩ := by
  have h : iblk m c 7 t (ix2 0 q) = V m c main_v11 (ix2 0 ⟨5632 + (512 * (t.val % 11) + q.val), by have := col_lt t; omega⟩) := by
    blk_ext [iblk, at_7 t]
  rw [h, entry_bias']

theorem block_down (t : Fin grid0.N) (q : Fin 512) (d : Fin 2048) :
    iblk m c 8 t (ix3 0 q d) = argD m c ⟨512 * (t.val % 11) + q.val, by have := col_lt t; omega⟩ d := by
  have h : iblk m c 8 t (ix3 0 q d) = V m c main_v1 (ix3 3 ⟨512 * (t.val % 11) + q.val, by have := col_lt t; omega⟩ d) := by
    blk_ext [iblk, at_8 t]
  rw [h, entry_down]

theorem block_x (t : Fin grid0.N) (i : Fin 512) (d : Fin 2048) :
    iblk m c 9 t (ix2 i d) = argX m c ⟨512 * (t.val / 11) + i.val, by have := row_lt t; omega⟩ d := by
  have h : iblk m c 9 t (ix2 i d) = V m c main_arg1 (ix2 ⟨512 * (t.val / 11) + i.val, by have := row_lt t; omega⟩ d) := by
    blk_ext [iblk, at_9 t]
  rw [h]; rfl

theorem block_gain (t : Fin grid0.N) (d : Fin 2048) :
    iblk m c 10 t (ix2 0 d) = argG m c d := by
  have h : iblk m c 10 t (ix2 0 d) = V m c main_v12 (ix2 0 d) := by
    blk_ext [iblk, at_10 t]
  rw [h, entry_gain]

end Cert.Proof.Ffn

end
-- ==== Proof.FfnSpec.lean ====
/- The gated feed-forward layer with its causal convolution, over the extended reals. -/
module

public import Idealize.ShloMosaic.Lib.Pointwise

@[expose] public section

noncomputable section

namespace Cert.Proof.Ffn

open Idealize.ShloMosaic

/-- The up projection of a row. -/
def up (h : Fin 16384 → Fin 2048 → EReal) (w : Fin 2048 → Fin 11264 → EReal) (r : Fin 16384) (n : Fin 11264) : EReal :=
  ∑ k, h r k * w k n

/-- The row `s` places earlier in the same sequence of 4096 rows; before its start, zero. -/
def back (u : Fin 16384 → Fin 11264 → EReal) (s : ℕ) (r : Fin 16384) (n : Fin 11264) : EReal :=
  if s ≤ r.val % 4096 then u ⟨r.val - s, by omega⟩ n else 0

/-- The causal convolution of width three. -/
def conv (u : Fin 16384 → Fin 11264 → EReal) (cw : Fin 3 → Fin 11264 → EReal) (cb : Fin 11264 → EReal) (r : Fin 16384)
    (n : Fin 11264) : EReal :=
  cb n + back u 2 r n * cw 0 n + back u 1 r n * cw 1 n + back u 0 r n * cw 2 n

/-- A number through its sigmoid, times another. -/
def gate (a g : EReal) : EReal := a * Ideal.div 1 (1 + Ideal.exp (-a)) * g

/-- The activations: the first half of the columns gates the second. -/
def act (u : Fin 16384 → Fin 11264 → EReal) (cw : Fin 3 → Fin 11264 → EReal) (cb : Fin 11264 → EReal) (r : Fin 16384)
    (f : Fin 5632) : EReal :=
  gate (conv u cw cb r ⟨f.val, by omega⟩) (conv u cw cb r ⟨5632 + f.val, by omega⟩)

/-- The down projection of a row. -/
def down (a : Fin 16384 → Fin 5632 → EReal) (w : Fin 5632 → Fin 2048 → EReal) (r : Fin 16384) (d : Fin 2048) : EReal :=
  ∑ f, a r f * w f d

/-- A row over the root of its mean square, times the gains, added to the input. -/
def close (x : EReal) (y : Fin 2048 → EReal) (g : EReal) (d : Fin 2048) : EReal :=
  x + y d * Ideal.rsqrt (Ideal.div (∑ e, y e * y e) (Ideal.ofBits FTy.f32 1157627904#32) + Ideal.ofBits FTy.f32 897988541#32) * g

/-- The layer. -/
def layer (h : Fin 16384 → Fin 2048 → EReal) (x : Fin 16384 → Fin 2048 → EReal) (w : Fin 2048 → Fin 11264 → EReal)
    (cw : Fin 3 → Fin 11264 → EReal) (cb : Fin 11264 → EReal) (wd : Fin 5632 → Fin 2048 → EReal) (g : Fin 2048 → EReal)
    (r : Fin 16384) (d : Fin 2048) : EReal :=
  close (x r d) (down (act (up h w) cw cb) wd r) (g d) d

end Cert.Proof.Ffn

end
-- ==== Proof.FfnPayload.lean ====
/- What the feed-forward kernel's vector expressions are at one element, over the extended reals. -/
module

public import proofs.«01_k».proof.Proof.Gen.Kernel2Ideal.Skeleton
public import proofs.«01_k».proof.Proof.FfnSpec
public import Idealize.ShloMosaic.Lib.Pointwise

@[expose] public section

set_option maxRecDepth 16384

noncomputable section

namespace Cert.Proof.Ffn

open Idealize.ShloMosaic
open Cert.Kernel2Ideal Cert.Kernel2Ideal.Gen

/-- One output of the convolution from three values. -/
def taps (b u0 u1 u2 w0 w1 w2 : EReal) : EReal := b + u0 * w0 + u1 * w1 + u2 * w2

/-! ### The up projection of a half tile -/

theorem mm7 (v : Vec Ideal S272x2048 .bf16) (w : Vec Ideal S1x2048x256 .bf16) (p : Fin 272) (q : Fin 256) :
    k0_pay7 (F := Ideal) v w (ix3 0 p q) = ∑ k : Fin 2048, v (ix2 p k) * w (ix3 0 k q) := by
  pointwise [k0_pay7]
theorem mm8 (v : Vec Ideal S272x2048 .bf16) (w : Vec Ideal S1x2048x256 .bf16) (p : Fin 272) (q : Fin 256) :
    k0_pay8 (F := Ideal) v w (ix3 0 p q) = ∑ k : Fin 2048, v (ix2 p k) * w (ix3 0 k q) := by
  pointwise [k0_pay8]
theorem mm9 (v : Vec Ideal S272x2048 .bf16) (w : Vec Ideal S1x2048x256 .bf16) (p : Fin 272) (q : Fin 256) :
    k0_pay9 (F := Ideal) v w (ix3 0 p q) = ∑ k : Fin 2048, v (ix2 p k) * w (ix3 0 k q) := by
  pointwise [k0_pay9]
theorem mm11 (v : Vec Ideal S272x2048 .bf16) (w : Vec Ideal S1x2048x256 .bf16) (p : Fin 272) (q : Fin 256) :
    k0_pay11 (F := Ideal) (k0_pay10 v w) (ix3 0 p q) = ∑ k : Fin 2048, v (ix2 p k) * w (ix3 0 k q) := by
  pointwise [k0_pay11, k0_pay10]
theorem mm12 (v : Vec Ideal S256x2048 .bf16) (w : Vec Ideal S1x2048x256 .bf16) (p : Fin 256) (q : Fin 256) :
    k0_pay12 (F := Ideal) v w (ix3 0 p q) = ∑ k : Fin 2048, v (ix2 p k) * w (ix3 0 k q) := by
  pointwise [k0_pay12]
theorem mm13 (v : Vec Ideal S256x2048 .bf16) (w : Vec Ideal S1x2048x256 .bf16) (p : Fin 256) (q : Fin 256) :
    k0_pay13 (F := Ideal) v w (ix3 0 p q) = ∑ k : Fin 2048, v (ix2 p k) * w (ix3 0 k q) := by
  pointwise [k0_pay13]
theorem mm14 (v : Vec Ideal S256x2048 .bf16) (w : Vec Ideal S1x2048x256 .bf16) (p : Fin 256) (q : Fin 256) :
    k0_pay14 (F := Ideal) v w (ix3 0 p q) = ∑ k : Fin 2048, v (ix2 p k) * w (ix3 0 k q) := by
  pointwise [k0_pay14]
theorem mm16 (v : Vec Ideal S256x2048 .bf16) (w : Vec Ideal S1x2048x256 .bf16) (p : Fin 256) (q : Fin 256) :
    k0_pay16 (F := Ideal) (k0_pay15 v w) (ix3 0 p q) = ∑ k : Fin 2048, v (ix2 p k) * w (ix3 0 k q) := by
  pointwise [k0_pay16, k0_pay15]

/-! ### The convolution -/

section
variable (w : Vec Ideal S3x256 .f32) (b : Vec Ideal S1x256 .f32) (u0 u1 u2 : Vec Ideal S1x256x256 .f32) (p q : Fin 256)

/-- The convolution's output at a row and a column of a half tile. -/
def tap : EReal :=
  taps (b (ix2 0 q)) (u0 (ix3 0 p q)) (u1 (ix3 0 p q)) (u2 (ix3 0 p q)) (w (ix2 0 q)) (w (ix2 1 q)) (w (ix2 2 q))

theorem conv17 : k0_pay17 (F := Ideal) w b u0 u1 u2 (ix2 p q) = tap w b u0 u1 u2 p q := by
  unfold tap taps; pointwise [k0_pay17]
theorem conv21 : k0_pay21 (F := Ideal) w b u0 u1 u2 (ix2 p q) = tap w b u0 u1 u2 p q := by
  unfold tap taps; pointwise [k0_pay21]
theorem conv24 : k0_pay24 (F := Ideal) (k0_pay23 w) b u0 u1 u2 (ix2 p q) = tap w b u0 u1 u2 p q := by
  unfold tap taps; pointwise [k0_pay24, k0_pay23]
theorem conv28 : k0_pay28 (F := Ideal) w b u0 u1 u2 (ix2 p q) = tap w b u0 u1 u2 p q := by
  unfold tap taps; pointwise [k0_pay28]

theorem gate20 (a : FVec Ideal S256x256 .f32) :
    k0_pay20 (F := Ideal) a (k0_pay18 w) (k0_pay19 w b u0) u1 u2 (ix2 p q) = gate (a (ix2 p q)) (tap w b u0 u1 u2 p q) := by
  unfold tap taps gate; pointwise [k0_pay20, k0_pay19, k0_pay18]
  rfl
theorem gate27 (a : FVec Ideal S256x256 .f32) :
    k0_pay27 (F := Ideal) a (k0_pay25 w) (k0_pay26 w b u0 u1) u2 (ix2 p q) = gate (a (ix2 p q)) (tap w b u0 u1 u2 p q) := by
  unfold tap taps gate; pointwise [k0_pay27, k0_pay26, k0_pay25]
  rfl
end

/-! ### The down projection of a half tile's rows -/

section
variable (e : FVec Ideal S256x256 .bf16) (a : FVec Ideal S256x256 .f32) (w : Vec Ideal S3x256 .f32) (b : Vec Ideal S1x256 .f32)
  (u0 u1 u2 : Vec Ideal S1x256x256 .f32) (y : Vec Ideal S256x2048 .f32) (wd : Vec Ideal S1x512x2048 .bf16) (p : Fin 256) (d : Fin 2048)

theorem down22 : k0_pay22 (F := Ideal) e a w b u0 u1 u2 y wd (ix2 p d)
    = y (ix2 p d) + (∑ q : Fin 256, e (ix2 p q) * wd (ix3 0 ⟨q.val, by omega⟩ d)
      + ∑ q : Fin 256, gate (a (ix2 p q)) (tap w b u0 u1 u2 p q) * wd (ix3 0 ⟨256 + q.val, by omega⟩ d)) := by
  unfold tap taps gate; pointwise [k0_pay22]
  rfl
theorem down1 : k0_pay1 (F := Ideal) e a (k0_pay29 w) (k0_pay30 b) u0 u1 u2 y wd (ix2 p d)
    = y (ix2 p d) + (∑ q : Fin 256, e (ix2 p q) * wd (ix3 0 ⟨q.val, by omega⟩ d)
      + ∑ q : Fin 256, gate (a (ix2 p q)) (tap w b u0 u1 u2 p q) * wd (ix3 0 ⟨256 + q.val, by omega⟩ d)) := by
  unfold tap taps gate; pointwise [k0_pay1, k0_pay29, k0_pay30]
  rfl
end

/-! ### The rows held at the first column tile, and the last step -/

theorem zero6 (p : Fin 512) (d : Fin 2048) : k0_pay6 (F := Ideal) (ix2 p d) = 0 := by
  pointwise [k0_pay6]
theorem rows5 (v : Vec Ideal S512x2048 .bf16) (p : Fin 512) (d : Fin 2048) : k0_pay5 (F := Ideal) v (ix2 p d) = v (ix2 p d) := by
  pointwise [k0_pay5]
theorem close2 (y x : Vec Ideal S512x2048 .f32) (g : Vec Ideal S1x2048 .f32) (p : Fin 512) (d : Fin 2048) :
    k0_pay2 (F := Ideal) y x g (ix2 p d) = close (x (ix2 p d)) (fun e => y (ix2 p e)) (g (ix2 0 d)) d := by
  unfold close; pointwise [k0_pay2]

/-- Whether the kernel's row tile is the first of its sequence, as the program spells it. -/
def firstWord (x : BitVec 32) : BitVec 1 :=
  Scalar.cmpi .eq (Scalar.select (Scalar.andi (Scalar.xori (Scalar.cmpi .slt (Scalar.remsi x (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi x (Scalar.select (Scalar.cmpi .eq 8#32 0#32) 1#32 8#32)) 0#32))
    (Scalar.addi (Scalar.remsi x (Scalar.select (Scalar.cmpi .eq 8#32 0#32) 1#32 8#32)) (Scalar.select (Scalar.cmpi .eq 8#32 0#32) 1#32 8#32))
    (Scalar.remsi x (Scalar.select (Scalar.cmpi .eq 8#32 0#32) 1#32 8#32))) 0#32
theorem firstWord_eq : ∀ i : Fin 32, firstWord (BitVec.ofNat 32 i.val) = if i.val % 8 = 0 then 1#1 else 0#1 := by decide +kernel

theorem halo4 (i : grid0.Coords) (v : Vec Ideal S16x2048 .bf16) (p : Fin 16) (d : Fin 2048) :
    k0_pay4 (F := Ideal) i v (ix2 p d) = if (i 0).val % 8 = 0 then 0 else v (ix2 p d) := by
  have h : k0_pay4 (F := Ideal) i v (ix2 p d)
      = (Scalar.select (firstWord (BitVec.ofNat 32 (i 0).val)) (broadcast S16x2048 (Scalar.ofBits (F := Ideal) .bf16 0x0000#16)) v : FVec Ideal S16x2048 .bf16) (ix2 p d) := by
    pointwise [k0_pay4]
    rfl
  rw [h, show BitVec.ofNat 32 (i 0).val = BitVec.ofNat 32 (⟨(i 0).val, (i 0).isLt⟩ : Fin 32).val from rfl, firstWord_eq]
  split
  · show (if (1#1 : BitVec 1) = 1 then broadcast S16x2048 (Scalar.ofBits (F := Ideal) .bf16 0x0000#16) else v) (ix2 p d) = _
    rw [if_pos (by decide)]; pointwise
  · show (if (0#1 : BitVec 1) = 1 then broadcast S16x2048 (Scalar.ofBits (F := Ideal) .bf16 0x0000#16) else v) (ix2 p d) = _
    rw [if_neg (by decide)]

end Cert.Proof.Ffn

end
-- ==== Proof.FfnStep.lean ====
/- One grid point of the feed-forward kernel: the accumulator it leaves, from the rows and blocks it reads. -/
module

public import proofs.«01_k».proof.Proof.FfnPayload
public import Idealize.ShloMosaic.Lib.Pipeline.ValueKit.Acc
public import Idealize.ShloMosaic.Lib.Pipeline.ValueKit.Tiles
public import Idealize.ShloMosaic.Lib.Ring

@[expose] public section

set_option maxRecDepth 16384

noncomputable section

namespace Cert.Proof.Ffn

open Idealize.ShloMosaic Idealize.ShloMosaic.TcCoe Idealize.ShloMosaic.Tactic
open Idealize.SL Idealize.SL.Sem
open Cert.Kernel2Ideal Cert.Kernel2Ideal.Gen

/-! ### Loads at an element -/

theorem ld_cols_lo (w : Vec Ideal S1x2048x512 .bf16) (inb) (k : Fin 2048) (q : Fin 256) :
    View.ld w (Rect.unit ![0, 0, 0] ![1, 2048, 256] inb) (ix3 0 k q) = w (ix3 0 k ⟨q.val, by omega⟩) :=
  View.ld_unit_apply_of _ _ _ _ _ _ (by intro a; fin_cases a <;> simp [ix3])
theorem ld_cols_hi (w : Vec Ideal S1x2048x512 .bf16) (inb) (k : Fin 2048) (q : Fin 256) :
    View.ld w (Rect.unit ![0, 0, 256] ![1, 2048, 256] inb) (ix3 0 k q) = w (ix3 0 k ⟨256 + q.val, by omega⟩) :=
  View.ld_unit_apply_of _ _ _ _ _ _ (by intro a; fin_cases a <;> simp [ix3])
theorem ld_taps_lo (w : Vec Ideal S3x512 .f32) (inb) (j : Fin 3) (q : Fin 256) :
    View.ld w (Rect.unit ![0, 0] ![3, 256] inb) (ix2 j q) = w (ix2 j ⟨q.val, by omega⟩) :=
  View.ld_unit_apply_of _ _ _ _ _ _ (by intro a; fin_cases a <;> simp [ix2])
theorem ld_taps_hi (w : Vec Ideal S3x512 .f32) (inb) (j : Fin 3) (q : Fin 256) :
    View.ld w (Rect.unit ![0, 256] ![3, 256] inb) (ix2 j q) = w (ix2 j ⟨256 + q.val, by omega⟩) :=
  View.ld_unit_apply_of _ _ _ _ _ _ (by intro a; fin_cases a <;> simp [ix2])
theorem ld_bias_lo (w : Vec Ideal S1x512 .f32) (inb) (q : Fin 256) :
    View.ld w (Rect.unit ![0, 0] ![1, 256] inb) (ix2 0 q) = w (ix2 0 ⟨q.val, by omega⟩) :=
  View.ld_unit_apply_of _ _ _ _ _ _ (by intro a; fin_cases a <;> simp [ix2])
theorem ld_bias_hi (w : Vec Ideal S1x512 .f32) (inb) (q : Fin 256) :
    View.ld w (Rect.unit ![0, 256] ![1, 256] inb) (ix2 0 q) = w (ix2 0 ⟨256 + q.val, by omega⟩) :=
  View.ld_unit_apply_of _ _ _ _ _ _ (by intro a; fin_cases a <;> simp [ix2])
theorem ld_rows_lo (y : Vec Ideal S512x2048 .f32) (inb) (p : Fin 256) (d : Fin 2048) :
    View.ld y (Rect.unit ![0, 0] ![256, 2048] inb) (ix2 p d) = y (ix2 ⟨p.val, by omega⟩ d) :=
  View.ld_unit_apply_of _ _ _ _ _ _ (by intro a; fin_cases a <;> simp [ix2])
theorem ld_rows_hi (y : Vec Ideal S512x2048 .f32) (inb) (p : Fin 256) (d : Fin 2048) :
    View.ld y (Rect.unit ![256, 0] ![256, 2048] inb) (ix2 p d) = y (ix2 ⟨256 + p.val, by omega⟩ d) :=
  View.ld_unit_apply_of _ _ _ _ _ _ (by intro a; fin_cases a <;> simp [ix2])
theorem ld_held_lo (y : Vec Ideal S528x2048 .bf16) (inb) (p : Fin 272) (k : Fin 2048) :
    View.ld y (Rect.unit ![0, 0] ![272, 2048] inb) (ix2 p k) = y (ix2 ⟨p.val, by omega⟩ k) :=
  View.ld_unit_apply_of _ _ _ _ _ _ (by intro a; fin_cases a <;> simp [ix2])
theorem ld_held_hi (y : Vec Ideal S528x2048 .bf16) (inb) (p : Fin 256) (k : Fin 2048) :
    View.ld y (Rect.unit ![272, 0] ![256, 2048] inb) (ix2 p k) = y (ix2 ⟨272 + p.val, by omega⟩ k) :=
  View.ld_unit_apply_of _ _ _ _ _ _ (by intro a; fin_cases a <;> simp [ix2])

/-! ### The up projection of the held rows -/

/-- The held rows times a column tile's weights, as the kernel stores it: last store first. -/
def ups (h0 : Vec Ideal S272x2048 .bf16) (h1 : Vec Ideal S256x2048 .bf16) (wa wg : Vec Ideal S1x2048x512 .bf16) :
    List (View.Piece (Elt Ideal) S4x528x256 .f32) :=
  [⟨Rect.unit ![3, 272, 0] ![1, 256, 256] inb_S4x528x256_S1x256x256_3_272_0,
      k0_pay16 (k0_pay15 h1 (View.ld wg (Rect.unit ![0, 0, 256] ![1, 2048, 256] inb_S1x2048x512_S1x2048x256_0_0_256)))⟩,
    ⟨Rect.unit ![2, 272, 0] ![1, 256, 256] inb_S4x528x256_S1x256x256_2_272_0,
      k0_pay14 h1 (View.ld wa (Rect.unit ![0, 0, 256] ![1, 2048, 256] inb_S1x2048x512_S1x2048x256_0_0_256))⟩,
    ⟨Rect.unit ![1, 272, 0] ![1, 256, 256] inb_S4x528x256_S1x256x256_1_272_0,
      k0_pay13 h1 (View.ld wg (Rect.unit ![0, 0, 0] ![1, 2048, 256] inb_S1x2048x512_S1x2048x256_0_0_0))⟩,
    ⟨Rect.unit ![0, 272, 0] ![1, 256, 256] inb_S4x528x256_S1x256x256_0_272_0,
      k0_pay12 h1 (View.ld wa (Rect.unit ![0, 0, 0] ![1, 2048, 256] inb_S1x2048x512_S1x2048x256_0_0_0))⟩,
    ⟨Rect.unit ![3, 0, 0] ![1, 272, 256] inb_S4x528x256_S1x272x256_3_0_0,
      k0_pay11 (k0_pay10 h0 (View.ld wg (Rect.unit ![0, 0, 256] ![1, 2048, 256] inb_S1x2048x512_S1x2048x256_0_0_256)))⟩,
    ⟨Rect.unit ![2, 0, 0] ![1, 272, 256] inb_S4x528x256_S1x272x256_2_0_0,
      k0_pay9 h0 (View.ld wa (Rect.unit ![0, 0, 256] ![1, 2048, 256] inb_S1x2048x512_S1x2048x256_0_0_256))⟩,
    ⟨Rect.unit ![1, 0, 0] ![1, 272, 256] inb_S4x528x256_S1x272x256_1_0_0,
      k0_pay8 h0 (View.ld wg (Rect.unit ![0, 0, 0] ![1, 2048, 256] inb_S1x2048x512_S1x2048x256_0_0_0))⟩,
    ⟨Rect.unit ![0, 0, 0] ![1, 272, 256] inb_S4x528x256_S1x272x256_0_0_0,
      k0_pay7 h0 (View.ld wa (Rect.unit ![0, 0, 0] ![1, 2048, 256] inb_S1x2048x512_S1x2048x256_0_0_0))⟩]

section
variable (h0 : Vec Ideal S272x2048 .bf16) (h1 : Vec Ideal S256x2048 .bf16) (wa wg : Vec Ideal S1x2048x512 .bf16)
  (H : Fin 528 → Fin 2048 → EReal) (hh0 : ∀ (p : Fin 272) (k : Fin 2048), h0 (ix2 p k) = H ⟨p.val, by omega⟩ k)
  (hh1 : ∀ (p : Fin 256) (k : Fin 2048), h1 (ix2 p k) = H ⟨272 + p.val, by omega⟩ k)

/-- One held row times one column. -/
def dotCol (w : Vec Ideal S1x2048x512 .bf16) (H : Fin 528 → Fin 2048 → EReal) (ρ : Fin 528) (f : Fin 512) : EReal :=
  ∑ k : Fin 2048, H ρ k * w (ix3 0 k f)

/-- What lies in the four planes: the gate's and the value's columns, lower and upper half. -/
def plane (s : Fin 4) (ρ : Fin 528) (q : Fin 256) : EReal :=
  dotCol (if s.val % 2 = 0 then wa else wg) H ρ ⟨256 * (s.val / 2) + q.val, by omega⟩

/-- The eight stores fill the four planes. -/
theorem ups_cover (s : Fin 4) (ρ : Fin 528) (q : Fin 256) : ∃ p ∈ ups h0 h1 wa wg, (ix3 s ρ q : S4x528x256.Idx) ∈ p.1.set := by
  have hq := q.isLt
  have hρ := ρ.isLt
  by_cases h : ρ.val < 272
  · fin_cases s
    · refine ⟨(ups h0 h1 wa wg)[7]'(by simp [ups]), List.getElem_mem _, ?_⟩
      change _ ∈ (Rect.unit (s := S4x528x256) ![0, 0, 0] ![1, 272, 256] inb_S4x528x256_S1x272x256_0_0_0).set
      refine Rect.mem_set_unit.mpr fun a => ?_
      fin_cases a <;> simp [ix3] <;> omega
    · refine ⟨(ups h0 h1 wa wg)[6]'(by simp [ups]), List.getElem_mem _, ?_⟩
      change _ ∈ (Rect.unit (s := S4x528x256) ![1, 0, 0] ![1, 272, 256] inb_S4x528x256_S1x272x256_1_0_0).set
      refine Rect.mem_set_unit.mpr fun a => ?_
      fin_cases a <;> simp [ix3] <;> omega
    · refine ⟨(ups h0 h1 wa wg)[5]'(by simp [ups]), List.getElem_mem _, ?_⟩
      change _ ∈ (Rect.unit (s := S4x528x256) ![2, 0, 0] ![1, 272, 256] inb_S4x528x256_S1x272x256_2_0_0).set
      refine Rect.mem_set_unit.mpr fun a => ?_
      fin_cases a <;> simp [ix3] <;> omega
    · refine ⟨(ups h0 h1 wa wg)[4]'(by simp [ups]), List.getElem_mem _, ?_⟩
      change _ ∈ (Rect.unit (s := S4x528x256) ![3, 0, 0] ![1, 272, 256] inb_S4x528x256_S1x272x256_3_0_0).set
      refine Rect.mem_set_unit.mpr fun a => ?_
      fin_cases a <;> simp [ix3] <;> omega
  · fin_cases s
    · refine ⟨(ups h0 h1 wa wg)[3]'(by simp [ups]), List.getElem_mem _, ?_⟩
      change _ ∈ (Rect.unit (s := S4x528x256) ![0, 272, 0] ![1, 256, 256] inb_S4x528x256_S1x256x256_0_272_0).set
      refine Rect.mem_set_unit.mpr fun a => ?_
      fin_cases a <;> simp [ix3] <;> omega
    · refine ⟨(ups h0 h1 wa wg)[2]'(by simp [ups]), List.getElem_mem _, ?_⟩
      change _ ∈ (Rect.unit (s := S4x528x256) ![1, 272, 0] ![1, 256, 256] inb_S4x528x256_S1x256x256_1_272_0).set
      refine Rect.mem_set_unit.mpr fun a => ?_
      fin_cases a <;> simp [ix3] <;> omega
    · refine ⟨(ups h0 h1 wa wg)[1]'(by simp [ups]), List.getElem_mem _, ?_⟩
      change _ ∈ (Rect.unit (s := S4x528x256) ![2, 272, 0] ![1, 256, 256] inb_S4x528x256_S1x256x256_2_272_0).set
      refine Rect.mem_set_unit.mpr fun a => ?_
      fin_cases a <;> simp [ix3] <;> omega
    · refine ⟨(ups h0 h1 wa wg)[0]'(by simp [ups]), List.getElem_mem _, ?_⟩
      change _ ∈ (Rect.unit (s := S4x528x256) ![3, 272, 0] ![1, 256, 256] inb_S4x528x256_S1x256x256_3_272_0).set
      refine Rect.mem_set_unit.mpr fun a => ?_
      fin_cases a <;> simp [ix3] <;> omega

include hh0 hh1 in
theorem ups_apply (s : Fin 4) (ρ : Fin 528) (q : Fin 256) : View.canon (ups h0 h1 wa wg) (ix3 s ρ q) = plane wa wg H s ρ q := by
  have hc := ups_cover h0 h1 wa wg s ρ q
  unfold ups at hc ⊢
  canon_tiles x hx using hc
  all_goals
    obtain ⟨z, p, q', rfl⟩ : ∃ z p q', x = ix3 z p q' := ⟨x 0, x 1, x 2, eq_ix3 x⟩
    obtain rfl : z = 0 := Subsingleton.elim _ _
    simp only [ix3_0, ix3_1, ix3_2] at *
    obtain rfl : q = q' := Fin.ext hx2
    clear hc
    have hH : ∀ (n : ℕ) (hn : n < 528), ρ.val = n → H ⟨n, hn⟩ = H ρ := by rintro n hn rfl; rfl
    first | rw [mm16] | rw [mm14] | rw [mm13] | rw [mm12] | rw [mm11] | rw [mm9] | rw [mm8] | rw [mm7]
    have hs : s = 0 ∨ s = 1 ∨ s = 2 ∨ s = 3 := by omega
    rcases hs with rfl | rfl | rfl | rfl <;> first
      | (exfalso; revert hx0; decide)
      | (unfold plane dotCol
         refine Finset.sum_congr rfl fun k _ => ?_
         first | rw [ld_cols_lo] | rw [ld_cols_hi]
         first | rw [hh0] | rw [hh1]
         rw [hH _ _ hx1]
         simp)

include hh0 hh1 in
/-- A load of 256 rows of a plane. -/
theorem ups_load (s : ℕ) (hs : s < 4) (o : ℕ) (ho : o ≤ 272) (inb) (p q : Fin 256) :
    (View.whole cc0_scratch1).readCov (ups h0 h1 wa wg) (Rect.unit (s := S4x528x256) ![s, o, 0] ![1, 256, 256] inb).toLoadRect (ix3 0 p q : S1x256x256.Idx)
      = plane wa wg H ⟨s, hs⟩ ⟨o + p.val, by omega⟩ q := by
  rw [View.readCov_eq_canon', ← ups_apply h0 h1 wa wg H hh0 hh1]
  refine congrArg _ (funext fun a => Fin.ext ((Rect.idx_unit_val _ _ inb _ a).trans ?_))
  fin_cases a <;> simp [ix3]

/-! ### The accumulator after the point -/

variable (ca cg : Vec Ideal S3x512 .f32) (ba bg : Vec Ideal S1x512 .f32) (wd : Vec Ideal S1x512x2048 .bf16)
  (y0 y1 : Vec Ideal S256x2048 .f32) (Y : Fin 512 → Fin 2048 → EReal)
  (hy0 : ∀ (p : Fin 256) (d : Fin 2048), y0 (ix2 p d) = Y ⟨p.val, by omega⟩ d)
  (hy1 : ∀ (p : Fin 256) (d : Fin 2048), y1 (ix2 p d) = Y ⟨256 + p.val, by omega⟩ d)

/-- The convolution of three consecutive held rows, at one of the tile's rows and columns. -/
def tileConv (w : Vec Ideal S1x2048x512 .bf16) (cw : Vec Ideal S3x512 .f32) (b : Vec Ideal S1x512 .f32)
    (H : Fin 528 → Fin 2048 → EReal) (p f : Fin 512) : EReal :=
  taps (b (ix2 0 f)) (dotCol w H ⟨14 + p.val, by omega⟩ f) (dotCol w H ⟨15 + p.val, by omega⟩ f)
    (dotCol w H ⟨16 + p.val, by omega⟩ f) (cw (ix2 0 f)) (cw (ix2 1 f)) (cw (ix2 2 f))

include hh0 hh1 in
theorem tap_0 (ca : Vec Ideal S3x512 .f32) (ba : Vec Ideal S1x512 .f32) (P : Fin 512) (p q : Fin 256) (o0 o1 o2 : ℕ) (i0 i1 i2)
    (e0 : 14 + P.val = o0 + p.val) (e1 : 15 + P.val = o1 + p.val) (e2 : 16 + P.val = o2 + p.val) (j j') :
    tap (View.ld ca (Rect.unit ![0, 0] ![3, 256] j)) (View.ld ba (Rect.unit ![0, 0] ![1, 256] j'))
      ((View.whole cc0_scratch1).readCov (ups h0 h1 wa wg) (Rect.unit (s := S4x528x256) ![0, o0, 0] ![1, 256, 256] i0).toLoadRect)
      ((View.whole cc0_scratch1).readCov (ups h0 h1 wa wg) (Rect.unit (s := S4x528x256) ![0, o1, 0] ![1, 256, 256] i1).toLoadRect)
      ((View.whole cc0_scratch1).readCov (ups h0 h1 wa wg) (Rect.unit (s := S4x528x256) ![0, o2, 0] ![1, 256, 256] i2).toLoadRect) p q
      = tileConv wa ca ba H P ⟨q.val, by omega⟩ := by
  have g0 : o0 + 256 ≤ 528 := i0 1
  have g1 : o1 + 256 ≤ 528 := i1 1
  have g2 : o2 + 256 ≤ 528 := i2 1
  unfold tap tileConv
  rw [ups_load h0 h1 wa wg H hh0 hh1 0 (by decide) o0 (by omega), ups_load h0 h1 wa wg H hh0 hh1 0 (by decide) o1 (by omega),
    ups_load h0 h1 wa wg H hh0 hh1 0 (by decide) o2 (by omega), ld_taps_lo, ld_taps_lo, ld_taps_lo, ld_bias_lo]
  simp only [← e0, ← e1, ← e2]
  simp [plane]

include hh0 hh1 in
theorem tap_1 (cg : Vec Ideal S3x512 .f32) (bg : Vec Ideal S1x512 .f32) (P : Fin 512) (p q : Fin 256) (o0 o1 o2 : ℕ) (i0 i1 i2)
    (e0 : 14 + P.val = o0 + p.val) (e1 : 15 + P.val = o1 + p.val) (e2 : 16 + P.val = o2 + p.val) (j j') :
    tap (View.ld cg (Rect.unit ![0, 0] ![3, 256] j)) (View.ld bg (Rect.unit ![0, 0] ![1, 256] j'))
      ((View.whole cc0_scratch1).readCov (ups h0 h1 wa wg) (Rect.unit (s := S4x528x256) ![1, o0, 0] ![1, 256, 256] i0).toLoadRect)
      ((View.whole cc0_scratch1).readCov (ups h0 h1 wa wg) (Rect.unit (s := S4x528x256) ![1, o1, 0] ![1, 256, 256] i1).toLoadRect)
      ((View.whole cc0_scratch1).readCov (ups h0 h1 wa wg) (Rect.unit (s := S4x528x256) ![1, o2, 0] ![1, 256, 256] i2).toLoadRect) p q
      = tileConv wg cg bg H P ⟨q.val, by omega⟩ := by
  have g0 : o0 + 256 ≤ 528 := i0 1
  have g1 : o1 + 256 ≤ 528 := i1 1
  have g2 : o2 + 256 ≤ 528 := i2 1
  unfold tap tileConv
  rw [ups_load h0 h1 wa wg H hh0 hh1 1 (by decide) o0 (by omega), ups_load h0 h1 wa wg H hh0 hh1 1 (by decide) o1 (by omega),
    ups_load h0 h1 wa wg H hh0 hh1 1 (by decide) o2 (by omega), ld_taps_lo, ld_taps_lo, ld_taps_lo, ld_bias_lo]
  simp only [← e0, ← e1, ← e2]
  simp [plane]

include hh0 hh1 in
theorem tap_2 (ca : Vec Ideal S3x512 .f32) (ba : Vec Ideal S1x512 .f32) (P : Fin 512) (p q : Fin 256) (o0 o1 o2 : ℕ) (i0 i1 i2)
    (e0 : 14 + P.val = o0 + p.val) (e1 : 15 + P.val = o1 + p.val) (e2 : 16 + P.val = o2 + p.val) (j j') :
    tap (View.ld ca (Rect.unit ![0, 256] ![3, 256] j)) (View.ld ba (Rect.unit ![0, 256] ![1, 256] j'))
      ((View.whole cc0_scratch1).readCov (ups h0 h1 wa wg) (Rect.unit (s := S4x528x256) ![2, o0, 0] ![1, 256, 256] i0).toLoadRect)
      ((View.whole cc0_scratch1).readCov (ups h0 h1 wa wg) (Rect.unit (s := S4x528x256) ![2, o1, 0] ![1, 256, 256] i1).toLoadRect)
      ((View.whole cc0_scratch1).readCov (ups h0 h1 wa wg) (Rect.unit (s := S4x528x256) ![2, o2, 0] ![1, 256, 256] i2).toLoadRect) p q
      = tileConv wa ca ba H P ⟨256 + q.val, by omega⟩ := by
  have g0 : o0 + 256 ≤ 528 := i0 1
  have g1 : o1 + 256 ≤ 528 := i1 1
  have g2 : o2 + 256 ≤ 528 := i2 1
  unfold tap tileConv
  rw [ups_load h0 h1 wa wg H hh0 hh1 2 (by decide) o0 (by omega), ups_load h0 h1 wa wg H hh0 hh1 2 (by decide) o1 (by omega),
    ups_load h0 h1 wa wg H hh0 hh1 2 (by decide) o2 (by omega), ld_taps_hi, ld_taps_hi, ld_taps_hi, ld_bias_hi]
  simp only [← e0, ← e1, ← e2]
  simp [plane]

include hh0 hh1 in
theorem tap_3 (cg : Vec Ideal S3x512 .f32) (bg : Vec Ideal S1x512 .f32) (P : Fin 512) (p q : Fin 256) (o0 o1 o2 : ℕ) (i0 i1 i2)
    (e0 : 14 + P.val = o0 + p.val) (e1 : 15 + P.val = o1 + p.val) (e2 : 16 + P.val = o2 + p.val) (j j') :
    tap (View.ld cg (Rect.unit ![0, 256] ![3, 256] j)) (View.ld bg (Rect.unit ![0, 256] ![1, 256] j'))
      ((View.whole cc0_scratch1).readCov (ups h0 h1 wa wg) (Rect.unit (s := S4x528x256) ![3, o0, 0] ![1, 256, 256] i0).toLoadRect)
      ((View.whole cc0_scratch1).readCov (ups h0 h1 wa wg) (Rect.unit (s := S4x528x256) ![3, o1, 0] ![1, 256, 256] i1).toLoadRect)
      ((View.whole cc0_scratch1).readCov (ups h0 h1 wa wg) (Rect.unit (s := S4x528x256) ![3, o2, 0] ![1, 256, 256] i2).toLoadRect) p q
      = tileConv wg cg bg H P ⟨256 + q.val, by omega⟩ := by
  have g0 : o0 + 256 ≤ 528 := i0 1
  have g1 : o1 + 256 ≤ 528 := i1 1
  have g2 : o2 + 256 ≤ 528 := i2 1
  unfold tap tileConv
  rw [ups_load h0 h1 wa wg H hh0 hh1 3 (by decide) o0 (by omega), ups_load h0 h1 wa wg H hh0 hh1 3 (by decide) o1 (by omega),
    ups_load h0 h1 wa wg H hh0 hh1 3 (by decide) o2 (by omega), ld_taps_hi, ld_taps_hi, ld_taps_hi, ld_bias_hi]
  simp only [← e0, ← e1, ← e2]
  simp [plane]

/-- What the point adds at a row and a column of the accumulator. -/
def tileTerm (H : Fin 528 → Fin 2048 → EReal) (p : Fin 512) (d : Fin 2048) : EReal :=
  ∑ f : Fin 512, gate (tileConv wa ca ba H p f) (tileConv wg cg bg H p f) * wd (ix3 0 f d)

/-- The accumulator as the point stores it: last store first. -/
def next (T : List (View.Piece (Elt Ideal) S512x2048 .f32)) : List (View.Piece (Elt Ideal) S512x2048 .f32) :=
  ⟨Rect.unit ![256, 0] ![256, 2048] inb_S512x2048_S256x2048_256_0,
      k0_pay1
        (k0_pay27
          (k0_pay24 (k0_pay23 (View.ld ca (Rect.unit ![0, 0] ![3, 256] inb_S3x512_S3x256_0_0))) (View.ld ba (Rect.unit ![0, 0] ![1, 256] inb_S1x512_S1x256_0_0))
            ((View.whole cc0_scratch1).readCov (ups h0 h1 wa wg) (Rect.unit (s := S4x528x256) ![0, 270, 0] ![1, 256, 256] inb_S4x528x256_S1x256x256_0_270_0).toLoadRect)
            ((View.whole cc0_scratch1).readCov (ups h0 h1 wa wg) (Rect.unit (s := S4x528x256) ![0, 271, 0] ![1, 256, 256] inb_S4x528x256_S1x256x256_0_271_0).toLoadRect)
            ((View.whole cc0_scratch1).readCov (ups h0 h1 wa wg) (Rect.unit (s := S4x528x256) ![0, 272, 0] ![1, 256, 256] inb_S4x528x256_S1x256x256_0_272_0).toLoadRect))
          (k0_pay25 (View.ld cg (Rect.unit ![0, 0] ![3, 256] inb_S3x512_S3x256_0_0)))
          (k0_pay26 (View.ld cg (Rect.unit ![0, 0] ![3, 256] inb_S3x512_S3x256_0_0)) (View.ld bg (Rect.unit ![0, 0] ![1, 256] inb_S1x512_S1x256_0_0))
            ((View.whole cc0_scratch1).readCov (ups h0 h1 wa wg) (Rect.unit (s := S4x528x256) ![1, 270, 0] ![1, 256, 256] inb_S4x528x256_S1x256x256_1_270_0).toLoadRect)
            ((View.whole cc0_scratch1).readCov (ups h0 h1 wa wg) (Rect.unit (s := S4x528x256) ![1, 271, 0] ![1, 256, 256] inb_S4x528x256_S1x256x256_1_271_0).toLoadRect))
          ((View.whole cc0_scratch1).readCov (ups h0 h1 wa wg) (Rect.unit (s := S4x528x256) ![1, 272, 0] ![1, 256, 256] inb_S4x528x256_S1x256x256_1_272_0).toLoadRect))
        (k0_pay28 (View.ld ca (Rect.unit ![0, 256] ![3, 256] inb_S3x512_S3x256_0_256)) (View.ld ba (Rect.unit ![0, 256] ![1, 256] inb_S1x512_S1x256_0_256))
          ((View.whole cc0_scratch1).readCov (ups h0 h1 wa wg) (Rect.unit (s := S4x528x256) ![2, 270, 0] ![1, 256, 256] inb_S4x528x256_S1x256x256_2_270_0).toLoadRect)
          ((View.whole cc0_scratch1).readCov (ups h0 h1 wa wg) (Rect.unit (s := S4x528x256) ![2, 271, 0] ![1, 256, 256] inb_S4x528x256_S1x256x256_2_271_0).toLoadRect)
          ((View.whole cc0_scratch1).readCov (ups h0 h1 wa wg) (Rect.unit (s := S4x528x256) ![2, 272, 0] ![1, 256, 256] inb_S4x528x256_S1x256x256_2_272_0).toLoadRect))
        (k0_pay29 (View.ld cg (Rect.unit ![0, 256] ![3, 256] inb_S3x512_S3x256_0_256)))
        (k0_pay30 (View.ld bg (Rect.unit ![0, 256] ![1, 256] inb_S1x512_S1x256_0_256)))
        ((View.whole cc0_scratch1).readCov (ups h0 h1 wa wg) (Rect.unit (s := S4x528x256) ![3, 270, 0] ![1, 256, 256] inb_S4x528x256_S1x256x256_3_270_0).toLoadRect)
        ((View.whole cc0_scratch1).readCov (ups h0 h1 wa wg) (Rect.unit (s := S4x528x256) ![3, 271, 0] ![1, 256, 256] inb_S4x528x256_S1x256x256_3_271_0).toLoadRect)
        ((View.whole cc0_scratch1).readCov (ups h0 h1 wa wg) (Rect.unit (s := S4x528x256) ![3, 272, 0] ![1, 256, 256] inb_S4x528x256_S1x256x256_3_272_0).toLoadRect)
        y1 wd⟩ ::
    ⟨Rect.unit ![0, 0] ![256, 2048] inb_S512x2048_S256x2048_0_0,
      k0_pay22
        (k0_pay20
          (k0_pay17 (View.ld ca (Rect.unit ![0, 0] ![3, 256] inb_S3x512_S3x256_0_0)) (View.ld ba (Rect.unit ![0, 0] ![1, 256] inb_S1x512_S1x256_0_0))
            ((View.whole cc0_scratch1).readCov (ups h0 h1 wa wg) (Rect.unit (s := S4x528x256) ![0, 14, 0] ![1, 256, 256] inb_S4x528x256_S1x256x256_0_14_0).toLoadRect)
            ((View.whole cc0_scratch1).readCov (ups h0 h1 wa wg) (Rect.unit (s := S4x528x256) ![0, 15, 0] ![1, 256, 256] inb_S4x528x256_S1x256x256_0_15_0).toLoadRect)
            ((View.whole cc0_scratch1).readCov (ups h0 h1 wa wg) (Rect.unit (s := S4x528x256) ![0, 16, 0] ![1, 256, 256] inb_S4x528x256_S1x256x256_0_16_0).toLoadRect))
          (k0_pay18 (View.ld cg (Rect.unit ![0, 0] ![3, 256] inb_S3x512_S3x256_0_0)))
          (k0_pay19 (View.ld cg (Rect.unit ![0, 0] ![3, 256] inb_S3x512_S3x256_0_0)) (View.ld bg (Rect.unit ![0, 0] ![1, 256] inb_S1x512_S1x256_0_0))
            ((View.whole cc0_scratch1).readCov (ups h0 h1 wa wg) (Rect.unit (s := S4x528x256) ![1, 14, 0] ![1, 256, 256] inb_S4x528x256_S1x256x256_1_14_0).toLoadRect))
          ((View.whole cc0_scratch1).readCov (ups h0 h1 wa wg) (Rect.unit (s := S4x528x256) ![1, 15, 0] ![1, 256, 256] inb_S4x528x256_S1x256x256_1_15_0).toLoadRect)
          ((View.whole cc0_scratch1).readCov (ups h0 h1 wa wg) (Rect.unit (s := S4x528x256) ![1, 16, 0] ![1, 256, 256] inb_S4x528x256_S1x256x256_1_16_0).toLoadRect))
        (k0_pay21 (View.ld ca (Rect.unit ![0, 256] ![3, 256] inb_S3x512_S3x256_0_256)) (View.ld ba (Rect.unit ![0, 256] ![1, 256] inb_S1x512_S1x256_0_256))
          ((View.whole cc0_scratch1).readCov (ups h0 h1 wa wg) (Rect.unit (s := S4x528x256) ![2, 14, 0] ![1, 256, 256] inb_S4x528x256_S1x256x256_2_14_0).toLoadRect)
          ((View.whole cc0_scratch1).readCov (ups h0 h1 wa wg) (Rect.unit (s := S4x528x256) ![2, 15, 0] ![1, 256, 256] inb_S4x528x256_S1x256x256_2_15_0).toLoadRect)
          ((View.whole cc0_scratch1).readCov (ups h0 h1 wa wg) (Rect.unit (s := S4x528x256) ![2, 16, 0] ![1, 256, 256] inb_S4x528x256_S1x256x256_2_16_0).toLoadRect))
        (View.ld cg (Rect.unit ![0, 256] ![3, 256] inb_S3x512_S3x256_0_256))
        (View.ld bg (Rect.unit ![0, 256] ![1, 256] inb_S1x512_S1x256_0_256))
        ((View.whole cc0_scratch1).readCov (ups h0 h1 wa wg) (Rect.unit (s := S4x528x256) ![3, 14, 0] ![1, 256, 256] inb_S4x528x256_S1x256x256_3_14_0).toLoadRect)
        ((View.whole cc0_scratch1).readCov (ups h0 h1 wa wg) (Rect.unit (s := S4x528x256) ![3, 15, 0] ![1, 256, 256] inb_S4x528x256_S1x256x256_3_15_0).toLoadRect)
        ((View.whole cc0_scratch1).readCov (ups h0 h1 wa wg) (Rect.unit (s := S4x528x256) ![3, 16, 0] ![1, 256, 256] inb_S4x528x256_S1x256x256_3_16_0).toLoadRect)
        y0 wd⟩ :: T

theorem next_cover (p : Fin 512) (d : Fin 2048) :
    ∃ r ∈ next h0 h1 wa wg ca cg ba bg wd y0 y1 [], (ix2 p d : S512x2048.Idx) ∈ r.1.set := by
  have hp := p.isLt
  have hd := d.isLt
  by_cases h : p.val < 256
  · refine ⟨(next h0 h1 wa wg ca cg ba bg wd y0 y1 [])[1]'(by simp [next]), List.getElem_mem _, ?_⟩
    change _ ∈ (Rect.unit (s := S512x2048) ![0, 0] ![256, 2048] inb_S512x2048_S256x2048_0_0).set
    refine Rect.mem_set_unit.mpr fun a => ?_
    fin_cases a <;> simp [ix2] <;> omega
  · refine ⟨(next h0 h1 wa wg ca cg ba bg wd y0 y1 [])[0]'(by simp [next]), List.getElem_mem _, ?_⟩
    change _ ∈ (Rect.unit (s := S512x2048) ![256, 0] ![256, 2048] inb_S512x2048_S256x2048_256_0).set
    refine Rect.mem_set_unit.mpr fun a => ?_
    fin_cases a <;> simp [ix2] <;> omega

/-- Where the later writes cover an index, the earlier ones do not matter. -/
theorem canon_append {S : Shape} {e : EltTy} (T : List (View.Piece (Elt Ideal) S e)) (y : S.Idx) :
    ∀ L : List (View.Piece (Elt Ideal) S e), (∃ r ∈ L, y ∈ r.1.set) → View.canon (L ++ T) y = View.canon L y
  | [], h => by obtain ⟨_, h, _⟩ := h; exact absurd h List.not_mem_nil
  | q :: L, h => by
    by_cases hq : y ∈ q.1.set
    · obtain ⟨x, hx⟩ := q.1.toLoadRect.exists_idx_of_mem hq
      obtain rfl : q.1.emb x = y := hx
      exact (View.canon_cons_emb q.1 q.2 (L ++ T) x).trans (View.canon_cons_emb q.1 q.2 L x).symm
    · refine (View.canon_cons_of_not_mem q (L ++ T) hq).trans (.trans (canon_append T y L ?_) (View.canon_cons_of_not_mem q L hq).symm)
      obtain ⟨r, hr, hy⟩ := h
      rcases List.mem_cons.mp hr with rfl | hr
      · exact absurd hy hq
      · exact ⟨r, hr, hy⟩

include hh0 hh1 hy0 hy1 in
theorem next_apply (T : List (View.Piece (Elt Ideal) S512x2048 .f32)) (p : Fin 512) (d : Fin 2048) :
    View.canon (next h0 h1 wa wg ca cg ba bg wd y0 y1 T) (ix2 p d) = Y p d + tileTerm wa wg ca cg ba bg wd H p d := by
  have hc := next_cover h0 h1 wa wg ca cg ba bg wd y0 y1 p d
  have hsum : tileTerm wa wg ca cg ba bg wd H p d
      = ∑ q : Fin 256, gate (tileConv wa ca ba H p ⟨q.val, by omega⟩) (tileConv wg cg bg H p ⟨q.val, by omega⟩) * wd (ix3 0 ⟨q.val, by omega⟩ d)
        + ∑ q : Fin 256, gate (tileConv wa ca ba H p ⟨256 + q.val, by omega⟩) (tileConv wg cg bg H p ⟨256 + q.val, by omega⟩) * wd (ix3 0 ⟨256 + q.val, by omega⟩ d) :=
    Fin.sum_univ_add (a := 256) (b := 256) fun f => gate (tileConv wa ca ba H p f) (tileConv wg cg bg H p f) * wd (ix3 0 f d)
  rw [hsum]
  refine (canon_append T _ (next h0 h1 wa wg ca cg ba bg wd y0 y1 []) hc).trans ?_
  unfold next at hc ⊢
  canon_tiles x hx using hc
  · obtain ⟨p', d', rfl⟩ : ∃ p' d', x = ix2 p' d' := ⟨x 0, x 1, eq_ix2 x⟩
    clear hc hsum
    simp only [ix2_0, ix2_1] at hx0 hx1
    have hp' : p'.val < 256 := x0_lt
    obtain rfl : d = d' := Fin.ext hx1
    rw [show p = ⟨256 + p'.val, by omega⟩ from Fin.ext hx0]
    rw [down1, hy1]
    congr 2
    · refine Finset.sum_congr rfl fun q _ => ?_
      rw [gate27, conv24, tap_0 h0 h1 wa wg H hh0 hh1 ca ba ⟨256 + p'.val, by omega⟩ _ _ _ _ _ _ _ _ (by simp; try omega) (by simp; try omega) (by simp; try omega),
        tap_1 h0 h1 wa wg H hh0 hh1 cg bg ⟨256 + p'.val, by omega⟩ _ _ _ _ _ _ _ _ (by simp; try omega) (by simp; try omega) (by simp; try omega)]
    · refine Finset.sum_congr rfl fun q _ => ?_
      rw [conv28, tap_2 h0 h1 wa wg H hh0 hh1 ca ba ⟨256 + p'.val, by omega⟩ _ _ _ _ _ _ _ _ (by simp; try omega) (by simp; try omega) (by simp; try omega),
        tap_3 h0 h1 wa wg H hh0 hh1 cg bg ⟨256 + p'.val, by omega⟩ _ _ _ _ _ _ _ _ (by simp; try omega) (by simp; try omega) (by simp; try omega)]
  · obtain ⟨p', d', rfl⟩ : ∃ p' d', x = ix2 p' d' := ⟨x 0, x 1, eq_ix2 x⟩
    clear hc hsum
    simp only [ix2_0, ix2_1] at hx0 hx1
    have hp' : p'.val < 256 := x0_lt
    obtain rfl : d = d' := Fin.ext hx1
    rw [show p = ⟨p'.val, by omega⟩ from Fin.ext hx0]
    rw [down22, hy0]
    congr 2
    · refine Finset.sum_congr rfl fun q _ => ?_
      rw [gate20, conv17, tap_0 h0 h1 wa wg H hh0 hh1 ca ba ⟨p'.val, by omega⟩ _ _ _ _ _ _ _ _ (by simp; try omega) (by simp; try omega) (by simp; try omega),
        tap_1 h0 h1 wa wg H hh0 hh1 cg bg ⟨p'.val, by omega⟩ _ _ _ _ _ _ _ _ (by simp; try omega) (by simp; try omega) (by simp; try omega)]
    · refine Finset.sum_congr rfl fun q _ => ?_
      rw [conv21, tap_2 h0 h1 wa wg H hh0 hh1 ca ba ⟨p'.val, by omega⟩ _ _ _ _ _ _ _ _ (by simp; try omega) (by simp; try omega) (by simp; try omega),
        tap_3 h0 h1 wa wg H hh0 hh1 cg bg ⟨p'.val, by omega⟩ _ _ _ _ _ _ _ _ (by simp; try omega) (by simp; try omega) (by simp; try omega)]

end

end Cert.Proof.Ffn

end
-- ==== Proof.FfnPoint.lean ====
/- What the feed-forward kernel holds after a grid point: the rows, the accumulator and, at a row tile's end, the output. -/
module

public import proofs.«01_k».proof.Proof.FfnBlock
public import proofs.«01_k».proof.Proof.FfnStep
public import proofs.«01_k».proof.Proof.Gen.Kernel2Ideal.Frame
public import Idealize.ShloMosaic.Lib.Pipeline.ReadBack

@[expose] public section

set_option maxRecDepth 16384

noncomputable section

namespace Cert.Proof.Ffn

open Idealize.ShloMosaic Idealize.ShloMosaic.TcCoe Idealize.ShloMosaic.Tactic
open Idealize.SL Idealize.SL.Sem
open Cert.Kernel2Ideal Cert.Kernel2Ideal.Gen

variable (m : (ℓ : Loc nD τ sig) → Buf (Elt Ideal) ℓ) (c : Dev nD)

/-- The accumulator's change at a point, over the rows held there. -/
def pointTerm (t : Fin cfg0.N) (H : Fin 528 → Fin 2048 → EReal) (p : Fin 512) (d : Fin 2048) : EReal :=
  tileTerm (iblk m c 2 t) (iblk m c 3 t) (iblk m c 4 t) (iblk m c 5 t) (iblk m c 6 t) (iblk m c 7 t) (iblk m c 8 t) H p d

theorem held_A (t : Fin cfg0.N) (h0 : t.val % 11 = 0) (h1 : ¬t.val % 11 = 10) :
    (outsAt0 m c t.val t.isLt).2.2.1 = View.canon
      [⟨Rect.unit (s := S528x2048) ![16, 0] ![512, 2048] inb_S528x2048_S512x2048_16_0, k0_pay5 (iblk m c 0 t)⟩,
        ⟨Rect.unit (s := S528x2048) ![0, 0] ![16, 2048] inb_S528x2048_S16x2048_0_0, k0_pay4 (grid0.coords t) (iblk m c 1 t)⟩] := by
  rw [outsAt0_A m c t h0 h1]; frame_out

theorem held_B (t : Fin cfg0.N) (h0 : ¬t.val % 11 = 0) (h1 : ¬t.val % 11 = 10) :
    (outsAt0 m c t.val t.isLt).2.2.1 = (outsAt0 m c (t.val - 1) (lt_of_le_of_lt (Nat.sub_le _ _) t.isLt)).2.2.1 := by
  rw [outsAt0_B m c t h0 h1]; frame_out
  rfl

theorem held_C (t : Fin cfg0.N) (h0 : ¬t.val % 11 = 0) (h1 : t.val % 11 = 10) :
    (outsAt0 m c t.val t.isLt).2.2.1 = (outsAt0 m c (t.val - 1) (lt_of_le_of_lt (Nat.sub_le _ _) t.isLt)).2.2.1 := by
  rw [outsAt0_C m c t h0 h1]; frame_out
  rfl

theorem acc_B (t : Fin cfg0.N) (h0 : ¬t.val % 11 = 0) (h1 : ¬t.val % 11 = 10) (p : Fin 512) (d : Fin 2048) :
    (outsAt0 m c t.val t.isLt).2.2.2 (ix2 p d)
      = (outsAt0 m c (t.val - 1) (lt_of_le_of_lt (Nat.sub_le _ _) t.isLt)).2.2.2 (ix2 p d)
        + pointTerm m c t (fun ρ k => (outsAt0 m c (t.val - 1) (lt_of_le_of_lt (Nat.sub_le _ _) t.isLt)).2.2.1 (ix2 ρ k)) p d := by
  rw [outsAt0_B m c t h0 h1]; frame_out
  simp only [read_unread_whole]
  unfold pointTerm
  exact next_apply _ _ _ _ _ (fun p k => ld_held_lo _ _ p k) (fun p k => ld_held_hi _ _ p k) _ _ _ _ _ _ _
    (fun p d => (outsAt0 m c (t.val - 1) (lt_of_le_of_lt (Nat.sub_le _ _) t.isLt)).2.2.2 (ix2 p d))
    (fun p d => ld_rows_lo _ _ p d) (fun p d => ld_rows_hi _ _ p d) _ p d

theorem acc_C (t : Fin cfg0.N) (h0 : ¬t.val % 11 = 0) (h1 : t.val % 11 = 10) (p : Fin 512) (d : Fin 2048) :
    (outsAt0 m c t.val t.isLt).2.2.2 (ix2 p d)
      = (outsAt0 m c (t.val - 1) (lt_of_le_of_lt (Nat.sub_le _ _) t.isLt)).2.2.2 (ix2 p d)
        + pointTerm m c t (fun ρ k => (outsAt0 m c (t.val - 1) (lt_of_le_of_lt (Nat.sub_le _ _) t.isLt)).2.2.1 (ix2 ρ k)) p d := by
  rw [outsAt0_C m c t h0 h1]; frame_out
  simp only [read_unread_whole]
  unfold pointTerm
  exact next_apply _ _ _ _ _ (fun p k => ld_held_lo _ _ p k) (fun p k => ld_held_hi _ _ p k) _ _ _ _ _ _ _
    (fun p d => (outsAt0 m c (t.val - 1) (lt_of_le_of_lt (Nat.sub_le _ _) t.isLt)).2.2.2 (ix2 p d))
    (fun p d => ld_rows_lo _ _ p d) (fun p d => ld_rows_hi _ _ p d) _ p d

theorem out_C (t : Fin cfg0.N) (h0 : ¬t.val % 11 = 0) (h1 : t.val % 11 = 10) (p : Fin 512) (d : Fin 2048) :
    (outsAt0 m c t.val t.isLt).1 (ix2 p d)
      = close (iblk m c 9 t (ix2 p d)) (fun e => (outsAt0 m c t.val t.isLt).2.2.2 (ix2 p e)) (iblk m c 10 t (ix2 0 d)) d := by
  rw [← close2]
  refine congrFun ?_ _
  rw [outsAt0_C m c t h0 h1]; frame_out
  refine congrArg (fun y => k0_pay2 y _ _) ?_
  rw [View.readCov_eq_canon']
  exact funext fun y => congrArg _ (funext fun a => Fin.ext ((Rect.idx_unit_val _ _ _ _ a).trans (by fin_cases a <;> simp)))
theorem acc_A (t : Fin cfg0.N) (h0 : t.val % 11 = 0) (h1 : ¬t.val % 11 = 10) (p : Fin 512) (d : Fin 2048) :
    (outsAt0 m c t.val t.isLt).2.2.2 (ix2 p d)
      = 0 + pointTerm m c t (fun ρ k => (outsAt0 m c t.val t.isLt).2.2.1 (ix2 ρ k)) p d := by
  rw [held_A m c t h0 h1, outsAt0_A m c t h0 h1]; frame_out
  unfold pointTerm
  generalize ([⟨Rect.unit (s := S528x2048) ![16, 0] ![512, 2048] inb_S528x2048_S512x2048_16_0, k0_pay5 (iblk m c 0 t)⟩,
        ⟨Rect.unit (s := S528x2048) ![0, 0] ![16, 2048] inb_S528x2048_S16x2048_0_0, k0_pay4 (grid0.coords t) (iblk m c 1 t)⟩]
        : List (View.Piece (Elt Ideal) S528x2048 .bf16)) = L
  refine next_apply ((View.whole cc0_scratch0).readCov L (Rect.unit (s := S528x2048) ![0, 0] ![272, 2048] inb_S528x2048_S272x2048_0_0).toLoadRect)
    ((View.whole cc0_scratch0).readCov L (Rect.unit (s := S528x2048) ![272, 0] ![256, 2048] inb_S528x2048_S256x2048_272_0).toLoadRect)
    (iblk m c 2 t) (iblk m c 3 t) (fun ρ k => View.canon L (ix2 ρ k)) (fun p k => ?_) (fun p k => ?_)
    (iblk m c 4 t) (iblk m c 5 t) (iblk m c 6 t) (iblk m c 7 t) (iblk m c 8 t) _ _ (fun _ _ => 0)
    (fun p d => ?_) (fun p d => ?_) _ p d
  · rw [View.readCov_eq_canon']
    exact congrArg _ (funext fun a => Fin.ext ((Rect.idx_unit_val _ _ _ _ a).trans (by fin_cases a <;> simp [ix2])))
  · rw [View.readCov_eq_canon']
    exact congrArg _ (funext fun a => Fin.ext ((Rect.idx_unit_val _ _ _ _ a).trans (by fin_cases a <;> simp [ix2])))
  · refine (congrFun (View.readCov_fill _ _ _ _ _ (by decide)) _).trans ?_
    rw [ld_rows_lo, zero6]
  · refine (congrFun ((View.readCov_skip _ _ _ _ _ (by decide)).trans (View.readCov_fill _ _ _ _ _ (by decide))) _).trans ?_
    rw [ld_rows_hi, zero6]

end Cert.Proof.Ffn

end
-- ==== Proof.FfnRows.lean ====
/- The feed-forward kernel's held rows and accumulator, as parts of the layer. -/
module

public import proofs.«01_k».proof.Proof.FfnPoint
public import Idealize.ShloMosaic.Lib.Pipeline.ValueKit.Acc

@[expose] public section

set_option maxRecDepth 16384

noncomputable section

namespace Cert.Proof.Ffn

open Idealize.ShloMosaic Idealize.ShloMosaic.TcCoe Idealize.ShloMosaic.Tactic
open Idealize.SL Idealize.SL.Sem
open Cert.Kernel2Ideal Cert.Kernel2Ideal.Gen

variable (m : (ℓ : Loc nD τ sig) → Buf (Elt Ideal) ℓ) (c : Dev nD)

/-- The row tile of a grid point. -/
def tileOf (t : Fin cfg0.N) : Fin 32 := ⟨t.val / 11, row_lt t⟩

/-- A row of a row tile, as a row of the whole. -/
def row (i : Fin 32) (p : Fin 512) : Fin 16384 := ⟨512 * i.val + p.val, by omega⟩

/-- The rows held for a row tile: sixteen rows before it, zero at a sequence's start, and then its own. -/
def held (i : Fin 32) (ρ : Fin 528) (k : Fin 2048) : EReal :=
  if h : 16 ≤ ρ.val then argH m c ⟨512 * i.val + (ρ.val - 16), by omega⟩ k
  else if i.val % 8 = 0 then 0 else argH m c ⟨16 * (32 * i.val - 1) + ρ.val, by omega⟩ k

theorem held_cover (x : Vec Ideal S512x2048 .bf16) (y : Vec Ideal S16x2048 .bf16) (ρ : Fin 528) (k : Fin 2048) :
    ∃ r ∈ ([⟨Rect.unit (s := S528x2048) ![16, 0] ![512, 2048] inb_S528x2048_S512x2048_16_0, x⟩,
        ⟨Rect.unit (s := S528x2048) ![0, 0] ![16, 2048] inb_S528x2048_S16x2048_0_0, y⟩] : List (View.Piece (Elt Ideal) S528x2048 .bf16)),
      (ix2 ρ k : S528x2048.Idx) ∈ r.1.set := by
  have hp := ρ.isLt
  have hd := k.isLt
  by_cases h : ρ.val < 16
  · refine ⟨_, List.mem_cons_of_mem _ List.mem_cons_self, ?_⟩
    refine (Rect.mem_set_unit (inb := inb_S528x2048_S16x2048_0_0)).mpr fun a => ?_
    fin_cases a <;> simp [ix2] <;> omega
  · refine ⟨_, List.mem_cons_self, ?_⟩
    refine (Rect.mem_set_unit (inb := inb_S528x2048_S512x2048_16_0)).mpr fun a => ?_
    fin_cases a <;> simp [ix2] <;> omega

theorem held_first (t : Fin cfg0.N) (ρ : Fin 528) (k : Fin 2048) :
    View.canon (Val := Elt Ideal) (e := .bf16)
      [⟨Rect.unit (s := S528x2048) ![16, 0] ![512, 2048] inb_S528x2048_S512x2048_16_0, k0_pay5 (iblk m c 0 t)⟩,
        ⟨Rect.unit (s := S528x2048) ![0, 0] ![16, 2048] inb_S528x2048_S16x2048_0_0, k0_pay4 (grid0.coords t) (iblk m c 1 t)⟩] (ix2 ρ k)
      = held m c (tileOf t) ρ k := by
  have hc := held_cover (k0_pay5 (iblk m c 0 t)) (k0_pay4 (grid0.coords t) (iblk m c 1 t)) ρ k
  canon_tiles x hx using hc
  · obtain ⟨p', d', rfl⟩ : ∃ p' d', x = ix2 p' d' := ⟨x 0, x 1, eq_ix2 x⟩
    clear hc
    simp only [ix2_0, ix2_1] at hx0 hx1
    have hp' : p'.val < 512 := x0_lt
    obtain rfl : k = d' := Fin.ext hx1
    rw [rows5, block_h]
    unfold held tileOf
    rw [dif_pos (by omega)]
    exact congrArg (fun r => argH m c r k) (Fin.ext (by simp only; omega))
  · obtain ⟨p', d', rfl⟩ : ∃ p' d', x = ix2 p' d' := ⟨x 0, x 1, eq_ix2 x⟩
    clear hc
    simp only [ix2_0, ix2_1] at hx0 hx1
    have hp' : p'.val < 16 := x0_lt
    obtain rfl : k = d' := Fin.ext hx1
    rw [halo4, coord_0, block_halo]
    unfold held tileOf
    rw [dif_neg (by omega)]
    exact congrArg (fun z => if t.val / 11 % 8 = 0 then (0 : EReal) else z) (congrArg (fun r => argH m c r k) (Fin.ext (by simp only; omega)))

/-- At every point of a row tile the rows held are that tile's. -/
theorem held_eq (n : ℕ) : ∀ (h : n < cfg0.N) (ρ : Fin 528) (k : Fin 2048),
    (outsAt0 m c n h).2.2.1 (ix2 ρ k) = held m c (tileOf ⟨n, h⟩) ρ k := by
  induction n with
  | zero =>
    intro h ρ k
    exact (congrFun (held_A m c ⟨0, h⟩ (Nat.zero_mod 11) (by simp)) _).trans (held_first m c ⟨0, h⟩ ρ k)
  | succ n ih =>
    intro h ρ k
    by_cases h0 : (n + 1) % 11 = 0
    · exact (congrFun (held_A m c ⟨n + 1, h⟩ h0 (by simp only; omega)) _).trans (held_first m c ⟨n + 1, h⟩ ρ k)
    · have e : tileOf ⟨n, by omega⟩ = tileOf ⟨n + 1, h⟩ := Fin.ext (by simp only [tileOf]; omega)
      rw [← e]
      refine .trans ?_ (ih (by omega) ρ k)
      by_cases h1 : (n + 1) % 11 = 10
      · exact congrFun (held_C m c ⟨n + 1, h⟩ h0 h1) _
      · exact congrFun (held_B m c ⟨n + 1, h⟩ h0 h1) _

/-- A held row through the up projection is the layer's row, some places earlier. -/
theorem dot_back (w : Vec Ideal S1x2048x512 .bf16) (f : Fin 512) (n : Fin 11264) (hw : ∀ k, w (ix3 0 k f) = argW m c k n)
    (i : Fin 32) (p : Fin 512) (s : ℕ) (hs : s ≤ 2) (ρ : Fin 528) (hρ : ρ.val + s = 16 + p.val) :
    dotCol w (held m c i) ρ f = back (up (argH m c) (argW m c)) s (row i p) n := by
  unfold dotCol back up
  by_cases h : 16 ≤ ρ.val
  · rw [if_pos (by simp only [row]; omega)]
    refine Finset.sum_congr rfl fun k _ => ?_
    rw [hw]
    unfold held
    rw [dif_pos h]
    exact congrArg (fun r => argH m c r k * argW m c k n) (Fin.ext (by simp only [row]; omega))
  · by_cases hi : i.val % 8 = 0
    · rw [if_neg (by simp only [row]; omega)]
      refine Finset.sum_eq_zero fun k _ => ?_
      unfold held
      rw [dif_neg h, if_pos hi, zero_mul]
    · rw [if_pos (by simp only [row]; omega)]
      refine Finset.sum_congr rfl fun k _ => ?_
      rw [hw]
      unfold held
      rw [dif_neg h, if_neg hi]
      exact congrArg (fun r => argH m c r k * argW m c k n) (Fin.ext (by simp only [row]; omega))

/-- A product of the down projection; past its last, zero. -/
def prod (r : Fin 16384) (d : Fin 2048) (n : ℕ) : EReal :=
  if h : n < 5632 then act (up (argH m c) (argW m c)) (argC m c) (argB m c) r ⟨n, h⟩ * argD m c ⟨n, h⟩ d else 0

theorem conv_a (t : Fin cfg0.N) (p f : Fin 512) :
    tileConv (iblk m c 2 t) (iblk m c 4 t) (iblk m c 6 t) (held m c (tileOf t)) p f
      = conv (up (argH m c) (argW m c)) (argC m c) (argB m c) (row (tileOf t) p)
          ⟨512 * (t.val % 11) + f.val, by have := col_lt t; omega⟩ := by
  unfold tileConv taps conv
  rw [block_bias_a, block_taps_a, block_taps_a, block_taps_a,
    dot_back m c _ f _ (fun k => block_up_a m c t k f) (tileOf t) p 2 (by omega) ⟨14 + p.val, by omega⟩ (by simp only; omega),
    dot_back m c _ f _ (fun k => block_up_a m c t k f) (tileOf t) p 1 (by omega) ⟨15 + p.val, by omega⟩ (by simp only; omega),
    dot_back m c _ f _ (fun k => block_up_a m c t k f) (tileOf t) p 0 (by omega) ⟨16 + p.val, by omega⟩ (by simp only; omega)]

theorem conv_g (t : Fin cfg0.N) (p f : Fin 512) :
    tileConv (iblk m c 3 t) (iblk m c 5 t) (iblk m c 7 t) (held m c (tileOf t)) p f
      = conv (up (argH m c) (argW m c)) (argC m c) (argB m c) (row (tileOf t) p)
          ⟨5632 + (512 * (t.val % 11) + f.val), by have := col_lt t; omega⟩ := by
  unfold tileConv taps conv
  rw [block_bias_g, block_taps_g, block_taps_g, block_taps_g,
    dot_back m c _ f _ (fun k => block_up_g m c t k f) (tileOf t) p 2 (by omega) ⟨14 + p.val, by omega⟩ (by simp only; omega),
    dot_back m c _ f _ (fun k => block_up_g m c t k f) (tileOf t) p 1 (by omega) ⟨15 + p.val, by omega⟩ (by simp only; omega),
    dot_back m c _ f _ (fun k => block_up_g m c t k f) (tileOf t) p 0 (by omega) ⟨16 + p.val, by omega⟩ (by simp only; omega)]

/-- What a point adds: the products of its 512 columns. -/
theorem pointTerm_eq (t : Fin cfg0.N) (p : Fin 512) (d : Fin 2048) :
    pointTerm m c t (held m c (tileOf t)) p d = ∑ f : Fin 512, prod m c (row (tileOf t) p) d (512 * (t.val % 11) + f.val) := by
  unfold pointTerm tileTerm
  refine Finset.sum_congr rfl fun f _ => ?_
  rw [conv_a, conv_g, block_down]
  unfold prod act
  rw [dif_pos (by have := col_lt t; omega)]

/-- The columns of all points of a row tile, in order, are all columns. -/
theorem sum_tiles (F : ℕ → EReal) (J : ℕ) :
    ∑ j ∈ Finset.range J, ∑ f : Fin 512, F (512 * j + f.val) = ∑ n ∈ Finset.range (512 * J), F n := by
  induction J with
  | zero => simp
  | succ J ih =>
    rw [Finset.sum_range_succ, ih, Nat.mul_succ, Finset.sum_range_add, Finset.sum_range (fun x => F (512 * J + x))]

/-- A point's term by its number. -/
def term (p : Fin 512) (d : Fin 2048) (n : ℕ) : EReal :=
  if h : n / 11 < 32 then ∑ f : Fin 512, prod m c (row ⟨n / 11, h⟩ p) d (512 * (n % 11) + f.val) else 0

theorem term_eq (t : Fin cfg0.N) (p : Fin 512) (d : Fin 2048) (H : Fin 528 → Fin 2048 → EReal) (hH : H = held m c (tileOf t)) :
    pointTerm m c t H p d = term m c p d t.val := by
  rw [hH, pointTerm_eq]
  unfold term
  rw [dif_pos (row_lt t)]
  rfl

theorem acc_sum (t : Fin cfg0.N) (p : Fin 512) (d : Fin 2048) :
    (outsAt0 m c t.val t.isLt).2.2.2 (ix2 p d) = 0 + ∑ k ∈ Finset.range (t.val % 11 + 1), term m c p d (11 * (t.val / 11) + k) := by
  refine Pipeline.eq_sum_of_reset_step (fun n h => (outsAt0 m c n h).2.2.2 (ix2 p d)) 11 0 (term m c p d) (fun t h0 => ?_) (fun t h0 => ?_) t
  · refine (acc_A m c t h0 (by omega) p d).trans (congrArg (0 + ·) (term_eq m c t p d _ ?_))
    exact funext fun ρ => funext fun k => held_eq m c t.val t.isLt ρ k
  · have hH : (fun ρ k => (outsAt0 m c (t.val - 1) (lt_of_le_of_lt (Nat.sub_le _ _) t.isLt)).2.2.1 (ix2 ρ k)) = held m c (tileOf t) := by
      refine funext fun ρ => funext fun k => (held_eq m c (t.val - 1) (lt_of_le_of_lt (Nat.sub_le _ _) t.isLt) ρ k).trans ?_
      exact congrArg (fun i => held m c i ρ k) (Fin.ext (by simp only [tileOf]; omega))
    by_cases h1 : t.val % 11 = 10
    · exact (acc_C m c t h0 h1 p d).trans (congrArg _ (term_eq m c t p d _ hH))
    · exact (acc_B m c t h0 h1 p d).trans (congrArg _ (term_eq m c t p d _ hH))

/-- At a row tile's last point the accumulator holds the down projection of its rows. -/
theorem acc_last (t : Fin cfg0.N) (h1 : t.val % 11 = 10) (p : Fin 512) (d : Fin 2048) :
    (outsAt0 m c t.val t.isLt).2.2.2 (ix2 p d)
      = down (act (up (argH m c) (argW m c)) (argC m c) (argB m c)) (argD m c) (row (tileOf t) p) d := by
  rw [acc_sum, h1, zero_add]
  refine .trans (b := ∑ j ∈ Finset.range 11, ∑ f : Fin 512, prod m c (row (tileOf t) p) d (512 * j + f.val)) ?_ ?_
  · refine Finset.sum_congr rfl fun j hj => ?_
    have hj := Finset.mem_range.mp hj
    have hr := row_lt t
    have e1 : (11 * (t.val / 11) + j) / 11 = t.val / 11 := by omega
    have e2 : (11 * (t.val / 11) + j) % 11 = j := by omega
    unfold term
    rw [dif_pos (by omega), e2]
    have e3 : (⟨(11 * (t.val / 11) + j) / 11, by omega⟩ : Fin 32) = tileOf t := Fin.ext e1
    rw [e3]
  · rw [sum_tiles, Finset.sum_range]
    unfold down
    refine Finset.sum_congr rfl fun f _ => ?_
    unfold prod
    rw [dif_pos f.isLt]

/-- At a row tile's last point the output's block holds the layer's rows. -/
theorem out_last (t : Fin cfg0.N) (h1 : t.val % 11 = 10) (p : Fin 512) (d : Fin 2048) :
    (outsAt0 m c t.val t.isLt).1 (ix2 p d)
      = layer (argH m c) (argX m c) (argW m c) (argC m c) (argB m c) (argD m c) (argG m c) (row (tileOf t) p) d := by
  rw [out_C m c t (by omega) h1 p d, block_x, block_gain]
  unfold layer
  refine congrArg (fun y => close (argX m c (row (tileOf t) p) d) y (argG m c d) d) ?_
  exact funext fun e => acc_last m c t h1 p e

end Cert.Proof.Ffn

end
-- ==== Proof.FfnRef.lean ====
/- What the feed-forward reference computes, step by step, at one element over the extended reals. -/
module

public import proofs.«01_k».proof.Proof.Gen.Reference2Ideal.Run
public import Idealize.ShloMosaic.Lib.Pointwise
public import proofs.«01_k».proof.Proof.FfnSpec

@[expose] public section

set_option maxRecDepth 16384

noncomputable section

namespace Cert.Proof.FfnRef

open Cert.Reference2Ideal Cert.Reference2Ideal.Gen Cert.Reference2Ideal.Value
open Idealize.ShloMosaic Idealize.ShloMosaic.TcCoe Idealize.SL.Sem

variable {F : FTy → Type} [FloatOps F]

/-- The up projection, by sequence, position and column. -/
def ups (h : FVec F S16384x2048 .bf16) (w : FVec F S4x2048x11264 .f32) : FVec F S4x4096x11264 .f32 :=
  Host.dotGeneral dot_S4x4096x2048_S2048x11264_S4x4096x11264_2_0_01_1_n_n none (shapeCast _ (extf .f32 h bitsLt_bf16_f32) shapeCasts_S16384x2048_S4x4096x2048) (shapeCast _ (extractStridedSlice S1x2048x11264 ![3, 0, 0] w slices_S4x2048x11264_S1x2048x11264_3_0_0) shapeCasts_S1x2048x11264_S2048x11264)

/-- The same with two zero rows before each sequence. -/
def padded (u : FVec F S4x4096x11264 .f32) : FVec F S4x4098x11264 .f32 :=
  pad S4x4098x11264 ![0, 2, 0] ![0, 0, 0] ![0, 0, 0] u (sitofp .f32 (constantI S_ 32 0#32)) pads_S4x4096x11264_S4x4098x11264_000_200_000 h_S_

/-- The last layer's convolution weights. -/
def taps (cw : FVec F S4x3x11264 .f32) : FVec F S3x11264 .f32 :=
  shapeCast _ (extractStridedSlice S1x3x11264 ![3, 0, 0] cw slices_S4x3x11264_S1x3x11264_3_0_0) shapeCasts_S1x3x11264_S3x11264

/-- The padded rows from each of the three offsets on, times that offset's weights. -/
def tap0 (p : FVec F S4x4098x11264 .f32) (w : FVec F S3x11264 .f32) : FVec F S4x4096x11264 .f32 :=
  mulf (extractStridedSlice S4x4096x11264 ![0, 0, 0] p slices_S4x4098x11264_S4x4096x11264_0_0_0) (broadcastInDim S4x4096x11264 ![0, 1, 2] bcast_S1x1x11264_S4x4096x11264_0_1_2 (broadcastInDim S1x1x11264 ![2] bcast_S11264_S1x1x11264_2 (shapeCast _ (extractStridedSlice S1x11264 ![0, 0] w slices_S3x11264_S1x11264_0_0) shapeCasts_S1x11264_S11264)))
def tap1 (p : FVec F S4x4098x11264 .f32) (w : FVec F S3x11264 .f32) : FVec F S4x4096x11264 .f32 :=
  mulf (extractStridedSlice S4x4096x11264 ![0, 1, 0] p slices_S4x4098x11264_S4x4096x11264_0_1_0) (broadcastInDim S4x4096x11264 ![0, 1, 2] bcast_S1x1x11264_S4x4096x11264_0_1_2 (broadcastInDim S1x1x11264 ![2] bcast_S11264_S1x1x11264_2 (shapeCast _ (extractStridedSlice S1x11264 ![1, 0] w slices_S3x11264_S1x11264_1_0) shapeCasts_S1x11264_S11264)))
def tap2 (p : FVec F S4x4098x11264 .f32) (w : FVec F S3x11264 .f32) : FVec F S4x4096x11264 .f32 :=
  mulf (extractStridedSlice S4x4096x11264 ![0, 2, 0] p slices_S4x4098x11264_S4x4096x11264_0_2_0) (broadcastInDim S4x4096x11264 ![0, 1, 2] bcast_S1x1x11264_S4x4096x11264_0_1_2 (broadcastInDim S1x1x11264 ![2] bcast_S11264_S1x1x11264_2 (shapeCast _ (extractStridedSlice S1x11264 ![2, 0] w slices_S3x11264_S1x11264_2_0) shapeCasts_S1x11264_S11264)))

/-- The convolution: the three taps and the bias. -/
def convs (p : FVec F S4x4098x11264 .f32) (w : FVec F S3x11264 .f32) (cb : FVec F S4x11264 .f32) : FVec F S4x4096x11264 .f32 :=
  addf (addf (addf (addf (broadcastInDim S4x4096x11264 ![] bcast_S_S4x4096x11264 (constant S_ .f32 0x00000000#32)) (tap0 p w)) (tap1 p w)) (tap2 p w)) (broadcastInDim S4x4096x11264 ![0, 1, 2] bcast_S1x1x11264_S4x4096x11264_0_1_2 (broadcastInDim S1x1x11264 ![2] bcast_S11264_S1x1x11264_2 (shapeCast _ (extractStridedSlice S1x11264 ![3, 0] cb slices_S4x11264_S1x11264_3_0) shapeCasts_S1x11264_S11264)))

/-- The gate: the first half through its sigmoid, times the second half. -/
def acts (c : FVec F S4x4096x11264 .f32) : FVec F S4x4096x5632 .f32 :=
  mulf (mulf (extractStridedSlice S4x4096x5632 ![0, 0, 0] c slices_S4x4096x11264_S4x4096x5632_0_0_0) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (extractStridedSlice S4x4096x5632 ![0, 0, 0] c slices_S4x4096x11264_S4x4096x5632_0_0_0)))))) (extractStridedSlice S4x4096x5632 ![0, 0, 5632] c slices_S4x4096x11264_S4x4096x5632_0_0_5632)

/-- The down projection, by row and column. -/
def downs (a : FVec F S4x4096x5632 .f32) (w : FVec F S4x5632x2048 .f32) : FVec F S16384x2048 .f32 :=
  shapeCast _ (Host.dotGeneral dot_S4x4096x5632_S5632x2048_S4x4096x2048_2_0_01_1_n_n none a (shapeCast _ (extractStridedSlice S1x5632x2048 ![3, 0, 0] w slices_S4x5632x2048_S1x5632x2048_3_0_0) shapeCasts_S1x5632x2048_S5632x2048)) shapeCasts_S4x4096x2048_S16384x2048

/-- Each row over the root of its mean square, times the gains, added to the input. -/
def closed (x y : FVec F S16384x2048 .f32) (g : FVec F S4x2048 .f32) : FVec F S16384x2048 .f32 :=
  addf x (mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![3, 0] g slices_S4x2048_S1x2048_3_0) shapeCasts_S1x2048_S2048))))

/-- The reference's result, from its steps. -/
theorem result_eq (m : (ℓ : Loc nD τ sig) → Buf (Elt F) ℓ) (c : Dev nD) :
    res_out0 m c = closed (m ((c.tc : Thread nD τ).loc main_arg1))
      (downs (acts (convs (padded (ups (m ((c.tc : Thread nD τ).loc main_arg0)) (m ((c.tc : Thread nD τ).loc main_arg2)))) (taps (m ((c.tc : Thread nD τ).loc main_arg3))) (m ((c.tc : Thread nD τ).loc main_arg4))))
        (m ((c.tc : Thread nD τ).loc main_arg5))) (m ((c.tc : Thread nD τ).loc main_arg6)) := rfl

/-- The up projection at an element. -/
theorem ups_apply (h : FVec Ideal S16384x2048 .bf16) (w : FVec Ideal S4x2048x11264 .f32) (b : Fin 4) (s : Fin 4096) (n : Fin 11264) :
    ups h w (ix3 b s n) = Ffn.up (fun r k => h (ix2 r k)) (fun k n => w (ix3 3 k n)) ⟨b.val * 4096 + s.val, by omega⟩ n := by
  pointwise [ups]
  rfl

/-- The padded rows `j` on: the row `2 - j` places back. -/
theorem padded_apply {u : FVec Ideal S4x4096x11264 .f32} {v : Fin 16384 → Fin 11264 → EReal}
    (hu : ∀ (b : Fin 4) (s : Fin 4096) (n : Fin 11264), u (ix3 b s n) = v ⟨b.val * 4096 + s.val, by omega⟩ n)
    (j k : ℕ) (hj : j + k = 2) (b : Fin 4) (s : Fin 4096) (t : Fin 4098) (ht : t.val = j + s.val) (n : Fin 11264) :
    padded u (ix3 b t n) = Ffn.back v k ⟨b.val * 4096 + s.val, by omega⟩ n := by
  have hs := s.isLt
  pointwise [padded]
  unfold Ffn.back
  have e : (b.val * 4096 + s.val) % 4096 = s.val := by omega
  by_cases h : 2 ≤ t.val
  · rw [dif_pos ⟨h, by omega⟩, if_pos (by simp only; omega), hu]
    exact congrArg (v · n) (Fin.ext (by simp only; omega))
  · rw [dif_neg (fun q => h q.1), if_neg (by simp only; omega)]
    norm_num [FloatOps.sitofp]

/-- The taps at an element. -/
theorem tap0_apply (p : FVec Ideal S4x4098x11264 .f32) (w : FVec Ideal S4x3x11264 .f32) (b : Fin 4) (s : Fin 4096) (n : Fin 11264) :
    tap0 p (taps w) (ix3 b s n) = p (ix3 b ⟨s.val, by omega⟩ n) * w (ix3 3 0 n) := by
  pointwise [tap0, taps]
theorem tap1_apply (p : FVec Ideal S4x4098x11264 .f32) (w : FVec Ideal S4x3x11264 .f32) (b : Fin 4) (s : Fin 4096) (n : Fin 11264) :
    tap1 p (taps w) (ix3 b s n) = p (ix3 b ⟨1 + s.val, by omega⟩ n) * w (ix3 3 1 n) := by
  pointwise [tap1, taps]
theorem tap2_apply (p : FVec Ideal S4x4098x11264 .f32) (w : FVec Ideal S4x3x11264 .f32) (b : Fin 4) (s : Fin 4096) (n : Fin 11264) :
    tap2 p (taps w) (ix3 b s n) = p (ix3 b ⟨2 + s.val, by omega⟩ n) * w (ix3 3 2 n) := by
  pointwise [tap2, taps]

/-- The convolution at an element. -/
theorem convs_apply {u : FVec Ideal S4x4096x11264 .f32} {v : Fin 16384 → Fin 11264 → EReal}
    (hu : ∀ (b : Fin 4) (s : Fin 4096) (n : Fin 11264), u (ix3 b s n) = v ⟨b.val * 4096 + s.val, by omega⟩ n)
    (w : FVec Ideal S4x3x11264 .f32) (cb : FVec Ideal S4x11264 .f32) (b : Fin 4) (s : Fin 4096) (n : Fin 11264) :
    convs (padded u) (taps w) cb (ix3 b s n)
      = Ffn.conv v (fun j n => w (ix3 3 j n)) (fun n => cb (ix2 3 n)) ⟨b.val * 4096 + s.val, by omega⟩ n := by
  pointwise [convs]
  rw [tap0_apply, tap1_apply, tap2_apply, padded_apply hu 0 2 rfl b s _ (by simp), padded_apply hu 1 1 rfl b s _ rfl, padded_apply hu 2 0 rfl b s _ rfl]
  unfold Ffn.conv
  abel

/-- The activations at an element. -/
theorem acts_apply (c : FVec Ideal S4x4096x11264 .f32) (b : Fin 4) (s : Fin 4096) (n : Fin 5632) :
    acts c (ix3 b s n) = Ffn.gate (c (ix3 b s ⟨n.val, by omega⟩)) (c (ix3 b s ⟨5632 + n.val, by omega⟩)) := by
  pointwise [acts]
  rfl

/-- The down projection at an element. -/
theorem downs_apply (a : FVec Ideal S4x4096x5632 .f32) (w : FVec Ideal S4x5632x2048 .f32) (r : Fin 16384) (d : Fin 2048) :
    downs a w (ix2 r d) = ∑ f : Fin 5632, a (ix3 ⟨r.val / 4096, by omega⟩ ⟨r.val % 4096, by omega⟩ f) * w (ix3 3 f d) := by
  pointwise [downs]

/-- The closing step at an element. -/
theorem closed_apply (x y : FVec Ideal S16384x2048 .f32) (g : FVec Ideal S4x2048 .f32) (r : Fin 16384) (d : Fin 2048) :
    closed x y g (ix2 r d) = Ffn.close (x (ix2 r d)) (fun e => y (ix2 r e)) (g (ix2 3 d)) d := by
  pointwise [closed]
  rfl

/-- The reference's result at an element. -/
theorem result_apply (m : (ℓ : Loc nD τ sig) → Buf (Elt Ideal) ℓ) (c : Dev nD) (r : Fin 16384) (d : Fin 2048) :
    res_out0 m c (ix2 r d) = Ffn.layer (fun r k => m ((c.tc : Thread nD τ).loc main_arg0) (ix2 r k)) (fun r k => m ((c.tc : Thread nD τ).loc main_arg1) (ix2 r k))
      (fun k n => m ((c.tc : Thread nD τ).loc main_arg2) (ix3 3 k n)) (fun j n => m ((c.tc : Thread nD τ).loc main_arg3) (ix3 3 j n))
      (fun n => m ((c.tc : Thread nD τ).loc main_arg4) (ix2 3 n)) (fun f d => m ((c.tc : Thread nD τ).loc main_arg5) (ix3 3 f d))
      (fun d => m ((c.tc : Thread nD τ).loc main_arg6) (ix2 3 d)) r d := by
  rw [result_eq, closed_apply]
  unfold Ffn.layer
  refine congrArg (fun y => Ffn.close _ y _ d) (funext fun e => ?_)
  rw [downs_apply]
  unfold Ffn.down
  refine Finset.sum_congr rfl fun f _ => congrArg (· * _) ?_
  rw [acts_apply, convs_apply (ups_apply _ _), convs_apply (ups_apply _ _)]
  unfold Ffn.act
  have e : (⟨r.val / 4096 * 4096 + r.val % 4096, by omega⟩ : Fin 16384) = r := Fin.ext (by simp only; omega)
  rw [e]

end Cert.Proof.FfnRef

end
-- ==== Proof.FfnEquation.lean ====
/- The feed-forward kernel's result array over the extended reals is the reference's. -/
module

public import proofs.«01_k».proof.Proof.FfnRows
public import proofs.«01_k».proof.Proof.FfnRef
public import proofs.«01_k».proof.Proof.Gen.Kernel2Ideal.Value
public import Idealize.ShloMosaic.Lib.Claim
public import Idealize.ShloMosaic.Lib.Pipeline.ValueKit.Point

@[expose] public section

set_option maxRecDepth 16384

noncomputable section

namespace Cert.Proof.Ffn

open Idealize.ShloMosaic Idealize.ShloMosaic.TcCoe Idealize.ShloMosaic.Tactic
open Idealize.SL Idealize.SL.Sem
open Cert.Kernel2Ideal Cert.Kernel2Ideal.Gen

/-- Only a row tile's last point writes the output's block back. -/
theorem flush_last : ∀ t : Fin grid0.N, (cfg0.win 12).flush t = true → t.val % 11 = 10 := by decide +kernel

section

variable (m : (ℓ : Loc nD τ sig) → Buf (Elt Ideal) ℓ) (c : Dev nD)

/-- The layer of the kernel's arguments, as an array. -/
def layerArray : Vec Ideal S16384x2048 .f32 := fun y =>
  layer (argH m c) (argX m c) (argW m c) (argC m c) (argB m c) (argD m c) (argG m c) (y 0) (y 1)

/-- The kernel's array is the layer's. -/
theorem array_eq : (dats m 0 c).arrAt 12 cfg0.N = layerArray m c := by
  refine (dats m 0 c).arrAt_eq_of_covers 12 _ (by decide +kernel) fun t hf y => ?_
  have h1 : t.val % 11 = 10 := flush_last t hf
  blk_simp
  rw [after0_12]
  obtain ⟨p, d, rfl⟩ : ∃ (p : Fin 512) (d : Fin 2048), y = (ix2 p d : S512x2048.Idx) := ⟨y 0, y 1, eq_ix2 y⟩
  refine (out_last m c t h1 p d).trans ?_
  have e : (win0_12.blk t).view.emb (ix2 p d) = (ix2 (row (tileOf t) p) d : S16384x2048.Idx) := by
    unfold row tileOf
    blk_ext [at_12 t]
  rw [e]
  rfl

end

/-- From memories with the same arguments: the kernel's array and the reference's are equal. -/
theorem result_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    Cert.Reference2Ideal.Value.res_out0 m' c = (dats m 0 c).arrAt 12 Cert.Kernel2Ideal.cfg0.N := by
  rw [array_eq]
  funext y
  obtain ⟨r, d, rfl⟩ : ∃ (r : Fin 16384) (d : Fin 2048), y = (ix2 r d : Cert.Kernel2Ideal.S16384x2048.Idx) := ⟨y 0, y 1, eq_ix2 y⟩
  refine (FfnRef.result_apply m' c r d).trans ?_
  rw [h0, h1, h2, h3, h4, h5, h6]
  rfl

end Cert.Proof.Ffn

end
-- ==== Proof.MergeBlock.lean ====
/- The branch merge kernel's input blocks at every grid point, as parts of the arguments. -/
module

public import proofs.«01_k».proof.Proof.Gen.Kernel3Ideal.Frame
public import Idealize.ShloMosaic.Lib.Claim
public import Idealize.ShloMosaic.Lib.Pointwise
public import Idealize.ShloMosaic.Lib.Pipeline.ValueKit.Point

@[expose] public section

set_option maxRecDepth 16384

noncomputable section

namespace Cert.Proof.Merge

open Idealize.ShloMosaic Idealize.ShloMosaic.TcCoe Idealize.ShloMosaic.Tactic
open Idealize.SL Idealize.SL.Sem
open Cert.Kernel3Ideal Cert.Kernel3Ideal.Gen

/-! ### Where the blocks lie: point `t` is row tile `t / 4` and column tile `t % 4` -/

theorem at_0 : ∀ t : Fin grid0.N, win0_0.index t = ![t.val / 4, 0] := by decide +kernel
theorem at_1 : ∀ t : Fin grid0.N, win0_1.index t = ![t.val / 4, 0] := by decide +kernel
theorem at_2 : ∀ t : Fin grid0.N, win0_2.index t = ![t.val / 4, 0] := by decide +kernel
theorem at_3 : ∀ t : Fin grid0.N, win0_3.index t = ![0, 0, t.val % 4] := by decide +kernel
theorem at_4 : ∀ t : Fin grid0.N, win0_4.index t = ![0, 0, t.val % 4 + 4] := by decide +kernel
theorem at_5 : ∀ t : Fin grid0.N, win0_5.index t = ![0, t.val % 4] := by decide +kernel
theorem at_6 : ∀ t : Fin grid0.N, win0_6.index t = ![0, t.val % 4 + 4] := by decide +kernel
theorem at_7 : ∀ t : Fin grid0.N, win0_7.index t = ![0, 0, t.val % 4] := by decide +kernel
theorem at_8 : ∀ t : Fin grid0.N, win0_8.index t = ![0, 0, t.val % 4] := by decide +kernel
theorem at_9 : ∀ t : Fin grid0.N, win0_9.index t = ![t.val / 4, t.val % 4] := by decide +kernel
theorem row_lt : ∀ t : Fin grid0.N, t.val / 4 < 16 := by decide +kernel
theorem col_lt (t : Fin grid0.N) : t.val % 4 < 4 := Nat.mod_lt _ (by decide)

/-- The array's row of a tile's row, and its column of a tile's column. -/
def row (t : Fin grid0.N) (i : Fin 1024) : Fin 16384 := ⟨1024 * (t.val / 4) + i.val, by have := row_lt t; omega⟩
def col (t : Fin grid0.N) (q : Fin 512) : Fin 2048 := ⟨512 * (t.val % 4) + q.val, by have := col_lt t; omega⟩

variable (m : (ℓ : Loc nD τ sig) → Buf (Elt Ideal) ℓ) (c : Dev nD)

/-! ### The arguments -/

/-- The normalised input, the two branches' outputs, the first layer's gate weights and biases and the two projections. -/
def argH (r : Fin 16384) (k : Fin 2048) : EReal := m ((c.tc : Thread nD τ).loc main_arg0) (ix2 r k)
def argO (r : Fin 16384) (k : Fin 1024) : EReal := m ((c.tc : Thread nD τ).loc main_arg1) (ix2 r k)
def argP (r : Fin 16384) (k : Fin 1024) : EReal := m ((c.tc : Thread nD τ).loc main_arg2) (ix2 r k)
def argG (k : Fin 2048) (n : Fin 4096) : EReal := m ((c.tc : Thread nD τ).loc main_arg3) (ix3 0 k n)
def argB (n : Fin 4096) : EReal := m ((c.tc : Thread nD τ).loc main_arg4) (ix2 0 n)
def argV (k : Fin 1024) (n : Fin 2048) : EReal := m ((c.tc : Thread nD τ).loc main_arg5) (ix3 0 k n)
def argW (k : Fin 1024) (n : Fin 2048) : EReal := m ((c.tc : Thread nD τ).loc main_arg6) (ix3 0 k n)

/-! ### The arrays prepared before the call -/

theorem entry_v (k : Fin 1024) (n : Fin 2048) : V m c main_v0 (ix3 0 k n) = argV m c k n := by rfl
theorem entry_w (k : Fin 1024) (n : Fin 2048) : V m c main_v1 (ix3 0 k n) = argW m c k n := by rfl

theorem entry_bias (n : Fin 4096) : V m c main_v4 (ix2 0 n) = argB m c n := by
  have h : V m c main_v4 = broadcastInDim S1x4096 ![1] bcast_S4096_S1x4096_1 (shapeCast S4096 (extractStridedSlice S1x4096 ![0, 0] (m ((c.tc : Thread nD τ).loc main_arg4)) slices_S4x4096_S1x4096_0_0) shapeCasts_S1x4096_S4096) := by rfl
  rw [h]
  pointwise
  rfl

theorem entry_bias' (n : Fin 4096) : V m c main_v5 (ix2 0 n) = argB m c n := by
  have h : V m c main_v5 = broadcastInDim S1x4096 ![1] bcast_S4096_S1x4096_1 (shapeCast S4096 (extractStridedSlice S1x4096 ![0, 0] (m ((c.tc : Thread nD τ).loc main_arg4)) slices_S4x4096_S1x4096_0_0) shapeCasts_S1x4096_S4096) := by rfl
  rw [h]
  pointwise
  rfl

/-! ### The blocks -/

theorem block_h (t : Fin grid0.N) (i : Fin 1024) (k : Fin 2048) : iblk m c 0 t (ix2 i k) = argH m c (row t i) k := by
  have h : iblk m c 0 t (ix2 i k) = V m c main_arg0 (ix2 (row t i) k) := by
    unfold row
    blk_ext [iblk, at_0 t]
  rw [h]; rfl

theorem block_o (t : Fin grid0.N) (i : Fin 1024) (k : Fin 1024) : iblk m c 1 t (ix2 i k) = argO m c (row t i) k := by
  have h : iblk m c 1 t (ix2 i k) = V m c main_arg1 (ix2 (row t i) k) := by
    unfold row
    blk_ext [iblk, at_1 t]
  rw [h]; rfl

theorem block_p (t : Fin grid0.N) (i : Fin 1024) (k : Fin 1024) : iblk m c 2 t (ix2 i k) = argP m c (row t i) k := by
  have h : iblk m c 2 t (ix2 i k) = V m c main_arg2 (ix2 (row t i) k) := by
    unfold row
    blk_ext [iblk, at_2 t]
  rw [h]; rfl

theorem block_ga (t : Fin grid0.N) (k : Fin 2048) (q : Fin 512) :
    iblk m c 3 t (ix3 0 k q) = argG m c k ⟨(col t q).val, by omega⟩ := by
  have h : iblk m c 3 t (ix3 0 k q) = V m c main_arg3 (ix3 0 k ⟨(col t q).val, by omega⟩) := by
    unfold col
    blk_ext [iblk, at_3 t]
  rw [h]; rfl

theorem block_gb (t : Fin grid0.N) (k : Fin 2048) (q : Fin 512) :
    iblk m c 4 t (ix3 0 k q) = argG m c k ⟨2048 + (col t q).val, by omega⟩ := by
  have h : iblk m c 4 t (ix3 0 k q) = V m c main_arg3 (ix3 0 k ⟨2048 + (col t q).val, by omega⟩) := by
    unfold col
    blk_ext [iblk, at_4 t]
  rw [h]; rfl

theorem block_ba (t : Fin grid0.N) (q : Fin 512) : iblk m c 5 t (ix2 0 q) = argB m c ⟨(col t q).val, by omega⟩ := by
  have h : iblk m c 5 t (ix2 0 q) = V m c main_v4 (ix2 0 ⟨(col t q).val, by omega⟩) := by
    unfold col
    blk_ext [iblk, at_5 t]
  rw [h, entry_bias]

theorem block_bb (t : Fin grid0.N) (q : Fin 512) : iblk m c 6 t (ix2 0 q) = argB m c ⟨2048 + (col t q).val, by omega⟩ := by
  have h : iblk m c 6 t (ix2 0 q) = V m c main_v5 (ix2 0 ⟨2048 + (col t q).val, by omega⟩) := by
    unfold col
    blk_ext [iblk, at_6 t]
  rw [h, entry_bias']

theorem block_v (t : Fin grid0.N) (k : Fin 1024) (q : Fin 512) : iblk m c 7 t (ix3 0 k q) = argV m c k (col t q) := by
  have h : iblk m c 7 t (ix3 0 k q) = V m c main_v0 (ix3 0 k (col t q)) := by
    unfold col
    blk_ext [iblk, at_7 t]
  rw [h, entry_v]

theorem block_w (t : Fin grid0.N) (k : Fin 1024) (q : Fin 512) : iblk m c 8 t (ix3 0 k q) = argW m c k (col t q) := by
  have h : iblk m c 8 t (ix3 0 k q) = V m c main_v1 (ix3 0 k (col t q)) := by
    unfold col
    blk_ext [iblk, at_8 t]
  rw [h, entry_w]

end Cert.Proof.Merge

end
-- ==== Proof.MergeSpec.lean ====
/- The branch merge over the extended reals: each branch's projection, gated, and the two added. -/
module

public import Idealize.ShloMosaic.Lib.Pointwise

@[expose] public section

noncomputable section

namespace Cert.Proof.Merge

open Idealize.ShloMosaic

/-- The logistic function. -/
def logistic1 (a : EReal) : EReal := Ideal.div 1 (1 + Ideal.exp (-a))

/-- One element: the two branches' rows through their projections' columns, each times its gate. -/
def mix (h : Fin 2048 → EReal) (o₁ o₂ : Fin 1024 → EReal) (g₁ g₂ : Fin 2048 → EReal) (b₁ b₂ : EReal) (w₁ w₂ : Fin 1024 → EReal) : EReal :=
  logistic1 ((∑ k, h k * g₁ k) + b₁) * (∑ k, o₁ k * w₁ k) + logistic1 ((∑ k, h k * g₂ k) + b₂) * (∑ k, o₂ k * w₂ k)

theorem mix_congr {h h' g₁ g₁' g₂ g₂' : Fin 2048 → EReal} {o₁ o₁' o₂ o₂' w₁ w₁' w₂ w₂' : Fin 1024 → EReal} {b₁ b₁' b₂ b₂' : EReal}
    (hh : ∀ k, h k = h' k) (ho₁ : ∀ k, o₁ k = o₁' k) (ho₂ : ∀ k, o₂ k = o₂' k) (hg₁ : ∀ k, g₁ k = g₁' k) (hg₂ : ∀ k, g₂ k = g₂' k)
    (hb₁ : b₁ = b₁') (hb₂ : b₂ = b₂') (hw₁ : ∀ k, w₁ k = w₁' k) (hw₂ : ∀ k, w₂ k = w₂' k) :
    mix h o₁ o₂ g₁ g₂ b₁ b₂ w₁ w₂ = mix h' o₁' o₂' g₁' g₂' b₁' b₂' w₁' w₂' := by
  rw [funext hh, funext ho₁, funext ho₂, funext hg₁, funext hg₂, hb₁, hb₂, funext hw₁, funext hw₂]

/-- The merge of a row `r` at column `n`: the gates' first half of the columns belongs to the first branch. -/
def merge (h : Fin 16384 → Fin 2048 → EReal) (o₁ o₂ : Fin 16384 → Fin 1024 → EReal) (g : Fin 2048 → Fin 4096 → EReal)
    (b : Fin 4096 → EReal) (w₁ w₂ : Fin 1024 → Fin 2048 → EReal) (r : Fin 16384) (n : Fin 2048) : EReal :=
  mix (h r) (o₁ r) (o₂ r) (fun k => g k ⟨n.val, by omega⟩) (fun k => g k ⟨2048 + n.val, by omega⟩)
    (b ⟨n.val, by omega⟩) (b ⟨2048 + n.val, by omega⟩) (fun k => w₁ k n) (fun k => w₂ k n)

end Cert.Proof.Merge

end
-- ==== Proof.MergePayload.lean ====
/- What the branch merge kernel's body computes for a tile, at one element over the extended reals. -/
module

public import proofs.«01_k».proof.Proof.Gen.Kernel3Ideal.Frame
public import proofs.«01_k».proof.Proof.MergeSpec
public import Idealize.ShloMosaic.Lib.Pointwise
public import Idealize.ShloMosaic.Lib.Pipeline.ValueKit.Point

@[expose] public section

set_option maxRecDepth 16384

noncomputable section

namespace Cert.Proof.Merge

open Idealize.ShloMosaic Idealize.ShloMosaic.TcCoe Idealize.ShloMosaic.Tactic
open Idealize.SL Idealize.SL.Sem
open Cert.Kernel3Ideal Cert.Kernel3Ideal.Gen

section
variable (h : Vec Ideal S256x2048 .bf16) (o₁ o₂ : Vec Ideal S256x1024 .bf16) (g₁ g₂ : Vec Ideal S1x2048x256 .bf16)
  (b₁ b₂ : Vec Ideal S1x256 .f32) (w₁ w₂ : Vec Ideal S1x1024x256 .bf16) (p q : Fin 256)

/-- One element of a 256 by 256 part of the tile. -/
def part : EReal :=
  mix (fun k => h (ix2 p k)) (fun k => o₁ (ix2 p k)) (fun k => o₂ (ix2 p k)) (fun k => g₁ (ix3 0 k q)) (fun k => g₂ (ix3 0 k q))
    (b₁ (ix2 0 q)) (b₂ (ix2 0 q)) (fun k => w₁ (ix3 0 k q)) (fun k => w₂ (ix3 0 k q))

/-! ### The eight parts, each written once -/

theorem part_2 : k0_pay2 (F := Ideal) h o₁ o₂ g₁ b₁ g₂ b₂ w₁ w₂ (ix2 p q) = part h o₁ o₂ g₁ g₂ b₁ b₂ w₁ w₂ p q := by
  pointwise [k0_pay2]
  rfl
theorem part_3 : k0_pay3 (F := Ideal) h o₁ o₂ g₁ b₁ g₂ b₂ w₁ w₂ (ix2 p q) = part h o₁ o₂ g₁ g₂ b₁ b₂ w₁ w₂ p q := by
  pointwise [k0_pay3]
  rfl
theorem part_4 : k0_pay4 (F := Ideal) h o₁ o₂ g₁ b₁ g₂ b₂ w₁ w₂ (ix2 p q) = part h o₁ o₂ g₁ g₂ b₁ b₂ w₁ w₂ p q := by
  pointwise [k0_pay4]
  rfl
theorem part_6 : k0_pay6 (F := Ideal) h o₁ o₂ (k0_pay5 h g₁) b₁ g₂ b₂ w₁ w₂ (ix2 p q) = part h o₁ o₂ g₁ g₂ b₁ b₂ w₁ w₂ p q := by
  pointwise [k0_pay6, k0_pay5]
  rfl
theorem part_9 : k0_pay9 (F := Ideal) h o₁ o₂ (k0_pay7 h g₁) (k0_pay8 b₁) g₂ b₂ w₁ w₂ (ix2 p q) = part h o₁ o₂ g₁ g₂ b₁ b₂ w₁ w₂ p q := by
  pointwise [k0_pay9, k0_pay7, k0_pay8]
  rfl
theorem part_12 : k0_pay12 (F := Ideal) o₁ o₂ (k0_pay10 h g₁ b₁) (k0_pay11 h g₂) b₂ w₁ w₂ (ix2 p q) = part h o₁ o₂ g₁ g₂ b₁ b₂ w₁ w₂ p q := by
  pointwise [k0_pay12, k0_pay10, k0_pay11]
  rfl
theorem part_15 : k0_pay15 (F := Ideal) o₁ o₂ (k0_pay13 h g₁ b₁) (k0_pay14 h g₂) b₂ w₁ w₂ (ix2 p q) = part h o₁ o₂ g₁ g₂ b₁ b₂ w₁ w₂ p q := by
  pointwise [k0_pay15, k0_pay13, k0_pay14]
  rfl
theorem part_1 : k0_pay1 (F := Ideal) o₁ o₂ (k0_pay16 h g₁ b₁) (k0_pay17 h g₂ b₂) w₁ w₂ (ix2 p q) = part h o₁ o₂ g₁ g₂ b₁ b₂ w₁ w₂ p q := by
  pointwise [k0_pay1, k0_pay16, k0_pay17]
  rfl
end

/-! ### The tile -/

/-- An element of the tile, from the blocks. -/
theorem tile_apply (x0 : Vec Ideal S1024x2048 .bf16) (x1 x2 : Vec Ideal S1024x1024 .bf16) (x3 x4 : Vec Ideal S1x2048x512 .bf16)
    (x5 x6 : Vec Ideal S1x512 .f32) (x7 x8 : Vec Ideal S1x1024x512 .bf16) (p : Fin 1024) (q : Fin 512) :
    out0_9 (F := Ideal) x0 x1 x2 x3 x4 x5 x6 x7 x8 (ix2 p q)
      = mix (fun k => x0 (ix2 p k)) (fun k => x1 (ix2 p k)) (fun k => x2 (ix2 p k)) (fun k => x3 (ix3 0 k q)) (fun k => x4 (ix3 0 k q))
          (x5 (ix2 0 q)) (x6 (ix2 0 q)) (fun k => x7 (ix3 0 k q)) (fun k => x8 (ix3 0 k q)) := by
  unfold out0_9
  canon_tiles x hx using (cover0_9 (F := Ideal) _ _ _ _ _ _ _ _ (ix2 p q))
  all_goals
    obtain ⟨p', q', rfl⟩ : ∃ p' q', x = ix2 p' q' := ⟨x 0, x 1, eq_ix2 x⟩
    simp only [ix2_0, ix2_1] at hx0 hx1
    first | rw [part_1] | rw [part_15] | rw [part_12] | rw [part_9] | rw [part_6] | rw [part_4] | rw [part_3] | rw [part_2]
    unfold part
    refine mix_congr (fun k => ?_) (fun k => ?_) (fun k => ?_) (fun k => ?_) (fun k => ?_) ?_ ?_ (fun k => ?_) (fun k => ?_)
    all_goals exact View.ld_unit_apply_of _ _ _ _ _ _ (by intro a; fin_cases a <;> simp [ix2, ix3] <;> omega)

end Cert.Proof.Merge

end
-- ==== Proof.MergeRef.lean ====
/- What the branch merge's reference computes, step by step, at one element over the extended reals. -/
module

public import proofs.«01_k».proof.Proof.Gen.Reference3Ideal.Run
public import Idealize.ShloMosaic.Lib.Pointwise
public import proofs.«01_k».proof.Proof.MergeSpec

@[expose] public section

set_option maxRecDepth 16384

noncomputable section

namespace Cert.Proof.MergeRef

open Cert.Reference3Ideal Cert.Reference3Ideal.Gen Cert.Reference3Ideal.Value
open Idealize.ShloMosaic Idealize.ShloMosaic.TcCoe Idealize.SL.Sem

variable {F : FTy → Type} [FloatOps F]

/-- The gates of both branches. -/
def gates (h : FVec F S16384x2048 .bf16) (w : FVec F S4x2048x4096 .bf16) (b : FVec F S4x4096 .f32) : FVec F S16384x4096 .f32 :=
  Host.divf (broadcastInDim S16384x4096 ![] bcast_S_S16384x4096 (constant S_ .f32 0x3F800000#32)) (addf (broadcastInDim S16384x4096 ![] bcast_S_S16384x4096 (constant S_ .f32 0x3F800000#32)) (Host.exp (Host.negf (addf (Host.dotGeneral dot_S16384x2048_S2048x4096_S16384x4096_1_0_0_1_n_n none (extf .f32 h bitsLt_bf16_f32) (extf .f32 (shapeCast _ (extractStridedSlice S1x2048x4096 ![0, 0, 0] w slices_S4x2048x4096_S1x2048x4096_0_0_0) shapeCasts_S1x2048x4096_S2048x4096) bitsLt_bf16_f32)) (broadcastInDim S16384x4096 ![0, 1] bcast_S1x4096_S16384x4096_0_1 (broadcastInDim S1x4096 ![1] bcast_S4096_S1x4096_1 (shapeCast _ (extractStridedSlice S1x4096 ![0, 0] b slices_S4x4096_S1x4096_0_0) shapeCasts_S1x4096_S4096)))))))

/-- One branch's projection. -/
def branch (o : FVec F S16384x1024 .bf16) (w : FVec F S4x1024x2048 .f32) : FVec F S16384x2048 .f32 :=
  Host.dotGeneral dot_S16384x1024_S1024x2048_S16384x2048_1_0_0_1_n_n none (extf .f32 o bitsLt_bf16_f32) (shapeCast _ (extractStridedSlice S1x1024x2048 ![0, 0, 0] w slices_S4x1024x2048_S1x1024x2048_0_0_0) shapeCasts_S1x1024x2048_S1024x2048)

/-- Each branch's projection times its half of the gates, added. -/
def merged (g : FVec F S16384x4096 .f32) (p₁ p₂ : FVec F S16384x2048 .f32) : FVec F S16384x2048 .bf16 :=
  truncf .bf16 (addf (mulf (extractStridedSlice S16384x2048 ![0, 0] g slices_S16384x4096_S16384x2048_0_0) p₁) (mulf (extractStridedSlice S16384x2048 ![0, 2048] g slices_S16384x4096_S16384x2048_0_2048) p₂)) bitsLt_bf16_f32

/-- The reference's result, from its steps. -/
def result (m : (ℓ : Loc nD τ sig) → Buf (Elt F) ℓ) (c : Dev nD) : FVec F S16384x2048 .bf16 :=
  merged (gates (m ((c.tc : Thread nD τ).loc main_arg0)) (m ((c.tc : Thread nD τ).loc main_arg3)) (m ((c.tc : Thread nD τ).loc main_arg4)))
    (branch (m ((c.tc : Thread nD τ).loc main_arg1)) (m ((c.tc : Thread nD τ).loc main_arg5)))
    (branch (m ((c.tc : Thread nD τ).loc main_arg2)) (m ((c.tc : Thread nD τ).loc main_arg6)))

/-- A gate at an element. -/
theorem gates_apply (h : FVec Ideal S16384x2048 .bf16) (w : FVec Ideal S4x2048x4096 .bf16) (b : FVec Ideal S4x4096 .f32) (r : Fin 16384) (n : Fin 4096) :
    gates h w b (ix2 r n) = Merge.logistic1 ((∑ k : Fin 2048, h (ix2 r k) * w (ix3 0 k n)) + b (ix2 0 n)) := by
  pointwise [gates]
  rfl

/-- A branch's projection at an element. -/
theorem branch_apply (o : FVec Ideal S16384x1024 .bf16) (w : FVec Ideal S4x1024x2048 .f32) (r : Fin 16384) (n : Fin 2048) :
    branch o w (ix2 r n) = ∑ k : Fin 1024, o (ix2 r k) * w (ix3 0 k n) := by
  pointwise [branch]

/-- The merge at an element. -/
theorem merged_apply (g : FVec Ideal S16384x4096 .f32) (p₁ p₂ : FVec Ideal S16384x2048 .f32) (r : Fin 16384) (n : Fin 2048) :
    merged g p₁ p₂ (ix2 r n) = g (ix2 r ⟨n.val, by omega⟩) * p₁ (ix2 r n) + g (ix2 r ⟨2048 + n.val, by omega⟩) * p₂ (ix2 r n) := by
  pointwise [merged]

/-- The reference's result at an element. -/
theorem result_apply (m : (ℓ : Loc nD τ sig) → Buf (Elt Ideal) ℓ) (c : Dev nD) (r : Fin 16384) (n : Fin 2048) :
    result m c (ix2 r n) = Merge.merge (fun r k => m ((c.tc : Thread nD τ).loc main_arg0) (ix2 r k))
      (fun r k => m ((c.tc : Thread nD τ).loc main_arg1) (ix2 r k)) (fun r k => m ((c.tc : Thread nD τ).loc main_arg2) (ix2 r k))
      (fun k n => m ((c.tc : Thread nD τ).loc main_arg3) (ix3 0 k n)) (fun n => m ((c.tc : Thread nD τ).loc main_arg4) (ix2 0 n))
      (fun k n => m ((c.tc : Thread nD τ).loc main_arg5) (ix3 0 k n)) (fun k n => m ((c.tc : Thread nD τ).loc main_arg6) (ix3 0 k n)) r n := by
  unfold result
  rw [merged_apply, gates_apply, gates_apply, branch_apply, branch_apply]
  rfl

end Cert.Proof.MergeRef

end
-- ==== Proof.MergeEquation.lean ====
/- The branch merge kernel's result array over the extended reals is the reference's. -/
module

public import proofs.«01_k».proof.Proof.MergeBlock
public import proofs.«01_k».proof.Proof.MergePayload
public import proofs.«01_k».proof.Proof.MergeRef
public import proofs.«01_k».proof.Proof.Gen.Kernel3Ideal.Value
public import Idealize.ShloMosaic.Lib.Claim
public import Idealize.ShloMosaic.Lib.Pipeline.ValueKit.Point

@[expose] public section

set_option maxRecDepth 16384

noncomputable section

namespace Cert.Proof.Merge

open Idealize.ShloMosaic Idealize.ShloMosaic.TcCoe Idealize.ShloMosaic.Tactic
open Idealize.SL Idealize.SL.Sem
open Cert.Kernel3Ideal Cert.Kernel3Ideal.Gen

section

variable (m : (ℓ : Loc nD τ sig) → Buf (Elt Ideal) ℓ) (c : Dev nD)

/-- The merge of the kernel's arguments, as an array. -/
def mergeArray : Vec Ideal S16384x2048 .bf16 := fun y =>
  merge (argH m c) (argO m c) (argP m c) (argG m c) (argB m c) (argV m c) (argW m c) (y 0) (y 1)

/-- The kernel's array is the merge. -/
theorem array_eq : (dats m 0 c).arrAt 9 cfg0.N = mergeArray m c := by
  refine (dats m 0 c).arrAt_eq_of_covers 9 _ (by decide +kernel) fun t hf y => ?_
  blk_simp
  rw [after0_9]
  obtain ⟨p, d, rfl⟩ : ∃ (p : Fin 1024) (d : Fin 512), y = (ix2 p d : S1024x512.Idx) := ⟨y 0, y 1, eq_ix2 y⟩
  refine (tile_apply _ _ _ _ _ _ _ _ _ p d).trans ?_
  have e : (win0_9.blk t).view.emb (ix2 p d) = (ix2 (row t p) (col t d) : S16384x2048.Idx) := by
    unfold row col
    blk_ext [at_9 t]
  rw [e]
  exact mix_congr (block_h m c t p) (block_o m c t p) (block_p m c t p) (fun k => block_ga m c t k d) (fun k => block_gb m c t k d)
    (block_ba m c t d) (block_bb m c t d) (fun k => block_v m c t k d) (fun k => block_w m c t k d)

end

/-- From memories with the same arguments: the reference's array and the kernel's are equal. -/
theorem result_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) :
    MergeRef.result m' c = (dats m 0 c).arrAt 9 Cert.Kernel3Ideal.cfg0.N := by
  rw [array_eq]
  funext y
  obtain ⟨r, d, rfl⟩ : ∃ (r : Fin 16384) (d : Fin 2048), y = (ix2 r d : Cert.Kernel3Ideal.S16384x2048.Idx) := ⟨y 0, y 1, eq_ix2 y⟩
  refine (MergeRef.result_apply m' c r d).trans ?_
  rw [h0, h1, h2, h3, h4, h5, h6]
  rfl

end Cert.Proof.Merge

end
-- ==== Proof.OutProjBlock.lean ====
/- The output projection kernel's input blocks at every grid point, as parts of the arguments. -/
module

public import proofs.«01_k».proof.Proof.Gen.Kernel4Ideal.Frame
public import Idealize.ShloMosaic.Lib.Claim
public import Idealize.ShloMosaic.Lib.Pointwise
public import Idealize.ShloMosaic.Lib.Pipeline.ValueKit.Point

@[expose] public section

set_option maxRecDepth 16384

noncomputable section

namespace Cert.Proof.OutProj

open Idealize.ShloMosaic Idealize.ShloMosaic.TcCoe Idealize.ShloMosaic.Tactic
open Idealize.SL Idealize.SL.Sem
open Cert.Kernel4Ideal Cert.Kernel4Ideal.Gen

/-! ### Where the blocks lie: point `t` is row tile `t` -/

theorem at_0 : ∀ t : Fin grid0.N, win0_0.index t = ![t.val, 0] := by decide +kernel
theorem at_1 : ∀ t : Fin grid0.N, win0_1.index t = ![0, 0, 0] := by decide +kernel
theorem at_2 : ∀ t : Fin grid0.N, win0_2.index t = ![t.val, 0] := by decide +kernel
theorem at_3 : ∀ t : Fin grid0.N, win0_3.index t = ![0, 0] := by decide +kernel
theorem at_4 : ∀ t : Fin grid0.N, win0_4.index t = ![0, 0] := by decide +kernel
theorem at_5 : ∀ t : Fin grid0.N, win0_5.index t = ![t.val, 0] := by decide +kernel
theorem at_6 : ∀ t : Fin grid0.N, win0_6.index t = ![t.val, 0] := by decide +kernel
theorem row_lt : ∀ t : Fin grid0.N, t.val < 32 := by decide +kernel

/-- The array's row of a tile's row. -/
def row (t : Fin grid0.N) (i : Fin 512) : Fin 16384 := ⟨512 * t.val + i.val, by have := row_lt t; omega⟩

variable (m : (ℓ : Loc nD τ sig) → Buf (Elt Ideal) ℓ) (c : Dev nD)

/-! ### The arguments -/

/-- The merged branches, the layer's input, the first layer's projection and its two rows of gains. -/
def argA (r : Fin 16384) (k : Fin 2048) : EReal := m ((c.tc : Thread nD τ).loc main_arg0) (ix2 r k)
def argX (r : Fin 16384) (d : Fin 2048) : EReal := m ((c.tc : Thread nD τ).loc main_arg1) (ix2 r d)
def argW (k d : Fin 2048) : EReal := m ((c.tc : Thread nD τ).loc main_arg2) (ix3 0 k d)
def argG (d : Fin 2048) : EReal := m ((c.tc : Thread nD τ).loc main_arg3) (ix2 0 d)
def argN (d : Fin 2048) : EReal := m ((c.tc : Thread nD τ).loc main_arg4) (ix2 0 d)

/-! ### The arrays prepared before the call -/

theorem entry_w (k d : Fin 2048) : V m c main_v0 (ix3 0 k d) = argW m c k d := by rfl

theorem entry_g (d : Fin 2048) : V m c main_v5 (ix2 0 d) = argG m c d := by
  have h : V m c main_v5 = broadcastInDim S1x2048 ![1] bcast_S2048_S1x2048_1 (shapeCast S2048 (extractStridedSlice S1x2048 ![0, 0] (m ((c.tc : Thread nD τ).loc main_arg3)) slices_S4x2048_S1x2048_0_0) shapeCasts_S1x2048_S2048) := by rfl
  rw [h]
  pointwise
  rfl

theorem entry_n (d : Fin 2048) : V m c main_v6 (ix2 0 d) = argN m c d := by
  have h : V m c main_v6 = broadcastInDim S1x2048 ![1] bcast_S2048_S1x2048_1 (shapeCast S2048 (extractStridedSlice S1x2048 ![0, 0] (m ((c.tc : Thread nD τ).loc main_arg4)) slices_S4x2048_S1x2048_0_0) shapeCasts_S1x2048_S2048) := by rfl
  rw [h]
  pointwise
  rfl

/-! ### The blocks -/

theorem block_a (t : Fin grid0.N) (i : Fin 512) (k : Fin 2048) : iblk m c 0 t (ix2 i k) = argA m c (row t i) k := by
  have h : iblk m c 0 t (ix2 i k) = V m c main_arg0 (ix2 (row t i) k) := by
    unfold row
    blk_ext [iblk, at_0 t]
  rw [h]; rfl

theorem block_w (t : Fin grid0.N) (k d : Fin 2048) : iblk m c 1 t (ix3 0 k d) = argW m c k d := by
  have h : iblk m c 1 t (ix3 0 k d) = V m c main_v0 (ix3 0 k d) := by
    blk_ext [iblk, at_1 t]
  rw [h, entry_w]

theorem block_x (t : Fin grid0.N) (i : Fin 512) (d : Fin 2048) : iblk m c 2 t (ix2 i d) = argX m c (row t i) d := by
  have h : iblk m c 2 t (ix2 i d) = V m c main_arg1 (ix2 (row t i) d) := by
    unfold row
    blk_ext [iblk, at_2 t]
  rw [h]; rfl

theorem block_g (t : Fin grid0.N) (d : Fin 2048) : iblk m c 3 t (ix2 0 d) = argG m c d := by
  have h : iblk m c 3 t (ix2 0 d) = V m c main_v5 (ix2 0 d) := by
    blk_ext [iblk, at_3 t]
  rw [h, entry_g]

theorem block_n (t : Fin grid0.N) (d : Fin 2048) : iblk m c 4 t (ix2 0 d) = argN m c d := by
  have h : iblk m c 4 t (ix2 0 d) = V m c main_v6 (ix2 0 d) := by
    blk_ext [iblk, at_4 t]
  rw [h, entry_n]

end Cert.Proof.OutProj

end
-- ==== Proof.OutProjSpec.lean ====
/- The output projection over the extended reals: the projected row over the root of its mean square, times
   the gains, added to the layer's input; and the sum's own row normalised in the same way. -/
module

public import Idealize.ShloMosaic.Lib.Pointwise

@[expose] public section

noncomputable section

namespace Cert.Proof.OutProj

open Idealize.ShloMosaic

/-- A row over the root of its mean square plus a small constant, times a gain; 2048 and the constant as their bits. -/
def normed (y : Fin 2048 → EReal) (g : Fin 2048 → EReal) (d : Fin 2048) : EReal :=
  y d * Ideal.rsqrt (Ideal.div (∑ e, y e * y e) (Ideal.ofBits FTy.f32 1157627904#32) + Ideal.ofBits FTy.f32 897988541#32) * g d

/-- The row the layer passes on: its input plus the normalised projection. -/
def passed (a x : Fin 2048 → EReal) (w : Fin 2048 → Fin 2048 → EReal) (g : Fin 2048 → EReal) (d : Fin 2048) : EReal :=
  x d + normed (fun e => ∑ k, a k * w k e) g d

/-- The same row, normalised. -/
def ready (a x : Fin 2048 → EReal) (w : Fin 2048 → Fin 2048 → EReal) (g g' : Fin 2048 → EReal) (d : Fin 2048) : EReal :=
  normed (passed a x w g) g' d

end Cert.Proof.OutProj

end
-- ==== Proof.OutProjPayload.lean ====
/- What the output projection kernel's body computes for a tile, at one element over the extended reals. -/
module

public import proofs.«01_k».proof.Proof.Gen.Kernel4Ideal.Frame
public import proofs.«01_k».proof.Proof.OutProjSpec
public import Idealize.ShloMosaic.Lib.Pointwise
public import Idealize.ShloMosaic.Lib.Pipeline.ValueKit.Point

@[expose] public section

set_option maxRecDepth 16384

noncomputable section

namespace Cert.Proof.OutProj

open Idealize.ShloMosaic Idealize.ShloMosaic.TcCoe Idealize.ShloMosaic.Tactic
open Idealize.SL Idealize.SL.Sem
open Cert.Kernel4Ideal Cert.Kernel4Ideal.Gen

section
variable (a : Vec Ideal S256x2048 .bf16) (w : Vec Ideal S1x2048x2048 .bf16) (x : Vec Ideal S256x2048 .f32) (g g' : Vec Ideal S1x2048 .f32)
  (p : Fin 256) (d : Fin 2048)

/-! ### The two halves of the tile, for each result -/

theorem passed_1 : k0_pay1 (F := Ideal) a w x g (ix2 p d)
    = passed (fun k => a (ix2 p k)) (fun e => x (ix2 p e)) (fun k e => w (ix3 0 k e)) (fun e => g (ix2 0 e)) d := by
  pointwise [k0_pay1]
  rfl
theorem passed_3 : k0_pay3 (F := Ideal) a w x g (ix2 p d)
    = passed (fun k => a (ix2 p k)) (fun e => x (ix2 p e)) (fun k e => w (ix3 0 k e)) (fun e => g (ix2 0 e)) d := by
  pointwise [k0_pay3]
  rfl

theorem ready_2 : k0_pay2 (F := Ideal) a w x g g' (ix2 p d)
    = ready (fun k => a (ix2 p k)) (fun e => x (ix2 p e)) (fun k e => w (ix3 0 k e)) (fun e => g (ix2 0 e)) (fun e => g' (ix2 0 e)) d := by
  unfold ready
  rw [← funext fun e => passed_1 a w x g p e]
  pointwise [k0_pay2]
  rfl
theorem ready_4 : k0_pay4 (F := Ideal) a w x g g' (ix2 p d)
    = ready (fun k => a (ix2 p k)) (fun e => x (ix2 p e)) (fun k e => w (ix3 0 k e)) (fun e => g (ix2 0 e)) (fun e => g' (ix2 0 e)) d := by
  unfold ready
  rw [← funext fun e => passed_3 a w x g p e]
  pointwise [k0_pay4]
  rfl
end

theorem passed_congr {a a' x x' g g' : Fin 2048 → EReal} {w w' : Fin 2048 → Fin 2048 → EReal} (d : Fin 2048)
    (ha : ∀ k, a k = a' k) (hx : ∀ k, x k = x' k) (hw : ∀ k e, w k e = w' k e) (hg : ∀ k, g k = g' k) :
    passed a x w g d = passed a' x' w' g' d := by
  rw [funext ha, funext hx, funext fun k => funext (hw k), funext hg]

theorem ready_congr {a a' x x' g g' n n' : Fin 2048 → EReal} {w w' : Fin 2048 → Fin 2048 → EReal} (d : Fin 2048)
    (ha : ∀ k, a k = a' k) (hx : ∀ k, x k = x' k) (hw : ∀ k e, w k e = w' k e) (hg : ∀ k, g k = g' k) (hn : ∀ k, n k = n' k) :
    ready a x w g n d = ready a' x' w' g' n' d := by
  rw [funext ha, funext hx, funext fun k => funext (hw k), funext hg, funext hn]

/-! ### The tile -/

section
variable (x0 : Vec Ideal S512x2048 .bf16) (x1 : Vec Ideal S1x2048x2048 .bf16) (x2 : Vec Ideal S512x2048 .f32) (x3 x4 : Vec Ideal S1x2048 .f32)
  (p : Fin 512) (d : Fin 2048)

/-- An element of the first result's tile, from the blocks. -/
theorem tile0_apply : out0_5 (F := Ideal) x0 x1 x2 x3 x4 (ix2 p d)
    = passed (fun k => x0 (ix2 p k)) (fun e => x2 (ix2 p e)) (fun k e => x1 (ix3 0 k e)) (fun e => x3 (ix2 0 e)) d := by
  unfold out0_5
  canon_tiles x hx using (cover0_5 (F := Ideal) _ _ (ix2 p d))
  all_goals
    obtain ⟨p', d', rfl⟩ : ∃ p' d', x = ix2 p' d' := ⟨x 0, x 1, eq_ix2 x⟩
    simp only [ix2_0, ix2_1] at hx0 hx1
    obtain rfl : d = d' := Fin.ext hx1
    first | rw [passed_3] | rw [passed_1]
    refine passed_congr d (fun k => ?_) (fun k => ?_) (fun k e => ?_) (fun k => ?_)
    all_goals exact View.ld_unit_apply_of _ _ _ _ _ _ (by intro a; fin_cases a <;> simp [ix2, ix3] <;> omega)

/-- An element of the second result's tile, from the blocks. -/
theorem tile1_apply : out0_6 (F := Ideal) x0 x1 x2 x3 x4 (ix2 p d)
    = ready (fun k => x0 (ix2 p k)) (fun e => x2 (ix2 p e)) (fun k e => x1 (ix3 0 k e)) (fun e => x3 (ix2 0 e)) (fun e => x4 (ix2 0 e)) d := by
  unfold out0_6
  canon_tiles x hx using (cover0_6 (F := Ideal) _ _ (ix2 p d))
  all_goals
    obtain ⟨p', d', rfl⟩ : ∃ p' d', x = ix2 p' d' := ⟨x 0, x 1, eq_ix2 x⟩
    simp only [ix2_0, ix2_1] at hx0 hx1
    obtain rfl : d = d' := Fin.ext hx1
    first | rw [ready_4] | rw [ready_2]
    refine ready_congr d (fun k => ?_) (fun k => ?_) (fun k e => ?_) (fun k => ?_) (fun k => ?_)
    all_goals exact View.ld_unit_apply_of _ _ _ _ _ _ (by intro a; fin_cases a <;> simp [ix2, ix3] <;> omega)
end

end Cert.Proof.OutProj

end
-- ==== Proof.OutProjRef.lean ====
/- What the output projection's reference computes, step by step, at one element over the extended reals. -/
module

public import proofs.«01_k».proof.Proof.Gen.Reference4Ideal.Run
public import Idealize.ShloMosaic.Lib.Pointwise
public import proofs.«01_k».proof.Proof.OutProjSpec

@[expose] public section

set_option maxRecDepth 16384

noncomputable section

namespace Cert.Proof.OutProjRef

open Cert.Reference4Ideal Cert.Reference4Ideal.Gen Cert.Reference4Ideal.Value
open Idealize.ShloMosaic Idealize.ShloMosaic.TcCoe Idealize.SL.Sem

variable {F : FTy → Type} [FloatOps F]

/-- The projection. -/
def projected (a : FVec F S16384x2048 .bf16) (w : FVec F S4x2048x2048 .f32) : FVec F S16384x2048 .f32 :=
  Host.dotGeneral dot_S16384x2048_S2048x2048_S16384x2048_1_0_0_1_n_n none (extf .f32 a bitsLt_bf16_f32) (shapeCast _ (extractStridedSlice S1x2048x2048 ![0, 0, 0] w slices_S4x2048x2048_S1x2048x2048_0_0_0) shapeCasts_S1x2048x2048_S2048x2048)

/-- Each row over the root of its mean square, times the gains. -/
def scaled (y : FVec F S16384x2048 .f32) (g : FVec F S4x2048 .f32) : FVec F S16384x2048 .f32 :=
  mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] g slices_S4x2048_S1x2048_0_0) shapeCasts_S1x2048_S2048)))

/-- The reference's first result, from its steps. -/
def result0 (m : (ℓ : Loc nD τ sig) → Buf (Elt F) ℓ) (c : Dev nD) : FVec F S16384x2048 .f32 :=
  addf (m ((c.tc : Thread nD τ).loc main_arg1)) (scaled (projected (m ((c.tc : Thread nD τ).loc main_arg0)) (m ((c.tc : Thread nD τ).loc main_arg2))) (m ((c.tc : Thread nD τ).loc main_arg3)))

/-- Its second result: the first one's rows normalised. -/
theorem result1_eq (m : (ℓ : Loc nD τ sig) → Buf (Elt F) ℓ) (c : Dev nD) :
    res_out1 m c = truncf .bf16 (scaled (result0 m c) (m ((c.tc : Thread nD τ).loc main_arg4))) bitsLt_bf16_f32 := rfl

/-- The projection at an element. -/
theorem projected_apply (a : FVec Ideal S16384x2048 .bf16) (w : FVec Ideal S4x2048x2048 .f32) (r : Fin 16384) (d : Fin 2048) :
    projected a w (ix2 r d) = ∑ k : Fin 2048, a (ix2 r k) * w (ix3 0 k d) := by
  pointwise [projected]

/-- A normalised row at an element. -/
theorem scaled_apply (y : FVec Ideal S16384x2048 .f32) (g : FVec Ideal S4x2048 .f32) (r : Fin 16384) (d : Fin 2048) :
    scaled y g (ix2 r d) = OutProj.normed (fun e => y (ix2 r e)) (fun e => g (ix2 0 e)) d := by
  pointwise [scaled]
  rfl

/-- The first result at an element. -/
theorem result0_apply (m : (ℓ : Loc nD τ sig) → Buf (Elt Ideal) ℓ) (c : Dev nD) (r : Fin 16384) (d : Fin 2048) :
    result0 m c (ix2 r d) = OutProj.passed (fun k => m ((c.tc : Thread nD τ).loc main_arg0) (ix2 r k))
      (fun d => m ((c.tc : Thread nD τ).loc main_arg1) (ix2 r d)) (fun k d => m ((c.tc : Thread nD τ).loc main_arg2) (ix3 0 k d))
      (fun d => m ((c.tc : Thread nD τ).loc main_arg3) (ix2 0 d)) d := by
  unfold result0 OutProj.passed
  rw [← funext fun e => projected_apply (m ((c.tc : Thread nD τ).loc main_arg0)) (m ((c.tc : Thread nD τ).loc main_arg2)) r e]
  rw [← scaled_apply]
  rfl

/-- The second result at an element. -/
theorem result1_apply (m : (ℓ : Loc nD τ sig) → Buf (Elt Ideal) ℓ) (c : Dev nD) (r : Fin 16384) (d : Fin 2048) :
    res_out1 m c (ix2 r d) = OutProj.ready (fun k => m ((c.tc : Thread nD τ).loc main_arg0) (ix2 r k))
      (fun d => m ((c.tc : Thread nD τ).loc main_arg1) (ix2 r d)) (fun k d => m ((c.tc : Thread nD τ).loc main_arg2) (ix3 0 k d))
      (fun d => m ((c.tc : Thread nD τ).loc main_arg3) (ix2 0 d)) (fun d => m ((c.tc : Thread nD τ).loc main_arg4) (ix2 0 d)) d := by
  rw [result1_eq]
  unfold OutProj.ready
  rw [← funext fun e => result0_apply m c r e]
  rw [← scaled_apply]
  rfl

end Cert.Proof.OutProjRef

end
-- ==== Proof.OutProjEquation.lean ====
/- The output projection kernel's two result arrays over the extended reals are the reference's. -/
module

public import proofs.«01_k».proof.Proof.OutProjBlock
public import proofs.«01_k».proof.Proof.OutProjPayload
public import proofs.«01_k».proof.Proof.OutProjRef
public import proofs.«01_k».proof.Proof.Gen.Kernel4Ideal.Value
public import Idealize.ShloMosaic.Lib.Claim
public import Idealize.ShloMosaic.Lib.Pipeline.ValueKit.Point

@[expose] public section

set_option maxRecDepth 16384

noncomputable section

namespace Cert.Proof.OutProj

open Idealize.ShloMosaic Idealize.ShloMosaic.TcCoe Idealize.ShloMosaic.Tactic
open Idealize.SL Idealize.SL.Sem
open Cert.Kernel4Ideal Cert.Kernel4Ideal.Gen

section

variable (m : (ℓ : Loc nD τ sig) → Buf (Elt Ideal) ℓ) (c : Dev nD)

/-- The rows passed on and the normalised ones, of the kernel's arguments, as arrays. -/
def passedArray : Vec Ideal S16384x2048 .f32 := fun y => passed (argA m c (y 0)) (argX m c (y 0)) (argW m c) (argG m c) (y 1)
def readyArray : Vec Ideal S16384x2048 .bf16 := fun y => ready (argA m c (y 0)) (argX m c (y 0)) (argW m c) (argG m c) (argN m c) (y 1)

/-- The kernel's first array is the rows passed on. -/
theorem array0_eq : (dats m 0 c).arrAt 5 cfg0.N = passedArray m c := by
  refine (dats m 0 c).arrAt_eq_of_covers 5 _ (by decide +kernel) fun t hf y => ?_
  blk_simp
  rw [after0_5]
  obtain ⟨p, d, rfl⟩ : ∃ (p : Fin 512) (d : Fin 2048), y = (ix2 p d : S512x2048.Idx) := ⟨y 0, y 1, eq_ix2 y⟩
  refine (tile0_apply _ _ _ _ _ p d).trans ?_
  have e : (win0_5.blk t).view.emb (ix2 p d) = (ix2 (row t p) d : S16384x2048.Idx) := by
    unfold row
    blk_ext [at_5 t]
  rw [e]
  exact passed_congr d (block_a m c t p) (block_x m c t p) (block_w m c t) (block_g m c t)

/-- Its second array is those rows normalised. -/
theorem array1_eq : (dats m 0 c).arrAt 6 cfg0.N = readyArray m c := by
  refine (dats m 0 c).arrAt_eq_of_covers 6 _ (by decide +kernel) fun t hf y => ?_
  blk_simp
  rw [after0_6]
  obtain ⟨p, d, rfl⟩ : ∃ (p : Fin 512) (d : Fin 2048), y = (ix2 p d : S512x2048.Idx) := ⟨y 0, y 1, eq_ix2 y⟩
  refine (tile1_apply _ _ _ _ _ p d).trans ?_
  have e : (win0_6.blk t).view.emb (ix2 p d) = (ix2 (row t p) d : S16384x2048.Idx) := by
    unfold row
    blk_ext [at_6 t]
  rw [e]
  exact ready_congr d (block_a m c t p) (block_x m c t p) (block_w m c t) (block_g m c t) (block_n m c t)

end

/-- From memories with the same arguments: the first arrays are equal. -/
theorem result0_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    OutProjRef.result0 m' c = (dats m 0 c).arrAt 5 Cert.Kernel4Ideal.cfg0.N := by
  rw [array0_eq]
  funext y
  obtain ⟨r, d, rfl⟩ : ∃ (r : Fin 16384) (d : Fin 2048), y = (ix2 r d : Cert.Kernel4Ideal.S16384x2048.Idx) := ⟨y 0, y 1, eq_ix2 y⟩
  refine (OutProjRef.result0_apply m' c r d).trans ?_
  rw [h0, h1, h2, h3]
  rfl

/-- From memories with the same arguments: the second arrays are equal. -/
theorem result1_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) :
    Cert.Reference4Ideal.Value.res_out1 m' c = (dats m 0 c).arrAt 6 Cert.Kernel4Ideal.cfg0.N := by
  rw [array1_eq]
  funext y
  obtain ⟨r, d, rfl⟩ : ∃ (r : Fin 16384) (d : Fin 2048), y = (ix2 r d : Cert.Kernel4Ideal.S16384x2048.Idx) := ⟨y 0, y 1, eq_ix2 y⟩
  refine (OutProjRef.result1_apply m' c r d).trans ?_
  rw [h0, h1, h2, h3, h4]
  rfl

end Cert.Proof.OutProj

end
-- ==== Proof.Scored.lean ====
/- The memory attention's precondition read: the normed input, the first layer's query projection and the memory's keys are real. -/
module

public import proofs.«01_k».proof.Proof.Finite

@[expose] public section

set_option maxRecDepth 16384

noncomputable section

namespace Cert.Proof

open Idealize.ShloMosaic Idealize.ShloMosaic.Tactic

/-- The shape relations the precondition states. -/
theorem scored_facts : Cert.Pre_scored.Facts :=
  ⟨by decide, by decide, by decide, by decide, by decide, by decide, by decide⟩

variable [Cert.Pre_scored.Facts]
variable (h : FVec Ideal Cert.Pre_scored.S16384x2048 .bf16) (wq : FVec Ideal Cert.Pre_scored.S4x2048x2048 .f32) (kv : FVec Ideal Cert.Pre_scored.S1024x4096 .bf16)
variable (wo : FVec Ideal Cert.Pre_scored.S4x2048x2048 .f32) (x : FVec Ideal Cert.Pre_scored.S16384x2048 .f32) (g n : FVec Ideal Cert.Pre_scored.S4x2048 .f32)

theorem scored_h (hp : (Cert.Pre_scored.fn h wq kv wo x g n).1 = fun _ => 1#1) (r : Fin 16384) (e : Fin 2048) :
    h (ix2 r e) = ((h (ix2 r e)).toReal : EReal) := by
  have e := congrFun hp (ix2 r e)
  unfold Cert.Pre_scored.fn at e
  pointwise at e
  exact real_of_lt e

theorem scored_w (hp : (Cert.Pre_scored.fn h wq kv wo x g n).2.1 = fun _ => 1#1) (e f : Fin 2048) :
    wq (ix3 0 e f) = ((wq (ix3 0 e f)).toReal : EReal) := by
  have e := congrFun hp (ix2 e f)
  unfold Cert.Pre_scored.fn at e
  pointwise at e
  exact real_of_lt e

theorem scored_k (hp : (Cert.Pre_scored.fn h wq kv wo x g n).2.2 = fun _ => 1#1) (j : Fin 1024) (f : Fin 2048) :
    kv (ix2 j ⟨f.val, by omega⟩) = ((kv (ix2 j ⟨f.val, by omega⟩)).toReal : EReal) := by
  have e := congrFun hp (ix2 j f)
  unfold Cert.Pre_scored.fn at e
  pointwise at e
  exact real_of_lt e

end Cert.Proof

end
-- ==== Proof.MemBlock.lean ====
/- The memory attention kernel's input blocks at every grid point, as parts of the arguments. -/
module

public import proofs.«01_k».proof.Proof.Gen.Kernel5Ideal.Frame
public import Idealize.ShloMosaic.Lib.Claim
public import Idealize.ShloMosaic.Lib.Pointwise
public import Idealize.ShloMosaic.Lib.Pipeline.ValueKit.Point

@[expose] public section

set_option maxRecDepth 16384

noncomputable section

namespace Cert.Proof.Mem

open Idealize.ShloMosaic Idealize.ShloMosaic.TcCoe Idealize.ShloMosaic.Tactic
open Idealize.SL Idealize.SL.Sem
open Cert.Kernel5Ideal Cert.Kernel5Ideal.Gen

/-! ### Where the blocks lie: point `t` is row tile `t`, of batch `t / 8` -/

theorem at_0 : ∀ t : Fin grid0.N, win0_0.index t = ![t.val, 0] := by decide +kernel
theorem at_1 : ∀ t : Fin grid0.N, win0_1.index t = ![0, 0, 0] := by decide +kernel
theorem at_2 : ∀ t : Fin grid0.N, win0_2.index t = ![t.val / 8, 0] := by decide +kernel
theorem at_3 : ∀ t : Fin grid0.N, win0_3.index t = ![0, 0, 0] := by decide +kernel
theorem at_4 : ∀ t : Fin grid0.N, win0_4.index t = ![t.val, 0] := by decide +kernel
theorem at_5 : ∀ t : Fin grid0.N, win0_5.index t = ![0, 0] := by decide +kernel
theorem at_6 : ∀ t : Fin grid0.N, win0_6.index t = ![0, 0] := by decide +kernel
theorem at_7 : ∀ t : Fin grid0.N, win0_7.index t = ![t.val, 0] := by decide +kernel
theorem at_8 : ∀ t : Fin grid0.N, win0_8.index t = ![t.val, 0] := by decide +kernel
theorem row_lt : ∀ t : Fin grid0.N, t.val < 32 := by decide +kernel

/-- The array's row of a tile's row. -/
def row (t : Fin grid0.N) (i : Fin 512) : Fin 16384 := ⟨512 * t.val + i.val, by have := row_lt t; omega⟩

/-- The memory token `j` of a row's batch. -/
def token (r : Fin 16384) (j : Fin 256) : Fin 1024 := ⟨r.val / 4096 * 256 + j.val, by omega⟩

variable (m : (ℓ : Loc nD τ sig) → Buf (Elt Ideal) ℓ) (c : Dev nD)

/-! ### The arguments -/

/-- The normed input, the memory's keys and values, the first layer's two projections, the layer's input and the two rows of gains. -/
def argH (r : Fin 16384) (k : Fin 2048) : EReal := m ((c.tc : Thread nD τ).loc main_arg0) (ix2 r k)
def argQ (k d : Fin 2048) : EReal := m ((c.tc : Thread nD τ).loc main_arg1) (ix3 0 k d)
def argKV (r : Fin 16384) (j : Fin 256) (n : Fin 4096) : EReal := m ((c.tc : Thread nD τ).loc main_arg2) (ix2 (token r j) n)
def argO (k d : Fin 2048) : EReal := m ((c.tc : Thread nD τ).loc main_arg3) (ix3 0 k d)
def argX (r : Fin 16384) (d : Fin 2048) : EReal := m ((c.tc : Thread nD τ).loc main_arg4) (ix2 r d)
def argG (d : Fin 2048) : EReal := m ((c.tc : Thread nD τ).loc main_arg5) (ix2 0 d)
def argN (d : Fin 2048) : EReal := m ((c.tc : Thread nD τ).loc main_arg6) (ix2 0 d)

/-! ### The arrays prepared before the call -/

theorem entry_q (k d : Fin 2048) : V m c main_v0 (ix3 0 k d) = argQ m c k d := by rfl

theorem entry_o (k d : Fin 2048) : V m c main_v1 (ix3 0 k d) = argO m c k d := by rfl

theorem entry_g (d : Fin 2048) : V m c main_v6 (ix2 0 d) = argG m c d := by
  have h : V m c main_v6 = broadcastInDim S1x2048 ![1] bcast_S2048_S1x2048_1 (shapeCast S2048 (extractStridedSlice S1x2048 ![0, 0] (m ((c.tc : Thread nD τ).loc main_arg5)) slices_S4x2048_S1x2048_0_0) shapeCasts_S1x2048_S2048) := by rfl
  rw [h]
  pointwise
  rfl

theorem entry_n (d : Fin 2048) : V m c main_v7 (ix2 0 d) = argN m c d := by
  have h : V m c main_v7 = broadcastInDim S1x2048 ![1] bcast_S2048_S1x2048_1 (shapeCast S2048 (extractStridedSlice S1x2048 ![0, 0] (m ((c.tc : Thread nD τ).loc main_arg6)) slices_S4x2048_S1x2048_0_0) shapeCasts_S1x2048_S2048) := by rfl
  rw [h]
  pointwise
  rfl

/-! ### The blocks -/

theorem block_h (t : Fin grid0.N) (i : Fin 512) (k : Fin 2048) : iblk m c 0 t (ix2 i k) = argH m c (row t i) k := by
  have h : iblk m c 0 t (ix2 i k) = V m c main_arg0 (ix2 (row t i) k) := by
    unfold row
    blk_ext [iblk, at_0 t]
  rw [h]; rfl

theorem block_q (t : Fin grid0.N) (k d : Fin 2048) : iblk m c 1 t (ix3 0 k d) = argQ m c k d := by
  have h : iblk m c 1 t (ix3 0 k d) = V m c main_v0 (ix3 0 k d) := by
    blk_ext [iblk, at_1 t]
  rw [h, entry_q]

theorem block_kv (t : Fin grid0.N) (i : Fin 512) (j : Fin 256) (n : Fin 4096) : iblk m c 2 t (ix2 j n) = argKV m c (row t i) j n := by
  have hj : 256 * (t.val / 8) + j.val < 1024 := by have := row_lt t; omega
  have h : iblk m c 2 t (ix2 j n) = V m c main_arg2 (ix2 ⟨256 * (t.val / 8) + j.val, hj⟩ n) := by
    blk_ext [iblk, at_2 t]
  have e : (⟨256 * (t.val / 8) + j.val, hj⟩ : Fin 1024) = token (row t i) j := Fin.ext (by simp only [token, row]; omega)
  rw [h, e]; rfl

theorem block_o (t : Fin grid0.N) (k d : Fin 2048) : iblk m c 3 t (ix3 0 k d) = argO m c k d := by
  have h : iblk m c 3 t (ix3 0 k d) = V m c main_v1 (ix3 0 k d) := by
    blk_ext [iblk, at_3 t]
  rw [h, entry_o]

theorem block_x (t : Fin grid0.N) (i : Fin 512) (d : Fin 2048) : iblk m c 4 t (ix2 i d) = argX m c (row t i) d := by
  have h : iblk m c 4 t (ix2 i d) = V m c main_arg4 (ix2 (row t i) d) := by
    unfold row
    blk_ext [iblk, at_4 t]
  rw [h]; rfl

theorem block_g (t : Fin grid0.N) (d : Fin 2048) : iblk m c 5 t (ix2 0 d) = argG m c d := by
  have h : iblk m c 5 t (ix2 0 d) = V m c main_v6 (ix2 0 d) := by
    blk_ext [iblk, at_5 t]
  rw [h, entry_g]

theorem block_n (t : Fin grid0.N) (d : Fin 2048) : iblk m c 6 t (ix2 0 d) = argN m c d := by
  have h : iblk m c 6 t (ix2 0 d) = V m c main_v7 (ix2 0 d) := by
    blk_ext [iblk, at_6 t]
  rw [h, entry_n]

end Cert.Proof.Mem

end
-- ==== Proof.MemSpec.lean ====
/- The attention over the memory tokens as mathematics: the row of a query, as the kernel and as the reference compute it. -/
module

public import proofs.«01_k».proof.Proof.OutProjSpec
public import proofs.«01_k».proof.Proof.Ref

@[expose] public section

noncomputable section

namespace Cert.Proof.Mem

open Idealize.ShloMosaic

/-- The factor of the scores, one over the root of 512. -/
def scale : EReal := Ideal.ofBits FTy.f32 0x3D3504F3#32

theorem scale_real : ∃ x : ℝ, scale = (x : EReal) := by
  unfold scale
  simp only [Ideal.ofBits, Ideal.ieee]
  simp
  exact ⟨_, rfl⟩

/-- The exponential of a score's distance from the largest of its row. -/
def weight (s : Fin 256 → EReal) (j : Fin 256) : EReal := Ideal.exp (s j - Finset.univ.fold max ⊥ s)

/-- The weighted sum of values, then divided by the weights' sum. -/
def mixed (s v : Fin 256 → EReal) : EReal := Ideal.div (∑ j, weight s j * v j) (∑ j, weight s j)

/-- The sum of values, each times its share of the weights' sum. -/
def mean (s v : Fin 256 → EReal) : EReal := ∑ j, v j * Ideal.div (weight s j) (∑ i, weight s i)

/-- The largest of a row of real scores is real. -/
theorem top_real {s : Fin 256 → EReal} {x : Fin 256 → ℝ} (h : ∀ j, s j = (x j : EReal)) :
    ∃ M : ℝ, Finset.univ.fold max ⊥ s = (M : EReal) := by
  have key : ∀ S : Finset (Fin 256), S = ∅ ∨ ∃ M : ℝ, S.fold max ⊥ s = (M : EReal) := by
    intro S
    induction S using Finset.induction_on with
    | empty => exact .inl rfl
    | insert a S ha ih =>
      refine .inr ?_
      rw [Finset.fold_insert ha, h a]
      rcases ih with rfl | ⟨M, hM⟩
      · exact ⟨x a, by rw [Finset.fold_empty, max_eq_left bot_le]⟩
      · rw [hM]
        rcases le_total (x a) M with hle | hle
        · exact ⟨M, max_eq_right (EReal.coe_le_coe_iff.mpr hle)⟩
        · exact ⟨x a, max_eq_left (EReal.coe_le_coe_iff.mpr hle)⟩
  rcases key Finset.univ with h0 | h0
  · exact absurd h0 Finset.univ_nonempty.ne_empty
  · exact h0

/-- A factor that is real and not negative goes into a sum of any extended reals. -/
theorem sum_mul_real (S : Finset (Fin 256)) (a : Fin 256 → EReal) {c : EReal} (h0 : 0 ≤ c) (h1 : c ≠ ⊤) :
    (∑ j ∈ S, a j) * c = ∑ j ∈ S, a j * c := by
  induction S using Finset.induction_on with
  | empty => simp
  | insert b S hb ih => rw [Finset.sum_insert hb, Finset.sum_insert hb, EReal.right_distrib_of_nonneg_of_ne_top h0 h1, ih]

/-- With real scores the two orders of dividing agree, whatever the values. -/
theorem mixed_eq_mean {s v : Fin 256 → EReal} {x : Fin 256 → ℝ} (h : ∀ j, s j = (x j : EReal)) : mixed s v = mean s v := by
  obtain ⟨M, hM⟩ := top_real h
  have hw : ∀ j, weight s j = ((Real.exp (x j - M) : ℝ) : EReal) := by
    intro j
    unfold weight
    rw [hM, h j, ← EReal.coe_sub]
    rfl
  have hs : ∑ j, weight s j = ((∑ j, Real.exp (x j - M) : ℝ) : EReal) := by
    rw [← sum_coe]
    exact Finset.sum_congr rfl fun j _ => hw j
  have hp : 0 < ∑ j, Real.exp (x j - M) := Finset.sum_pos (fun j _ => Real.exp_pos _) Finset.univ_nonempty
  have hne : ((∑ j, Real.exp (x j - M) : ℝ) : EReal) ≠ 0 := by
    rw [Ne, EReal.coe_eq_zero]; exact hp.ne'
  unfold mixed mean
  simp only [hs, Ideal.div, if_neg hne]
  rw [← EReal.coe_inv, sum_mul_real _ _ (EReal.coe_nonneg.mpr (inv_nonneg.mpr hp.le)) (EReal.coe_ne_top _)]
  refine Finset.sum_congr rfl fun j _ => ?_
  rw [mul_comm (weight s j), mul_assoc]

/-- A query's column. -/
def query (h : Fin 2048 → EReal) (w : Fin 2048 → Fin 512 → EReal) (f : Fin 512) : EReal := ∑ e, h e * w e f

/-- The scores of a query, the factor on the query or on the score. -/
def scoreIn (h : Fin 2048 → EReal) (w : Fin 2048 → Fin 512 → EReal) (k : Fin 256 → Fin 512 → EReal) (j : Fin 256) : EReal :=
  ∑ f, query h w f * scale * k j f
def scoreOut (h : Fin 2048 → EReal) (w : Fin 2048 → Fin 512 → EReal) (k : Fin 256 → Fin 512 → EReal) (j : Fin 256) : EReal :=
  (∑ f, query h w f * k j f) * scale

/-- Of real arguments the scores are the same real. -/
theorem scores_real {h : Fin 2048 → EReal} {w : Fin 2048 → Fin 512 → EReal} {k : Fin 256 → Fin 512 → EReal}
    {hr : Fin 2048 → ℝ} {wr : Fin 2048 → Fin 512 → ℝ} {kr : Fin 256 → Fin 512 → ℝ}
    (hh : ∀ e, h e = (hr e : EReal)) (hw : ∀ e f, w e f = (wr e f : EReal)) (hk : ∀ j f, k j f = (kr j f : EReal)) :
    ∃ x : Fin 256 → ℝ, ∀ j, scoreIn h w k j = (x j : EReal) ∧ scoreOut h w k j = (x j : EReal) := by
  obtain ⟨c, hc⟩ := scale_real
  have hq : ∀ f, query h w f = ((∑ e, hr e * wr e f : ℝ) : EReal) := by
    intro f
    unfold query
    rw [← sum_coe]
    exact Finset.sum_congr rfl fun e _ => by rw [hh, hw, EReal.coe_mul]
  refine ⟨fun j => ∑ f, (∑ e, hr e * wr e f) * c * kr j f, fun j => ⟨?_, ?_⟩⟩
  · unfold scoreIn
    rw [← sum_coe]
    exact Finset.sum_congr rfl fun f _ => by rw [hq, hc, hk, ← EReal.coe_mul, ← EReal.coe_mul]
  · unfold scoreOut
    have e : ∑ f, query h w f * k j f = ((∑ f, (∑ e, hr e * wr e f) * kr j f : ℝ) : EReal) := by
      rw [← sum_coe]
      exact Finset.sum_congr rfl fun f _ => by rw [hq, hk, EReal.coe_mul]
    rw [e, hc, ← EReal.coe_mul, Finset.sum_mul]
    exact congrArg _ (Finset.sum_congr rfl fun f _ => by ring)

/-- A head's output for a query, as the kernel computes it. -/
def head (h : Fin 2048 → EReal) (w : Fin 2048 → Fin 512 → EReal) (k v : Fin 256 → Fin 512 → EReal) (f : Fin 512) : EReal :=
  mixed (scoreIn h w k) fun j => v j f

/-- The column of head `n / 512`. -/
def colOf (n : Fin 2048) (f : Fin 512) : Fin 2048 := ⟨n.val / 512 * 512 + f.val, by omega⟩
def keyOf (n : Fin 2048) : Fin 4096 := ⟨n.val, by omega⟩
def valOf (n : Fin 2048) : Fin 4096 := ⟨2048 + n.val, by omega⟩

/-- The four heads' outputs for a query, side by side, as the kernel and as the reference compute them. -/
def attended (h : Fin 2048 → EReal) (w : Fin 2048 → Fin 2048 → EReal) (kv : Fin 256 → Fin 4096 → EReal) (n : Fin 2048) : EReal :=
  mixed (scoreIn h (fun e f => w e (colOf n f)) fun j f => kv j (keyOf (colOf n f))) fun j => kv j (valOf n)
def attendedRef (h : Fin 2048 → EReal) (w : Fin 2048 → Fin 2048 → EReal) (kv : Fin 256 → Fin 4096 → EReal) (n : Fin 2048) : EReal :=
  mean (scoreOut h (fun e f => w e (colOf n f)) fun j f => kv j (keyOf (colOf n f))) fun j => kv j (valOf n)

/-- Of real queries and keys the two are equal. -/
theorem attended_eq {h : Fin 2048 → EReal} {w : Fin 2048 → Fin 2048 → EReal} {kv : Fin 256 → Fin 4096 → EReal}
    (hh : ∀ e, h e = ((h e).toReal : EReal)) (hw : ∀ e f, w e f = ((w e f).toReal : EReal))
    (hk : ∀ j f, kv j (keyOf f) = ((kv j (keyOf f)).toReal : EReal)) (n : Fin 2048) : attended h w kv n = attendedRef h w kv n := by
  obtain ⟨x, hx⟩ := scores_real (h := h) (w := fun e f => w e (colOf n f)) (k := fun j f => kv j (keyOf (colOf n f)))
    hh (fun e f => hw e _) (fun j f => hk j _)
  unfold attended attendedRef
  rw [mixed_eq_mean (fun j => (hx j).1), (funext fun j => (hx j).1.trans (hx j).2.symm :
    scoreIn h (fun e f => w e (colOf n f)) (fun j f => kv j (keyOf (colOf n f))) = scoreOut h (fun e f => w e (colOf n f)) fun j f => kv j (keyOf (colOf n f)))]

end Cert.Proof.Mem

end
-- ==== Proof.MemHead.lean ====
/- What the memory attention kernel's body computes for a tile, at one element over the extended reals: the heads and the two results. -/
module

public import proofs.«01_k».proof.Proof.Gen.Kernel5Ideal.Frame
public import proofs.«01_k».proof.Proof.MemSpec
public import Idealize.ShloMosaic.Lib.Pointwise

@[expose] public section

set_option maxRecDepth 16384

noncomputable section

namespace Cert.Proof.Mem

open Idealize.ShloMosaic Idealize.ShloMosaic.TcCoe Idealize.ShloMosaic.Tactic
open Idealize.SL Idealize.SL.Sem
open Cert.Kernel5Ideal Cert.Kernel5Ideal.Gen

/-! ### A head -/

section
variable (h : Vec Ideal S512x2048 .bf16) (w : Vec Ideal S1x2048x512 .bf16) (k v : Vec Ideal S256x512 .bf16) (p : Fin 512)

/-- A row's scores, from the blocks. -/
def rowScores : Fin 256 → EReal := scoreIn (fun e => h (ix2 p e)) (fun e f => w (ix3 0 e f)) fun j f => k (ix2 j f)

theorem scores_4 (j : Fin 256) : k0_pay4 (F := Ideal) h w k (ix2 p j) = rowScores h w k p j := by
  pointwise [k0_pay4]
  rfl

/-- The weighted values over the weights' sum, from the scores. -/
theorem mixed_5 (s : FVec Ideal S512x256 .f32) (f : Fin 512) :
    k0_pay5 (F := Ideal) s v (ix2 p f) = mixed (fun j => s (ix2 p j)) fun j => v (ix2 j f) := by
  pointwise [k0_pay5]
  simp only [Cert.Proof.Ref.ofBits_bot]
  rfl

/-- The other heads compute the same. -/
theorem first_eq : k0_pay3 (F := Ideal) h w k v = k0_pay5 (k0_pay4 h w k) v := rfl
theorem third_eq : k0_pay9 (F := Ideal) (k0_pay7 h w k) (k0_pay8 h w k) v = k0_pay5 (k0_pay4 h w k) v := rfl
theorem fourth_eq : k0_pay10 (F := Ideal) (k0_pay6 h w) k v = k0_pay5 (k0_pay4 h w k) v := rfl

/-- A head at an element, from its blocks. -/
theorem head_apply (f : Fin 512) : k0_pay5 (F := Ideal) (k0_pay4 h w k) v (ix2 p f)
    = head (fun e => h (ix2 p e)) (fun e f => w (ix3 0 e f)) (fun j f => k (ix2 j f)) (fun j f => v (ix2 j f)) f := by
  rw [mixed_5]
  simp only [scores_4]
  rfl
end

theorem head_congr {h h' : Fin 2048 → EReal} {w w' : Fin 2048 → Fin 512 → EReal} {k k' v v' : Fin 256 → Fin 512 → EReal} (f : Fin 512)
    (eh : ∀ e, h e = h' e) (ew : ∀ e f, w e f = w' e f) (ek : ∀ j f, k j f = k' j f) (ev : ∀ j f, v j f = v' j f) :
    head h w k v f = head h' w' k' v' f := by
  rw [funext eh, funext fun e => funext (ew e), funext fun e => funext (ek e), funext fun e => funext (ev e)]

end Cert.Proof.Mem

end
-- ==== Proof.MemTile.lean ====
/- The memory attention kernel's scratch of head outputs, and its two result tiles, at one element over the extended reals. -/
module

public import proofs.«01_k».proof.Proof.MemHead
public import proofs.«01_k».proof.Proof.OutProjPayload
public import Idealize.ShloMosaic.Lib.Pipeline.ReadBack
public import Idealize.ShloMosaic.Lib.Pipeline.ValueKit.Point
public import Idealize.ShloMosaic.Lib.Pipeline.ValueKit.Tiles

@[expose] public section

set_option maxRecDepth 16384

noncomputable section

namespace Cert.Proof.Mem

open Idealize.ShloMosaic Idealize.ShloMosaic.TcCoe Idealize.ShloMosaic.Tactic
open Idealize.SL Idealize.SL.Sem
open Cert.Kernel5Ideal Cert.Kernel5Ideal.Gen

/-! ### The heads' outputs, side by side in the scratch -/

section
variable (x0 : Vec Ideal S512x2048 .bf16) (x1 : Vec Ideal S1x2048x2048 .bf16) (x2 : Vec Ideal S256x4096 .bf16)

/-- What the body stores for the heads, the last first. -/
abbrev att : List (View.Piece (Elt Ideal) S512x2048 .bf16) :=
  [⟨Rect.unit ![0, 1536] ![512, 512] inb_S512x2048_S512x512_0_1536,
      k0_pay10 (k0_pay6 x0 (View.ld x1 (Rect.unit ![0, 0, 1536] ![1, 2048, 512] inb_S1x2048x2048_S1x2048x512_0_0_1536)))
        (View.ld x2 (Rect.unit ![0, 1536] ![256, 512] inb_S256x4096_S256x512_0_1536))
        (View.ld x2 (Rect.unit ![0, 3584] ![256, 512] inb_S256x4096_S256x512_0_3584))⟩,
    ⟨Rect.unit ![0, 1024] ![512, 512] inb_S512x2048_S512x512_0_1024,
      k0_pay9 (k0_pay7 x0 (View.ld x1 (Rect.unit ![0, 0, 1024] ![1, 2048, 512] inb_S1x2048x2048_S1x2048x512_0_0_1024))
          (View.ld x2 (Rect.unit ![0, 1024] ![256, 512] inb_S256x4096_S256x512_0_1024)))
        (k0_pay8 x0 (View.ld x1 (Rect.unit ![0, 0, 1024] ![1, 2048, 512] inb_S1x2048x2048_S1x2048x512_0_0_1024))
          (View.ld x2 (Rect.unit ![0, 1024] ![256, 512] inb_S256x4096_S256x512_0_1024)))
        (View.ld x2 (Rect.unit ![0, 3072] ![256, 512] inb_S256x4096_S256x512_0_3072))⟩,
    ⟨Rect.unit ![0, 512] ![512, 512] inb_S512x2048_S512x512_0_512,
      k0_pay5 (k0_pay4 x0 (View.ld x1 (Rect.unit ![0, 0, 512] ![1, 2048, 512] inb_S1x2048x2048_S1x2048x512_0_0_512))
          (View.ld x2 (Rect.unit ![0, 512] ![256, 512] inb_S256x4096_S256x512_0_512)))
        (View.ld x2 (Rect.unit ![0, 2560] ![256, 512] inb_S256x4096_S256x512_0_2560))⟩,
    ⟨Rect.unit ![0, 0] ![512, 512] inb_S512x2048_S512x512_0_0,
      k0_pay3 x0 (View.ld x1 (Rect.unit ![0, 0, 0] ![1, 2048, 512] inb_S1x2048x2048_S1x2048x512_0_0_0))
        (View.ld x2 (Rect.unit ![0, 0] ![256, 512] inb_S256x4096_S256x512_0_0))
        (View.ld x2 (Rect.unit ![0, 2048] ![256, 512] inb_S256x4096_S256x512_0_2048))⟩]

theorem att_cover (p : Fin 512) (n : Fin 2048) : ∃ r ∈ att x0 x1 x2, (ix2 p n : S512x2048.Idx) ∈ r.1.set := by
  have hp := p.isLt
  have hn := n.isLt
  by_cases h3 : 1536 ≤ n.val
  · refine ⟨_, List.mem_cons_self, ?_⟩
    refine (Rect.mem_set_unit (inb := inb_S512x2048_S512x512_0_1536)).mpr fun a => ?_
    fin_cases a <;> simp [ix2] <;> omega
  by_cases h2 : 1024 ≤ n.val
  · refine ⟨_, List.mem_cons_of_mem _ List.mem_cons_self, ?_⟩
    refine (Rect.mem_set_unit (inb := inb_S512x2048_S512x512_0_1024)).mpr fun a => ?_
    fin_cases a <;> simp [ix2] <;> omega
  by_cases h1 : 512 ≤ n.val
  · refine ⟨_, List.mem_cons_of_mem _ (List.mem_cons_of_mem _ List.mem_cons_self), ?_⟩
    refine (Rect.mem_set_unit (inb := inb_S512x2048_S512x512_0_512)).mpr fun a => ?_
    fin_cases a <;> simp [ix2] <;> omega
  · refine ⟨_, List.mem_cons_of_mem _ (List.mem_cons_of_mem _ (List.mem_cons_of_mem _ List.mem_cons_self)), ?_⟩
    refine (Rect.mem_set_unit (inb := inb_S512x2048_S512x512_0_0)).mpr fun a => ?_
    fin_cases a <;> simp [ix2] <;> omega

/-- A head's output is the attended row's part of the head. -/
theorem attended_part (h : Fin 2048 → EReal) (w : Fin 2048 → Fin 2048 → EReal) (kv : Fin 256 → Fin 4096 → EReal) (o : ℕ) (ho : o < 4)
    (n : Fin 2048) (f : Fin 512) (hn : n.val = o * 512 + f.val) :
    head h (fun e f => w e ⟨o * 512 + f.val, by omega⟩) (fun j f => kv j ⟨o * 512 + f.val, by omega⟩) (fun j f => kv j ⟨2048 + o * 512 + f.val, by omega⟩) f
      = attended h w kv n := by
  have e : ∀ g : Fin 512, (⟨o * 512 + g.val, by omega⟩ : Fin 2048) = colOf n g := fun g => Fin.ext (by simp only [colOf]; omega)
  have ek : ∀ g : Fin 512, (⟨o * 512 + g.val, by omega⟩ : Fin 4096) = keyOf (colOf n g) := fun g => Fin.ext (by simp only [keyOf, colOf]; omega)
  have ev : (⟨2048 + o * 512 + f.val, by omega⟩ : Fin 4096) = valOf n := Fin.ext (by simp only [valOf]; omega)
  unfold head attended
  simp only [e, ek, ev]

/-- An element of the scratch: the attention's. -/
theorem att_apply (p : Fin 512) (n : Fin 2048) : View.canon (att x0 x1 x2) (ix2 p n)
    = attended (fun e => x0 (ix2 p e)) (fun e f => x1 (ix3 0 e f)) (fun j f => x2 (ix2 j f)) n := by
  have hc := att_cover x0 x1 x2 p n
  canon_tiles x hx using hc
  all_goals
    obtain ⟨p', d', rfl⟩ : ∃ p' d', x = ix2 p' d' := ⟨x 0, x 1, eq_ix2 x⟩
    clear hc
    simp only [ix2_0, ix2_1] at hx0 hx1
    have hd' : d'.val < 512 := d'.isLt
    obtain rfl : p = p' := Fin.ext hx0
    first | rw [fourth_eq, head_apply] | rw [third_eq, head_apply] | rw [first_eq, head_apply] | rw [head_apply]
  · refine .trans (head_congr d' (fun e => rfl) (fun e f => ?_) (fun j f => ?_) fun j f => ?_) (attended_part _ _ _ 3 (by decide) n d' (by omega))
    all_goals exact View.ld_unit_apply_of _ _ _ _ _ _ (by intro a; fin_cases a <;> simp [ix2, ix3] <;> omega)
  · refine .trans (head_congr d' (fun e => rfl) (fun e f => ?_) (fun j f => ?_) fun j f => ?_) (attended_part _ _ _ 2 (by decide) n d' (by omega))
    all_goals exact View.ld_unit_apply_of _ _ _ _ _ _ (by intro a; fin_cases a <;> simp [ix2, ix3] <;> omega)
  · refine .trans (head_congr d' (fun e => rfl) (fun e f => ?_) (fun j f => ?_) fun j f => ?_) (attended_part _ _ _ 1 (by decide) n d' (by omega))
    all_goals exact View.ld_unit_apply_of _ _ _ _ _ _ (by intro a; fin_cases a <;> simp [ix2, ix3] <;> omega)
  · refine .trans (head_congr d' (fun e => rfl) (fun e f => ?_) (fun j f => ?_) fun j f => ?_) (attended_part _ _ _ 0 (by decide) n d' (by omega))
    all_goals exact View.ld_unit_apply_of _ _ _ _ _ _ (by intro a; fin_cases a <;> simp [ix2, ix3] <;> omega)

/-- A load of 256 rows of the scratch. -/
theorem att_load (o : ℕ) (ho : o ≤ 256) (inb) (p : Fin 256) (k : Fin 2048) :
    (View.whole cc0_scratch0).readCov (att x0 x1 x2) (Rect.unit (s := S512x2048) ![o, 0] ![256, 2048] inb).toLoadRect (ix2 p k : S256x2048.Idx)
      = attended (fun e => x0 (ix2 ⟨o + p.val, by omega⟩ e)) (fun e f => x1 (ix3 0 e f)) (fun j f => x2 (ix2 j f)) k := by
  rw [View.readCov_eq_canon', ← att_apply x0 x1 x2]
  refine congrArg _ (funext fun a => Fin.ext ((Rect.idx_unit_val _ _ inb _ a).trans ?_))
  fin_cases a <;> simp [ix2]
end

/-! ### The two halves of a tile, from the attended rows -/

section
variable (a : Vec Ideal S256x2048 .bf16) (w : Vec Ideal S1x2048x2048 .bf16) (x : Vec Ideal S256x2048 .f32) (g g' : Vec Ideal S1x2048 .f32)
  (p : Fin 256) (d : Fin 2048)

theorem passed_1 : k0_pay1 (F := Ideal) (k0_pay14 a w) x g (ix2 p d)
    = OutProj.passed (fun k => a (ix2 p k)) (fun e => x (ix2 p e)) (fun k e => w (ix3 0 k e)) (fun e => g (ix2 0 e)) d := by
  pointwise [k0_pay1, k0_pay14]
  rfl

theorem passed_12 : k0_pay12 (F := Ideal) (k0_pay11 a w) x g = k0_pay1 (k0_pay14 a w) x g := rfl

theorem ready_2 : k0_pay2 (F := Ideal) (k0_pay14 a w) x g g' (ix2 p d)
    = OutProj.ready (fun k => a (ix2 p k)) (fun e => x (ix2 p e)) (fun k e => w (ix3 0 k e)) (fun e => g (ix2 0 e)) (fun e => g' (ix2 0 e)) d := by
  unfold OutProj.ready
  rw [← funext fun e => passed_1 a w x g p e]
  pointwise [k0_pay2]
  rfl

theorem ready_13 : k0_pay13 (F := Ideal) (k0_pay11 a w) x g g' = k0_pay2 (k0_pay14 a w) x g g' := rfl
end

/-! ### The tiles -/

/-- A tile stored in two halves has a value that both halves have. -/
theorem halves_first (a b : Vec Ideal S256x2048 .f32) (p : Fin 512) (d : Fin 2048) (Y : EReal)
    (ha : ∀ p' : Fin 256, p = ⟨256 + p'.val, by omega⟩ → a (ix2 p' d) = Y) (hb : ∀ p' : Fin 256, p = ⟨0 + p'.val, by omega⟩ → b (ix2 p' d) = Y) :
    View.canon (Val := Elt Ideal) (e := .f32)
      [⟨Rect.unit (s := S512x2048) ![256, 0] ![256, 2048] inb_S512x2048_S256x2048_256_0, a⟩,
        ⟨Rect.unit (s := S512x2048) ![0, 0] ![256, 2048] inb_S512x2048_S256x2048_0_0, b⟩] (ix2 p d) = Y := by
  have hc : ∃ r ∈ ([⟨Rect.unit (s := S512x2048) ![256, 0] ![256, 2048] inb_S512x2048_S256x2048_256_0, a⟩,
      ⟨Rect.unit (s := S512x2048) ![0, 0] ![256, 2048] inb_S512x2048_S256x2048_0_0, b⟩] : List (View.Piece (Elt Ideal) S512x2048 .f32)),
      (ix2 p d : S512x2048.Idx) ∈ r.1.set := by
    have hp := p.isLt
    have hd := d.isLt
    by_cases h : p.val < 256
    · refine ⟨_, List.mem_cons_of_mem _ List.mem_cons_self, ?_⟩
      refine (Rect.mem_set_unit (inb := inb_S512x2048_S256x2048_0_0)).mpr fun a => ?_
      fin_cases a <;> simp [ix2] <;> omega
    · refine ⟨_, List.mem_cons_self, ?_⟩
      refine (Rect.mem_set_unit (inb := inb_S512x2048_S256x2048_256_0)).mpr fun a => ?_
      fin_cases a <;> simp [ix2] <;> omega
  canon_tiles x hx using hc
  all_goals
    obtain ⟨p', d', rfl⟩ : ∃ p' d', x = ix2 p' d' := ⟨x 0, x 1, eq_ix2 x⟩
    clear hc
    simp only [ix2_0, ix2_1] at hx0 hx1
    obtain rfl : d = d' := Fin.ext hx1
  · exact ha p' (Fin.ext (by simp only; omega))
  · exact hb p' (Fin.ext (by simp only; omega))

theorem halves_second (a b : Vec Ideal S256x2048 .bf16) (p : Fin 512) (d : Fin 2048) (Y : EReal)
    (ha : ∀ p' : Fin 256, p = ⟨256 + p'.val, by omega⟩ → a (ix2 p' d) = Y) (hb : ∀ p' : Fin 256, p = ⟨0 + p'.val, by omega⟩ → b (ix2 p' d) = Y) :
    View.canon (Val := Elt Ideal) (e := .bf16)
      [⟨Rect.unit (s := S512x2048) ![256, 0] ![256, 2048] inb_S512x2048_S256x2048_256_0, a⟩,
        ⟨Rect.unit (s := S512x2048) ![0, 0] ![256, 2048] inb_S512x2048_S256x2048_0_0, b⟩] (ix2 p d) = Y := by
  have hc : ∃ r ∈ ([⟨Rect.unit (s := S512x2048) ![256, 0] ![256, 2048] inb_S512x2048_S256x2048_256_0, a⟩,
      ⟨Rect.unit (s := S512x2048) ![0, 0] ![256, 2048] inb_S512x2048_S256x2048_0_0, b⟩] : List (View.Piece (Elt Ideal) S512x2048 .bf16)),
      (ix2 p d : S512x2048.Idx) ∈ r.1.set := by
    have hp := p.isLt
    have hd := d.isLt
    by_cases h : p.val < 256
    · refine ⟨_, List.mem_cons_of_mem _ List.mem_cons_self, ?_⟩
      refine (Rect.mem_set_unit (inb := inb_S512x2048_S256x2048_0_0)).mpr fun a => ?_
      fin_cases a <;> simp [ix2] <;> omega
    · refine ⟨_, List.mem_cons_self, ?_⟩
      refine (Rect.mem_set_unit (inb := inb_S512x2048_S256x2048_256_0)).mpr fun a => ?_
      fin_cases a <;> simp [ix2] <;> omega
  canon_tiles x hx using hc
  all_goals
    obtain ⟨p', d', rfl⟩ : ∃ p' d', x = ix2 p' d' := ⟨x 0, x 1, eq_ix2 x⟩
    clear hc
    simp only [ix2_0, ix2_1] at hx0 hx1
    obtain rfl : d = d' := Fin.ext hx1
  · exact ha p' (Fin.ext (by simp only; omega))
  · exact hb p' (Fin.ext (by simp only; omega))

section
variable (m : (ℓ : Loc nD τ sig) → Buf (Elt Ideal) ℓ) (c : Dev nD) (t : Fin cfg0.N) (p : Fin 512) (d : Fin 2048)

/-- A tile row's attention, from the point's blocks. -/
def tileRow : Fin 2048 → EReal :=
  attended (fun e => iblk m c 0 t (ix2 p e)) (fun e f => iblk m c 1 t (ix3 0 e f)) fun j f => iblk m c 2 t (ix2 j f)

/-- An element of the first result's tile, from the blocks. -/
theorem tile0_apply : (outsAt0 m c t).1 (ix2 p d)
    = OutProj.passed (tileRow m c t p) (fun e => iblk m c 4 t (ix2 p e)) (fun k e => iblk m c 3 t (ix3 0 k e)) (fun e => iblk m c 5 t (ix2 0 e)) d := by
  unfold outsAt0
  frame_out
  refine halves_first _ _ p d _ (fun p' hp => ?_) fun p' hp => ?_
  all_goals subst hp
  · rw [passed_1]
    refine OutProj.passed_congr d (fun k => ?_) (fun k => ?_) (fun k e => rfl) (fun k => rfl)
    · exact att_load _ _ _ 256 (by omega) _ p' k
    · exact View.ld_unit_apply_of _ _ _ _ _ _ (by intro a; fin_cases a <;> simp [ix2, ix3] <;> omega)
  · rw [passed_12, passed_1]
    refine OutProj.passed_congr d (fun k => ?_) (fun k => ?_) (fun k e => rfl) (fun k => rfl)
    · exact att_load _ _ _ 0 (by omega) _ p' k
    · exact View.ld_unit_apply_of _ _ _ _ _ _ (by intro a; fin_cases a <;> simp [ix2, ix3] <;> omega)

/-- An element of the second result's tile, from the blocks. -/
theorem tile1_apply : (outsAt0 m c t).2 (ix2 p d)
    = OutProj.ready (tileRow m c t p) (fun e => iblk m c 4 t (ix2 p e)) (fun k e => iblk m c 3 t (ix3 0 k e)) (fun e => iblk m c 5 t (ix2 0 e))
      (fun e => iblk m c 6 t (ix2 0 e)) d := by
  unfold outsAt0
  frame_out
  refine halves_second _ _ p d _ (fun p' hp => ?_) fun p' hp => ?_
  all_goals subst hp
  · rw [ready_2]
    refine OutProj.ready_congr d (fun k => ?_) (fun k => ?_) (fun k e => rfl) (fun k => rfl) (fun k => rfl)
    · exact att_load _ _ _ 256 (by omega) _ p' k
    · exact View.ld_unit_apply_of _ _ _ _ _ _ (by intro a; fin_cases a <;> simp [ix2, ix3] <;> omega)
  · rw [ready_13, ready_2]
    refine OutProj.ready_congr d (fun k => ?_) (fun k => ?_) (fun k e => rfl) (fun k => rfl) (fun k => rfl)
    · exact att_load _ _ _ 0 (by omega) _ p' k
    · exact View.ld_unit_apply_of _ _ _ _ _ _ (by intro a; fin_cases a <;> simp [ix2, ix3] <;> omega)

end

end Cert.Proof.Mem

end
-- ==== Proof.MemRef.lean ====
/- What the memory attention's reference computes, step by step, at one element over the extended reals. -/
module

public import proofs.«01_k».proof.Proof.Gen.Reference5Ideal.Run
public import Idealize.ShloMosaic.Lib.Pointwise
public import proofs.«01_k».proof.Proof.MemSpec

@[expose] public section

set_option maxRecDepth 16384

noncomputable section

namespace Cert.Proof.MemRef

open Cert.Reference5Ideal Cert.Reference5Ideal.Gen Cert.Reference5Ideal.Value
open Idealize.ShloMosaic Idealize.ShloMosaic.TcCoe Idealize.SL.Sem

variable {F : FTy → Type} [FloatOps F]

/-- The projected queries, the memory's keys and its values, by batch, position, head and column. -/
def queries (h : FVec F S16384x2048 .bf16) (w : FVec F S4x2048x2048 .f32) : FVec F S4x4096x4x512 .f32 :=
  shapeCast _ (Host.dotGeneral dot_S16384x2048_S2048x2048_S16384x2048_1_0_0_1_n_n none (extf .f32 h bitsLt_bf16_f32) (shapeCast _ (extractStridedSlice S1x2048x2048 ![0, 0, 0] w slices_S4x2048x2048_S1x2048x2048_0_0_0) shapeCasts_S1x2048x2048_S2048x2048)) shapeCasts_S16384x2048_S4x4096x4x512
def keys (a : FVec F S1024x4096 .bf16) : FVec F S4x256x4x512 .f32 :=
  shapeCast _ (extractStridedSlice S4x256x1x4x512 ![0, 0, 0, 0, 0] (shapeCast _ (extf .f32 a bitsLt_bf16_f32) shapeCasts_S1024x4096_S4x256x2x4x512) slices_S4x256x2x4x512_S4x256x1x4x512_0_0_0_0_0) shapeCasts_S4x256x1x4x512_S4x256x4x512
def values (a : FVec F S1024x4096 .bf16) : FVec F S4x256x4x512 .f32 :=
  shapeCast _ (extractStridedSlice S4x256x1x4x512 ![0, 0, 1, 0, 0] (shapeCast _ (extf .f32 a bitsLt_bf16_f32) shapeCasts_S1024x4096_S4x256x2x4x512) slices_S4x256x2x4x512_S4x256x1x4x512_0_0_1_0_0) shapeCasts_S4x256x1x4x512_S4x256x4x512

/-- The scaled scores. -/
def dots (q : FVec F S4x4096x4x512 .f32) (k : FVec F S4x256x4x512 .f32) : FVec F S4x4x4096x256 .f32 :=
  mulf (Host.dotGeneral dot_S4x4096x4x512_S4x256x4x512_S4x4x4096x256_3_3_1_1_02_02 none q k) (broadcastInDim S4x4x4096x256 ![] bcast_S_S4x4x4096x256 (constant S_ .f32 0x3D3504F3#32))

/-- Each row's largest score. -/
def peaks (s : FVec F S4x4x4096x256 .f32) : FVec F S4x4x4096 .f32 :=
  Host.reduce FloatOps.maximumf s (constant S_ .f32 0xFF800000#32) reducesTo_S4x4x4096x256_S4x4x4096_d3 h_S_
def tops (s : FVec F S4x4x4096x256 .f32) : FVec F S4x4x4096 .f32 :=
  maximumf (broadcastInDim S4x4x4096 ![] bcast_S_S4x4x4096 (constant S_ .f32 0xFF800000#32)) (peaks s)

/-- The exponential of each score's distance from its row's largest. -/
def weights (s : FVec F S4x4x4096x256 .f32) : FVec F S4x4x4096x256 .f32 :=
  Host.exp (subf s (broadcastInDim S4x4x4096x256 ![0, 1, 2, 3] bcast_S4x4x4096x1_S4x4x4096x256_0_1_2_3 (broadcastInDim S4x4x4096x1 ![0, 1, 2] bcast_S4x4x4096_S4x4x4096x1_0_1_2 (tops s))))

/-- Each row divided by its sum. -/
def shares (w : FVec F S4x4x4096x256 .f32) : FVec F S4x4x4096x256 .f32 :=
  Host.divf w (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd w (constant S_ .f32 0x00000000#32) reducesTo_S4x4x4096x256_S4x4x4096_d3 h_S_)))

/-- The heads' outputs, side by side. -/
def heads (v : FVec F S4x256x4x512 .f32) (p : FVec F S4x4x4096x256 .f32) : FVec F S16384x2048 .f32 :=
  shapeCast _ (transpose S4x4096x4x512 [0, 3, 1, 2] (Host.dotGeneral dot_S4x256x4x512_S4x4x4096x256_S4x4x512x4096_1_3_3_2_02_01 none v p) transposes_S4x4x512x4096_S4x4096x4x512_0_3_1_2) shapeCasts_S4x4096x4x512_S16384x2048

/-- The output projection. -/
def projected (a : FVec F S16384x2048 .f32) (w : FVec F S4x2048x2048 .f32) : FVec F S16384x2048 .f32 :=
  Host.dotGeneral dot_S16384x2048_S2048x2048_S16384x2048_1_0_0_1_n_n none a (shapeCast _ (extractStridedSlice S1x2048x2048 ![0, 0, 0] w slices_S4x2048x2048_S1x2048x2048_0_0_0) shapeCasts_S1x2048x2048_S2048x2048)

/-- Each row over the root of its mean square, times the gains. -/
def scaled (y : FVec F S16384x2048 .f32) (g : FVec F S4x2048 .f32) : FVec F S16384x2048 .f32 :=
  mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] g slices_S4x2048_S1x2048_0_0) shapeCasts_S1x2048_S2048)))

/-- The attention. -/
def attn (h : FVec F S16384x2048 .bf16) (wq : FVec F S4x2048x2048 .f32) (kv : FVec F S1024x4096 .bf16) : FVec F S16384x2048 .f32 :=
  heads (values kv) (shares (weights (dots (queries h wq) (keys kv))))

/-- The first result. -/
def passedRows (h : FVec F S16384x2048 .bf16) (wq : FVec F S4x2048x2048 .f32) (kv : FVec F S1024x4096 .bf16) (wo : FVec F S4x2048x2048 .f32)
    (x : FVec F S16384x2048 .f32) (g : FVec F S4x2048 .f32) : FVec F S16384x2048 .f32 :=
  addf x (scaled (projected (attn h wq kv) wo) g)

/-- The reference's two results, from their steps. -/
theorem result0_eq (m : (ℓ : Loc nD τ sig) → Buf (Elt F) ℓ) (c : Dev nD) :
    res_out0 m c = passedRows (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl
theorem result1_eq (m : (ℓ : Loc nD τ sig) → Buf (Elt F) ℓ) (c : Dev nD) :
    res_out1 m c = truncf .bf16 (scaled (passedRows (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))) (m ((c.tc : Thread nD τ).loc main_arg6))) bitsLt_bf16_f32 := rfl

/-! ### At one element -/

theorem queries_apply (h : FVec Ideal S16384x2048 .bf16) (w : FVec Ideal S4x2048x2048 .f32) (b : Fin 4) (s : Fin 4096) (n : Fin 4) (f : Fin 512) :
    queries h w (ix4 b s n f) = ∑ e : Fin 2048, h (ix2 ⟨b.val * 4096 + s.val, by omega⟩ e) * w (ix3 0 e ⟨n.val * 512 + f.val, by omega⟩) := by
  pointwise [queries]

theorem keys_apply (a : FVec Ideal S1024x4096 .bf16) (b : Fin 4) (j : Fin 256) (n : Fin 4) (f : Fin 512) :
    keys a (ix4 b j n f) = a (ix2 ⟨b.val * 256 + j.val, by omega⟩ ⟨n.val * 512 + f.val, by omega⟩) := by
  pointwise [keys]

theorem values_apply (a : FVec Ideal S1024x4096 .bf16) (b : Fin 4) (j : Fin 256) (n : Fin 4) (f : Fin 512) :
    values a (ix4 b j n f) = a (ix2 ⟨b.val * 256 + j.val, by omega⟩ ⟨2048 + n.val * 512 + f.val, by omega⟩) := by
  pointwise [values]

theorem dots_apply (q : FVec Ideal S4x4096x4x512 .f32) (k : FVec Ideal S4x256x4x512 .f32) (b n : Fin 4) (s : Fin 4096) (j : Fin 256) :
    dots q k (ix4 b n s j) = (∑ f : Fin 512, q (ix4 b s n f) * k (ix4 b j n f)) * Mem.scale := by
  pointwise [dots]
  rfl

theorem peaks_apply (s : FVec Ideal S4x4x4096x256 .f32) (b n : Fin 4) (q : Fin 4096) :
    peaks s (ix3 b n q) = Finset.univ.fold max ⊥ fun j : Fin 256 => s (ix4 b n q j) := by
  unfold peaks
  pointwise
  rw [Cert.Proof.Ref.ofBits_bot]

theorem larger (a b : FVec Ideal S4x4x4096 .f32) (i : S4x4x4096.Idx) : maximumf a b i = max (a i) (b i) := rfl

theorem low (i : S4x4x4096.Idx) : broadcastInDim S4x4x4096 ![] bcast_S_S4x4x4096 (constant (F := Ideal) S_ .f32 0xFF800000#32) i = (⊥ : EReal) :=
  Cert.Proof.Ref.ofBits_bot

theorem tops_apply (s : FVec Ideal S4x4x4096x256 .f32) (b n : Fin 4) (q : Fin 4096) :
    tops s (ix3 b n q) = Finset.univ.fold max ⊥ fun j : Fin 256 => s (ix4 b n q j) := by
  rw [← peaks_apply]
  unfold tops
  rw [larger, low]
  exact max_eq_right bot_le

theorem weights_apply (s : FVec Ideal S4x4x4096x256 .f32) (b n : Fin 4) (q : Fin 4096) (j : Fin 256) :
    weights s (ix4 b n q j) = Mem.weight (fun j => s (ix4 b n q j)) j := by
  unfold Mem.weight
  rw [← tops_apply]
  unfold weights
  generalize tops s = u
  pointwise

theorem shares_apply (w : FVec Ideal S4x4x4096x256 .f32) (b n : Fin 4) (q : Fin 4096) (j : Fin 256) :
    shares w (ix4 b n q j) = Ideal.div (w (ix4 b n q j)) (∑ i : Fin 256, w (ix4 b n q i)) := by
  pointwise [shares]

theorem heads_apply (v : FVec Ideal S4x256x4x512 .f32) (p : FVec Ideal S4x4x4096x256 .f32) (r : Fin 16384) (d : Fin 2048) :
    heads v p (ix2 r d) = ∑ j : Fin 256, v (ix4 ⟨r.val / 4096, by omega⟩ j ⟨d.val / 512, by omega⟩ ⟨d.val % 512, by omega⟩)
      * p (ix4 ⟨r.val / 4096, by omega⟩ ⟨d.val / 512, by omega⟩ ⟨r.val % 4096, by omega⟩ j) := by
  pointwise [heads]

theorem projected_apply (a : FVec Ideal S16384x2048 .f32) (w : FVec Ideal S4x2048x2048 .f32) (r : Fin 16384) (d : Fin 2048) :
    projected a w (ix2 r d) = ∑ k : Fin 2048, a (ix2 r k) * w (ix3 0 k d) := by
  pointwise [projected]

theorem scaled_apply (y : FVec Ideal S16384x2048 .f32) (g : FVec Ideal S4x2048 .f32) (r : Fin 16384) (d : Fin 2048) :
    scaled y g (ix2 r d) = OutProj.normed (fun e => y (ix2 r e)) (fun e => g (ix2 0 e)) d := by
  pointwise [scaled]
  rfl

/-- The attention at an element. -/
theorem attn_apply (h : FVec Ideal S16384x2048 .bf16) (wq : FVec Ideal S4x2048x2048 .f32) (kv : FVec Ideal S1024x4096 .bf16) (r : Fin 16384) (d : Fin 2048) :
    attn h wq kv (ix2 r d) = Mem.attendedRef (fun e => h (ix2 r e)) (fun e f => wq (ix3 0 e f))
      (fun j n => kv (ix2 ⟨r.val / 4096 * 256 + j.val, by omega⟩ n)) d := by
  have hr : r.val / 4096 * 4096 + r.val % 4096 = r.val := by omega
  have hd : 2048 + d.val / 512 * 512 + d.val % 512 = 2048 + d.val := by omega
  unfold attn Mem.attendedRef Mem.mean
  rw [heads_apply]
  refine Finset.sum_congr rfl fun j _ => ?_
  rw [values_apply, shares_apply]
  have hs : (fun i : Fin 256 => dots (queries h wq) (keys kv) (ix4 ⟨r.val / 4096, by omega⟩ ⟨d.val / 512, by omega⟩ ⟨r.val % 4096, by omega⟩ i))
      = Mem.scoreOut (fun e => h (ix2 r e)) (fun e f => wq (ix3 0 e (Mem.colOf d f))) fun i f => kv (ix2 ⟨r.val / 4096 * 256 + i.val, by omega⟩ (Mem.keyOf (Mem.colOf d f))) := by
    funext i
    rw [dots_apply]
    unfold Mem.scoreOut Mem.query
    refine congrArg (· * Mem.scale) (Finset.sum_congr rfl fun f _ => ?_)
    rw [queries_apply, keys_apply]
    simp only [hr]
    rfl
  simp only [weights_apply, hs, hd]
  rfl

/-- The first result at an element. -/
theorem passedRows_apply (h : FVec Ideal S16384x2048 .bf16) (wq : FVec Ideal S4x2048x2048 .f32) (kv : FVec Ideal S1024x4096 .bf16) (wo : FVec Ideal S4x2048x2048 .f32)
    (x : FVec Ideal S16384x2048 .f32) (g : FVec Ideal S4x2048 .f32) (r : Fin 16384) (d : Fin 2048) :
    passedRows h wq kv wo x g (ix2 r d) = OutProj.passed (fun k => attn h wq kv (ix2 r k)) (fun d => x (ix2 r d)) (fun k d => wo (ix3 0 k d))
      (fun d => g (ix2 0 d)) d := by
  unfold passedRows OutProj.passed
  rw [← funext fun e => projected_apply (attn h wq kv) wo r e]
  rw [← scaled_apply]
  rfl

/-- The second result at an element. -/
theorem ready_apply (h : FVec Ideal S16384x2048 .bf16) (wq : FVec Ideal S4x2048x2048 .f32) (kv : FVec Ideal S1024x4096 .bf16) (wo : FVec Ideal S4x2048x2048 .f32)
    (x : FVec Ideal S16384x2048 .f32) (g g' : FVec Ideal S4x2048 .f32) (r : Fin 16384) (d : Fin 2048) :
    scaled (passedRows h wq kv wo x g) g' (ix2 r d) = OutProj.ready (fun k => attn h wq kv (ix2 r k)) (fun d => x (ix2 r d)) (fun k d => wo (ix3 0 k d))
      (fun d => g (ix2 0 d)) (fun d => g' (ix2 0 d)) d := by
  rw [scaled_apply]
  unfold OutProj.ready
  rw [← funext fun e => passedRows_apply h wq kv wo x g r e]

end Cert.Proof.MemRef

end
-- ==== Proof.MemEquation.lean ====
/- The memory attention kernel's two result arrays over the extended reals are the reference's, of arguments whose scores are real. -/
module

public import proofs.«01_k».proof.Proof.Scored
public import proofs.«01_k».proof.Proof.MemBlock
public import proofs.«01_k».proof.Proof.MemTile
public import proofs.«01_k».proof.Proof.MemRef
public import proofs.«01_k».proof.Proof.Gen.Kernel5Ideal.Value
public import Idealize.ShloMosaic.Lib.Claim
public import Idealize.ShloMosaic.Lib.Pipeline.ValueKit.Point

@[expose] public section

set_option maxRecDepth 16384

noncomputable section

namespace Cert.Proof.Mem

open Idealize.ShloMosaic Idealize.ShloMosaic.TcCoe Idealize.ShloMosaic.Tactic
open Idealize.SL Idealize.SL.Sem
open Cert.Kernel5Ideal Cert.Kernel5Ideal.Gen

section

variable (m : (ℓ : Loc nD τ sig) → Buf (Elt Ideal) ℓ) (c : Dev nD)

/-- A row's attention, of the kernel's arguments. -/
def argRow (r : Fin 16384) : Fin 2048 → EReal := attended (argH m c r) (argQ m c) (argKV m c r)

/-- The rows passed on and the normalised ones, of the kernel's arguments, as arrays. -/
def passedArray : Vec Ideal S16384x2048 .f32 := fun y => OutProj.passed (argRow m c (y 0)) (argX m c (y 0)) (argO m c) (argG m c) (y 1)
def readyArray : Vec Ideal S16384x2048 .bf16 := fun y => OutProj.ready (argRow m c (y 0)) (argX m c (y 0)) (argO m c) (argG m c) (argN m c) (y 1)

theorem tileRow_eq (t : Fin cfg0.N) (p : Fin 512) (n : Fin 2048) : tileRow m c t p n = argRow m c (row t p) n := by
  have e1 : (fun e => iblk m c 0 t (ix2 p e)) = argH m c (row t p) := funext fun e => block_h m c t p e
  have e2 : (fun e f => iblk m c 1 t (ix3 0 e f)) = argQ m c := funext fun e => funext fun f => block_q m c t e f
  have e3 : (fun j f => iblk m c 2 t (ix2 j f)) = argKV m c (row t p) := funext fun j => funext fun f => block_kv m c t p j f
  unfold tileRow argRow
  rw [e1, e2, e3]

/-- The kernel's first array is the rows passed on. -/
theorem array0_eq : (dats m 0 c).arrAt 7 cfg0.N = passedArray m c := by
  refine (dats m 0 c).arrAt_eq_of_covers 7 _ (by decide +kernel) fun t hf y => ?_
  blk_simp
  rw [after0_7]
  obtain ⟨p, d, rfl⟩ : ∃ (p : Fin 512) (d : Fin 2048), y = (ix2 p d : S512x2048.Idx) := ⟨y 0, y 1, eq_ix2 y⟩
  refine (tile0_apply m c t p d).trans ?_
  have e : (win0_7.blk t).view.emb (ix2 p d) = (ix2 (row t p) d : S16384x2048.Idx) := by
    unfold row
    blk_ext [at_7 t]
  rw [e]
  exact OutProj.passed_congr d (tileRow_eq m c t p) (block_x m c t p) (block_o m c t) (block_g m c t)

/-- Its second array is those rows normalised. -/
theorem array1_eq : (dats m 0 c).arrAt 8 cfg0.N = readyArray m c := by
  refine (dats m 0 c).arrAt_eq_of_covers 8 _ (by decide +kernel) fun t hf y => ?_
  blk_simp
  rw [after0_8]
  obtain ⟨p, d, rfl⟩ : ∃ (p : Fin 512) (d : Fin 2048), y = (ix2 p d : S512x2048.Idx) := ⟨y 0, y 1, eq_ix2 y⟩
  refine (tile1_apply m c t p d).trans ?_
  have e : (win0_8.blk t).view.emb (ix2 p d) = (ix2 (row t p) d : S16384x2048.Idx) := by
    unfold row
    blk_ext [at_8 t]
  rw [e]
  exact OutProj.ready_congr d (tileRow_eq m c t p) (block_x m c t p) (block_o m c t) (block_g m c t) (block_n m c t)

variable [Cert.Pre_scored.Facts]

/-- With the precondition, a row's attention is the reference's. -/
theorem argRow_eq (hpre : Pre_Kernel5Ideal_scored m) (r : Fin 16384) (n : Fin 2048) :
    argRow m c r n = attendedRef (argH m c r) (argQ m c) (argKV m c r) n := by
  obtain ⟨p0, p1, p2⟩ := hpre c
  refine attended_eq (fun e => ?_) (fun e f => ?_) (fun j f => ?_) n
  · exact scored_h _ _ _ _ _ _ _ p0 r e
  · exact scored_w _ _ _ _ _ _ _ p1 e f
  · exact scored_k _ _ _ _ _ _ _ p2 (token r j) f

end

variable [Cert.Pre_scored.Facts]

/-- The reference's attention of memories with the same arguments. -/
theorem attn_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (hpre : Pre_Kernel5Ideal_scored m) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) (r : Fin 16384) (k : Fin 2048) :
    MemRef.attn (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2)) (ix2 r k) = argRow m c r k := by
  rw [argRow_eq m c hpre r k, MemRef.attn_apply, h0, h1, h2]
  rfl

/-- From memories with the same arguments: the first arrays are equal. -/
theorem result0_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (hpre : Pre_Kernel5Ideal_scored m) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) :
    Cert.Reference5Ideal.Value.res_out0 m' c = (dats m 0 c).arrAt 7 Cert.Kernel5Ideal.cfg0.N := by
  rw [array0_eq, MemRef.result0_eq]
  funext y
  obtain ⟨r, d, rfl⟩ : ∃ (r : Fin 16384) (d : Fin 2048), y = (ix2 r d : Cert.Kernel5Ideal.S16384x2048.Idx) := ⟨y 0, y 1, eq_ix2 y⟩
  refine (MemRef.passedRows_apply _ _ _ _ _ _ r d).trans ?_
  refine OutProj.passed_congr d (attn_eq m m' hpre c h0 h1 h2 h3 h4 h5 r) (fun k => ?_) (fun k e => ?_) (fun k => ?_)
  · rw [h4]; rfl
  · rw [h3]; rfl
  · rw [h5]; rfl

/-- From memories with the same arguments: the second arrays are equal. -/
theorem result1_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (hpre : Pre_Kernel5Ideal_scored m) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5))
    (h6 : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) :
    Cert.Reference5Ideal.Value.res_out1 m' c = (dats m 0 c).arrAt 8 Cert.Kernel5Ideal.cfg0.N := by
  rw [array1_eq, MemRef.result1_eq]
  funext y
  obtain ⟨r, d, rfl⟩ : ∃ (r : Fin 16384) (d : Fin 2048), y = (ix2 r d : Cert.Kernel5Ideal.S16384x2048.Idx) := ⟨y 0, y 1, eq_ix2 y⟩
  refine (MemRef.ready_apply _ _ _ _ _ _ _ r d).trans ?_
  refine OutProj.ready_congr d (attn_eq m m' hpre c h0 h1 h2 h3 h4 h5 r) (fun k => ?_) (fun k e => ?_) (fun k => ?_) (fun k => ?_)
  · rw [h4]; rfl
  · rw [h3]; rfl
  · rw [h5]; rfl
  · rw [h6]; rfl

end Cert.Proof.Mem

end
-- ==== Proof.Values.lean ====
/- The transposed values: the kernel's array over the extended reals is the reference's. -/
module

public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Claim
public import Idealize.ShloMosaic.Lib.Pointwise
public import Idealize.ShloMosaic.Lib.Pipeline.ValueKit.Point

@[expose] public section

set_option maxRecDepth 16384

noncomputable section

namespace Cert.Proof.ValuesRef

open Cert.Reference6Ideal Cert.Reference6Ideal.Gen Cert.Reference6Ideal.Value
open Idealize.ShloMosaic Idealize.ShloMosaic.TcCoe Idealize.SL.Sem

variable {F : FTy → Type} [FloatOps F]

/-- The reference's result: the product of the rows with the weights' rows, transposed. -/
def values (h : FVec F S16384x2048 .bf16) (w : FVec F S4x1024x2048 .bf16) : FVec F S1024x16384 .bf16 :=
  truncf .bf16 (transpose S1024x16384 [1, 0] (Host.dotGeneral dot_S16384x2048_S2048x1024_S16384x1024_1_0_0_1_n_n none (extf .f32 h bitsLt_bf16_f32) (extf .f32 (transpose S2048x1024 [1, 0] (shapeCast _ (extractStridedSlice S1x1024x2048 ![0, 0, 0] w slices_S4x1024x2048_S1x1024x2048_0_0_0) shapeCasts_S1x1024x2048_S1024x2048) transposes_S1024x2048_S2048x1024_1_0) bitsLt_bf16_f32)) transposes_S16384x1024_S1024x16384_1_0) bitsLt_bf16_f32

/-- The result at an element. -/
theorem values_apply (h : FVec Ideal S16384x2048 .bf16) (w : FVec Ideal S4x1024x2048 .bf16) (d : Fin 1024) (r : Fin 16384) :
    values h w (ix2 d r) = ∑ k : Fin 2048, h (ix2 r k) * w (ix3 0 d k) := by
  pointwise [values]

end Cert.Proof.ValuesRef

namespace Cert.Proof.Values

open Idealize.ShloMosaic Idealize.ShloMosaic.TcCoe Idealize.ShloMosaic.Tactic
open Idealize.SL Idealize.SL.Sem
open Cert.Kernel6Ideal Cert.Kernel6Ideal.Gen

/-! ### Where the blocks lie: point `t` is row tile `t / 2` of the rows, half `t % 2` of the values -/

theorem at_0 : ∀ t : Fin grid0.N, win0_0.index t = ![t.val / 2, 0] := by decide +kernel
theorem at_1 : ∀ t : Fin grid0.N, win0_1.index t = ![0, t.val % 2, 0] := by decide +kernel
theorem at_2 : ∀ t : Fin grid0.N, win0_2.index t = ![t.val % 2, t.val / 2] := by decide +kernel
theorem row_lt : ∀ t : Fin grid0.N, t.val < 32 := by decide +kernel

/-- The array's row of a tile's row, and its value of a tile's value. -/
def row (t : Fin grid0.N) (i : Fin 1024) : Fin 16384 := ⟨1024 * (t.val / 2) + i.val, by have := row_lt t; omega⟩
def col (t : Fin grid0.N) (d : Fin 512) : Fin 1024 := ⟨512 * (t.val % 2) + d.val, by omega⟩

variable (m : (ℓ : Loc nD τ sig) → Buf (Elt Ideal) ℓ) (c : Dev nD)

/-- The normed input and the first layer's weights. -/
def argH (r : Fin 16384) (k : Fin 2048) : EReal := m ((c.tc : Thread nD τ).loc main_arg0) (ix2 r k)
def argW (d : Fin 1024) (k : Fin 2048) : EReal := m ((c.tc : Thread nD τ).loc main_arg1) (ix3 0 d k)

theorem block_h (t : Fin grid0.N) (i : Fin 1024) (k : Fin 2048) : iblk m c 0 t (ix2 i k) = argH m c (row t i) k := by
  have h : iblk m c 0 t (ix2 i k) = V m c main_arg0 (ix2 (row t i) k) := by
    unfold row
    blk_ext [iblk, at_0 t]
  rw [h]; rfl

theorem block_w (t : Fin grid0.N) (d : Fin 512) (k : Fin 2048) : iblk m c 1 t (ix3 0 d k) = argW m c (col t d) k := by
  have h : iblk m c 1 t (ix3 0 d k) = V m c main_arg1 (ix3 0 (col t d) k) := by
    unfold col
    blk_ext [iblk, at_1 t]
  rw [h]; rfl

/-- An element of what the body stores, from the blocks. -/
theorem product_1 (w : Vec Ideal S1x512x2048 .bf16) (h : Vec Ideal S1024x2048 .bf16) (d : Fin 512) (p : Fin 1024) :
    k0_pay1 (F := Ideal) w h (ix2 d p) = ∑ k : Fin 2048, w (ix3 0 d k) * h (ix2 p k) := by
  pointwise [k0_pay1]

/-- An element of the tile, from the blocks. -/
theorem tile_apply (x0 : Vec Ideal S1024x2048 .bf16) (x1 : Vec Ideal S1x512x2048 .bf16) (d : Fin 512) (p : Fin 1024) :
    out0_2 (F := Ideal) x0 x1 (ix2 d p) = ∑ k : Fin 2048, x1 (ix3 0 d k) * x0 (ix2 p k) := by
  unfold out0_2
  canon_tiles x hx using (cover0_2 (F := Ideal) _ (ix2 d p))
  obtain ⟨d', p', rfl⟩ : ∃ d' p', x = ix2 d' p' := ⟨x 0, x 1, eq_ix2 x⟩
  simp only [ix2_0, ix2_1] at hx0 hx1
  rw [product_1]
  refine Finset.sum_congr rfl fun k _ => congrArg₂ _ ?_ ?_
  all_goals exact View.ld_unit_apply_of _ _ _ _ _ _ (by intro a; fin_cases a <;> simp [ix2, ix3] <;> omega)

/-- The transposed values of the kernel's arguments, as an array. -/
def valuesArray : Vec Ideal S1024x16384 .bf16 := fun y => ∑ k : Fin 2048, argH m c (y 1) k * argW m c (y 0) k

/-- The kernel's array is the transposed values. -/
theorem array_eq : (dats m 0 c).arrAt 2 cfg0.N = valuesArray m c := by
  refine (dats m 0 c).arrAt_eq_of_covers 2 _ (by decide +kernel) fun t hf y => ?_
  blk_simp
  rw [after0_2]
  obtain ⟨d, p, rfl⟩ : ∃ (d : Fin 512) (p : Fin 1024), y = (ix2 d p : S512x1024.Idx) := ⟨y 0, y 1, eq_ix2 y⟩
  refine (tile_apply _ _ d p).trans ?_
  have e : (win0_2.blk t).view.emb (ix2 d p) = (ix2 (col t d) (row t p) : S1024x16384.Idx) := by
    unfold row col
    blk_ext [at_2 t]
  rw [e]
  refine Finset.sum_congr rfl fun k _ => ?_
  rw [block_h, block_w, mul_comm]
  rfl

/-- From memories with the same arguments: the arrays are equal. -/
theorem result_eq (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) :
    ValuesRef.values (F := Ideal) (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1)) = (dats m 0 c).arrAt 2 Cert.Kernel6Ideal.cfg0.N := by
  rw [array_eq, h0, h1]
  funext y
  obtain ⟨d, r, rfl⟩ : ∃ (d : Fin 1024) (r : Fin 16384), y = (ix2 d r : Cert.Kernel6Ideal.S1024x16384.Idx) := ⟨y 0, y 1, eq_ix2 y⟩
  exact ValuesRef.values_apply _ _ d r

end Cert.Proof.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Run
public import proofs.«01_k».proof.Proof.Same
public import proofs.«01_k».proof.Proof.Gen.ReferenceIdeal
public import proofs.«01_k».proof.Proof.Gen.ReferenceIdeal.Run
public import proofs.«01_k».proof.Proof.Finite
public import proofs.«01_k».proof.Proof.Equation
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.FfnEquation
public import proofs.«01_k».proof.Proof.MergeEquation
public import proofs.«01_k».proof.Proof.OutProjEquation
public import proofs.«01_k».proof.Proof.Scored
public import proofs.«01_k».proof.Proof.MemEquation
public import proofs.«01_k».proof.Proof.Values
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The frame of the kernel as printed. -/
theorem frame_kernel : Cert.quiescent_Kernel := fun m ρ _ => by
  rw [defs_same]
  exact frame_run (F := Bits) m ρ

/-- The frame of the kernel at the ideal instance. -/
theorem frame_kernelIdeal : Cert.quiescent_KernelIdeal := fun m ρ _ =>
  (θ_run Cert.KernelIdeal.defs _ _).mono (fun _ h => h) (frame_run (F := Ideal) m ρ)

/-- The frame of the reference: its run, and no semaphore to leave a count on. -/
theorem frame_referenceIdeal : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- The kernel and the reference leave the same array. -/
theorem algebraic : Cert.algebraic_KernelIdeal_ReferenceIdeal_pre_finite (hPre_finite := finite_facts) := fun m g m' g' hpre hargs =>
  haveI := finite_facts
  ⟨fun c => (dats m 0 c).arrAt 5 Cert.KernelIdeal.cfg0.N,
    (θ_run Cert.KernelIdeal.defs _ _).mono (fun _ h c => ⟨h.1 c, h.2.1 c⟩) (θ_run_and (run_named (F := Ideal) m g) (frame_run (F := Ideal) m g)),
    (θ_run Cert.ReferenceIdeal.defs _ _).mono (fun _ h c => ⟨(h c).1.trans (by
      obtain ⟨h0, h1, h2, h3, h4, h5, h6⟩ := hargs c
      exact result_eq m m' hpre c h0 h1 h2 h3 h4 h5 h6), (h c).2⟩) (Cert.ReferenceIdeal.Value.run (F := Ideal) m' g')⟩

/-- The frame of the feed-forward kernel as printed. -/
theorem frame_kernel2 : Cert.quiescent_Kernel2 := fun m ρ _ => Cert.Kernel2.Gen.frame (F := Bits) m ρ

/-- The frame of the feed-forward kernel at the ideal instance. -/
theorem frame_kernel2Ideal : Cert.quiescent_Kernel2Ideal := fun m ρ _ => Cert.Kernel2Ideal.Gen.frame (F := Ideal) m ρ

/-- The frame of the feed-forward reference: its run, and no semaphore to leave a count on. -/
theorem frame_reference2Ideal : Cert.quiescent_Reference2Ideal := fun m ρ _ =>
  (θ_run Cert.Reference2Ideal.defs _ _).mono (fun _ h => ⟨fun c => (h c).2, sem_eq_zero_of_no_sems rfl _⟩)
    (Cert.Reference2Ideal.Value.run (F := Ideal) m ρ)

/-- The feed-forward kernel and its reference leave the same array. -/
theorem algebraic2 : Cert.algebraic_Kernel2Ideal_Reference2Ideal := fun m g m' g' _ hargs =>
  ⟨fun c => (Cert.Kernel2Ideal.Gen.dats m 0 c).arrAt 12 Cert.Kernel2Ideal.cfg0.N,
    (θ_run Cert.Kernel2Ideal.defs _ _).mono
      (fun r h c => ⟨Cert.Kernel2Ideal.Value.post12 (F := Ideal) m r h.1 c, h.2.1 c⟩)
      (θ_run_and (Cert.Kernel2Ideal.Gen.run_main (F := Ideal) m g) (Cert.Kernel2Ideal.Gen.frame (F := Ideal) m g)),
    (θ_run Cert.Reference2Ideal.defs _ _).mono (fun _ h c => ⟨(h c).1.trans (by
      obtain ⟨h0, h1, h2, h3, h4, h5, h6, _⟩ := hargs c
      exact Ffn.result_eq m m' c h0 h1 h2 h3 h4 h5 h6), (h c).2⟩) (Cert.Reference2Ideal.Value.run (F := Ideal) m' g')⟩

/-- The frame of the branch merge kernel as printed. -/
theorem frame_kernel3 : Cert.quiescent_Kernel3 := fun m ρ _ => Cert.Kernel3.Gen.frame (F := Bits) m ρ

/-- The frame of the branch merge kernel at the ideal instance. -/
theorem frame_kernel3Ideal : Cert.quiescent_Kernel3Ideal := fun m ρ _ => Cert.Kernel3Ideal.Gen.frame (F := Ideal) m ρ

/-- The frame of the branch merge reference: its run, and no semaphore to leave a count on. -/
theorem frame_reference3Ideal : Cert.quiescent_Reference3Ideal := fun m ρ _ =>
  (θ_run Cert.Reference3Ideal.defs _ _).mono (fun _ h => ⟨fun c => (h c).2, sem_eq_zero_of_no_sems rfl _⟩)
    (Cert.Reference3Ideal.Value.run (F := Ideal) m ρ)

/-- The branch merge kernel and its reference leave the same array. -/
theorem algebraic3 : Cert.algebraic_Kernel3Ideal_Reference3Ideal := fun m g m' g' _ hargs =>
  ⟨fun c => (Cert.Kernel3Ideal.Gen.dats m 0 c).arrAt 9 Cert.Kernel3Ideal.cfg0.N,
    (θ_run Cert.Kernel3Ideal.defs _ _).mono
      (fun r h c => ⟨Cert.Kernel3Ideal.Value.post9 (F := Ideal) m r h.1 c, h.2.1 c⟩)
      (θ_run_and (Cert.Kernel3Ideal.Gen.run_main (F := Ideal) m g) (Cert.Kernel3Ideal.Gen.frame (F := Ideal) m g)),
    (θ_run Cert.Reference3Ideal.defs _ _).mono (fun _ h c => ⟨(h c).1.trans (by
      obtain ⟨h0, h1, h2, h3, h4, h5, h6⟩ := hargs c
      exact Merge.result_eq m m' c h0 h1 h2 h3 h4 h5 h6), (h c).2⟩) (Cert.Reference3Ideal.Value.run (F := Ideal) m' g')⟩

/-- The frame of the output projection kernel as printed. -/
theorem frame_kernel4 : Cert.quiescent_Kernel4 := fun m ρ _ => Cert.Kernel4.Gen.frame (F := Bits) m ρ

/-- The frame of the output projection kernel at the ideal instance. -/
theorem frame_kernel4Ideal : Cert.quiescent_Kernel4Ideal := fun m ρ _ => Cert.Kernel4Ideal.Gen.frame (F := Ideal) m ρ

/-- The frame of the output projection reference: its run, and no semaphore to leave a count on. -/
theorem frame_reference4Ideal : Cert.quiescent_Reference4Ideal := fun m ρ _ =>
  (θ_run Cert.Reference4Ideal.defs _ _).mono (fun _ h => ⟨fun c => (h c).2.2, sem_eq_zero_of_no_sems rfl _⟩)
    (Cert.Reference4Ideal.Value.run (F := Ideal) m ρ)

/-- The output projection kernel and its reference leave the same two arrays. -/
theorem algebraic4 : Cert.algebraic_Kernel4Ideal_Reference4Ideal := fun m g m' g' _ hargs =>
  ⟨fun c => (Cert.Kernel4Ideal.Gen.dats m 0 c).arrAt 5 Cert.Kernel4Ideal.cfg0.N,
    fun c => (Cert.Kernel4Ideal.Gen.dats m 0 c).arrAt 6 Cert.Kernel4Ideal.cfg0.N,
    (θ_run Cert.Kernel4Ideal.defs _ _).mono
      (fun r h c => ⟨Cert.Kernel4Ideal.Value.post5 (F := Ideal) m r h.1 c, Cert.Kernel4Ideal.Value.post6 (F := Ideal) m r h.1 c, h.2.1 c⟩)
      (θ_run_and (Cert.Kernel4Ideal.Gen.run_main (F := Ideal) m g) (Cert.Kernel4Ideal.Gen.frame (F := Ideal) m g)),
    (θ_run Cert.Reference4Ideal.defs _ _).mono (fun _ h c => ⟨(h c).1.trans (by
      obtain ⟨h0, h1, h2, h3, h4⟩ := hargs c
      exact OutProj.result0_eq m m' c h0 h1 h2 h3), (h c).2.1.trans (by
      obtain ⟨h0, h1, h2, h3, h4⟩ := hargs c
      exact OutProj.result1_eq m m' c h0 h1 h2 h3 h4), (h c).2.2⟩) (Cert.Reference4Ideal.Value.run (F := Ideal) m' g')⟩

/-- The frame of the memory attention kernel as printed. -/
theorem frame_kernel5 : Cert.quiescent_Kernel5 := fun m ρ _ => Cert.Kernel5.Gen.frame (F := Bits) m ρ

/-- The frame of the memory attention kernel at the ideal instance. -/
theorem frame_kernel5Ideal : Cert.quiescent_Kernel5Ideal := fun m ρ _ => Cert.Kernel5Ideal.Gen.frame (F := Ideal) m ρ

/-- The frame of the memory attention reference: its run, and no semaphore to leave a count on. -/
theorem frame_reference5Ideal : Cert.quiescent_Reference5Ideal := fun m ρ _ =>
  (θ_run Cert.Reference5Ideal.defs _ _).mono (fun _ h => ⟨fun c => (h c).2.2, sem_eq_zero_of_no_sems rfl _⟩)
    (Cert.Reference5Ideal.Value.run (F := Ideal) m ρ)

/-- The memory attention kernel and its reference leave the same two arrays. -/
theorem algebraic5 : Cert.algebraic_Kernel5Ideal_Reference5Ideal_pre_scored (hPre_scored := scored_facts) := fun m g m' g' hpre hargs =>
  haveI := scored_facts
  ⟨fun c => (Cert.Kernel5Ideal.Gen.dats m 0 c).arrAt 7 Cert.Kernel5Ideal.cfg0.N,
    fun c => (Cert.Kernel5Ideal.Gen.dats m 0 c).arrAt 8 Cert.Kernel5Ideal.cfg0.N,
    (θ_run Cert.Kernel5Ideal.defs _ _).mono
      (fun r h c => ⟨Cert.Kernel5Ideal.Value.post7 (F := Ideal) m r h.1 c, Cert.Kernel5Ideal.Value.post8 (F := Ideal) m r h.1 c, h.2.1 c⟩)
      (θ_run_and (Cert.Kernel5Ideal.Gen.run_main (F := Ideal) m g) (Cert.Kernel5Ideal.Gen.frame (F := Ideal) m g)),
    (θ_run Cert.Reference5Ideal.defs _ _).mono (fun _ h c => ⟨(h c).1.trans (by
      obtain ⟨h0, h1, h2, h3, h4, h5, h6⟩ := hargs c
      exact Mem.result0_eq m m' hpre c h0 h1 h2 h3 h4 h5), (h c).2.1.trans (by
      obtain ⟨h0, h1, h2, h3, h4, h5, h6⟩ := hargs c
      exact Mem.result1_eq m m' hpre c h0 h1 h2 h3 h4 h5 h6), (h c).2.2⟩) (Cert.Reference5Ideal.Value.run (F := Ideal) m' g')⟩

/-- The frame of the value projection kernel as printed. -/
theorem frame_kernel6 : Cert.quiescent_Kernel6 := fun m ρ _ => Cert.Kernel6.Gen.frame (F := Bits) m ρ

/-- The frame of the value projection kernel at the ideal instance. -/
theorem frame_kernel6Ideal : Cert.quiescent_Kernel6Ideal := fun m ρ _ => Cert.Kernel6Ideal.Gen.frame (F := Ideal) m ρ

/-- The frame of the value projection reference: its run, and no semaphore to leave a count on. -/
theorem frame_reference6Ideal : Cert.quiescent_Reference6Ideal := fun m ρ _ =>
  (θ_run Cert.Reference6Ideal.defs _ _).mono (fun _ h => ⟨fun c => (h c).2, sem_eq_zero_of_no_sems rfl _⟩)
    (Cert.Reference6Ideal.Value.run (F := Ideal) m ρ)

/-- The value projection kernel and its reference leave the same array. -/
theorem algebraic6 : Cert.algebraic_Kernel6Ideal_Reference6Ideal := fun m g m' g' _ hargs =>
  ⟨fun c => (Cert.Kernel6Ideal.Gen.dats m 0 c).arrAt 2 Cert.Kernel6Ideal.cfg0.N,
    (θ_run Cert.Kernel6Ideal.defs _ _).mono
      (fun r h c => ⟨Cert.Kernel6Ideal.Value.post2 (F := Ideal) m r h.1 c, h.2.1 c⟩)
      (θ_run_and (Cert.Kernel6Ideal.Gen.run_main (F := Ideal) m g) (Cert.Kernel6Ideal.Gen.frame (F := Ideal) m g)),
    (θ_run Cert.Reference6Ideal.defs _ _).mono (fun _ h c => ⟨(h c).1.trans (by
      obtain ⟨h0, h1⟩ := hargs c
      exact Values.result_eq m m' c h0 h1), (h c).2⟩) (Cert.Reference6Ideal.Value.run (F := Ideal) m' g')⟩

/-- The certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, finite_facts, scored_facts,
  frame_kernel, frame_kernelIdeal, fun m ρ _ => frame_kernelIdeal m ρ trivial, frame_referenceIdeal,
  fun m ρ _ => frame_referenceIdeal m ρ trivial, frame_kernel2, frame_kernel2Ideal, frame_reference2Ideal,
  frame_kernel3, frame_kernel3Ideal, frame_reference3Ideal, frame_kernel4, frame_kernel4Ideal, frame_reference4Ideal,
  frame_kernel5, frame_kernel5Ideal, fun m ρ _ => frame_kernel5Ideal m ρ trivial, frame_reference5Ideal,
  fun m ρ _ => frame_reference5Ideal m ρ trivial, frame_kernel6, frame_kernel6Ideal, frame_reference6Ideal,
  trivial, algebraic, trivial, algebraic2, trivial, algebraic3, trivial, algebraic4, trivial, algebraic5, trivial, algebraic6⟩

end Cert.Proof

end
